-- ==== Defs.lean ====
def Pre_Kernel [hPre_ids_name_rays : Cert.Pre_ids_name_rays.Facts] (m : (ℓ : Loc Cert.Kernel.nD Cert.Kernel.τ Cert.Kernel.sig) → Buf (Elt Bits) ℓ) : Prop :=
  ∀ c : Dev Cert.Kernel.nD,
    (Cert.Pre_ids_name_rays.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_ids_name_rays : Cert.Pre_ids_name_rays.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_KernelIdeal_ids_and_scales [hPre_ids_and_scales : Cert.Pre_ids_and_scales.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_scales [hPre_ids_and_scales : Cert.Pre_ids_and_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_ids_name_rays : Cert.Pre_ids_name_rays.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_ids_name_rays : Cert.Pre_ids_name_rays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_ids_and_scales [hKernelIdeal : Cert.KernelIdeal.Facts] [hPre_ids_and_scales : Cert.Pre_ids_and_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_ids_and_scales [hReferenceIdeal : Cert.ReferenceIdeal.Facts] [hPre_ids_and_scales : Cert.Pre_ids_and_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_on_claimed_pre_ids_and_scales [hKernelIdeal : Cert.KernelIdeal.Facts] [hReferenceIdeal : Cert.ReferenceIdeal.Facts] [hPre_ids_and_scales : Cert.Pre_ids_and_scales.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v185_0)) (v1 : (c : Dev Cert.KernelIdeal.nD) → Buf (Elt Ideal) ((c.tc : Thread Cert.KernelIdeal.nD Cert.KernelIdeal.τ).loc Cert.KernelIdeal.main_v185_1)) (v2 : (c : Dev Cert.KernelIdeal.nD) → Buf (Elt Ideal) ((c.tc : Thread Cert.KernelIdeal.nD Cert.KernelIdeal.τ).loc Cert.KernelIdeal.main_v185_2)) (v3 : (c : Dev Cert.KernelIdeal.nD) → Buf (Elt Ideal) ((c.tc : Thread Cert.KernelIdeal.nD Cert.KernelIdeal.τ).loc Cert.KernelIdeal.main_v185_3)) (v4 : (c : Dev Cert.KernelIdeal.nD) → Buf (Elt Ideal) ((c.tc : Thread Cert.KernelIdeal.nD Cert.KernelIdeal.τ).loc Cert.KernelIdeal.main_v185_4)) (v5 : (c : Dev Cert.KernelIdeal.nD) → Buf (Elt Ideal) ((c.tc : Thread Cert.KernelIdeal.nD Cert.KernelIdeal.τ).loc Cert.KernelIdeal.main_v185_5)) (v6 : (c : Dev Cert.KernelIdeal.nD) → Buf (Elt Ideal) ((c.tc : Thread Cert.KernelIdeal.nD Cert.KernelIdeal.τ).loc Cert.KernelIdeal.main_v185_6)) (v7 : (c : Dev Cert.KernelIdeal.nD) → Buf (Elt Ideal) ((c.tc : Thread Cert.KernelIdeal.nD Cert.KernelIdeal.τ).loc Cert.KernelIdeal.main_v185_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8, 12288]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.KernelIdeal.nD Cert.KernelIdeal.τ).loc Cert.KernelIdeal.main_v185_0) i = v0 c i)
          ∧ (∀ i : (⟨1, ![454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.KernelIdeal.nD Cert.KernelIdeal.τ).loc Cert.KernelIdeal.main_v185_1) i = v1 c i)
          ∧ (∀ i : (⟨1, ![454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.KernelIdeal.nD Cert.KernelIdeal.τ).loc Cert.KernelIdeal.main_v185_2) i = v2 c i)
          ∧ (∀ i : (⟨2, ![10, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.KernelIdeal.nD Cert.KernelIdeal.τ).loc Cert.KernelIdeal.main_v185_3) i = v3 c i)
          ∧ (∀ i : (⟨2, ![63, 454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.KernelIdeal.nD Cert.KernelIdeal.τ).loc Cert.KernelIdeal.main_v185_4) i = v4 c i)
          ∧ (∀ i : (⟨2, ![454656, 256]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 i = 1#1 → r.2.mem ((c.tc : Thread Cert.KernelIdeal.nD Cert.KernelIdeal.τ).loc Cert.KernelIdeal.main_v185_5) i = v5 c i)
          ∧ (∀ i : (⟨2, ![30, 454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 i = 1#1 → r.2.mem ((c.tc : Thread Cert.KernelIdeal.nD Cert.KernelIdeal.τ).loc Cert.KernelIdeal.main_v185_6) i = v6 c i)
          ∧ (∀ i : (⟨2, ![12, 12288]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2 i = 1#1 → r.2.mem ((c.tc : Thread Cert.KernelIdeal.nD Cert.KernelIdeal.τ).loc Cert.KernelIdeal.main_v185_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8, 12288]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.ReferenceIdeal.nD Cert.ReferenceIdeal.τ).loc Cert.ReferenceIdeal.main_v28) i = v0 c i)
          ∧ (∀ i : (⟨1, ![454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.ReferenceIdeal.nD Cert.ReferenceIdeal.τ).loc Cert.ReferenceIdeal.main_v96_2) i = v1 c i)
          ∧ (∀ i : (⟨1, ![454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.ReferenceIdeal.nD Cert.ReferenceIdeal.τ).loc Cert.ReferenceIdeal.main_v29) i = v2 c i)
          ∧ (∀ i : (⟨2, ![10, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.ReferenceIdeal.nD Cert.ReferenceIdeal.τ).loc Cert.ReferenceIdeal.main_v30) i = v3 c i)
          ∧ (∀ i : (⟨2, ![63, 454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.ReferenceIdeal.nD Cert.ReferenceIdeal.τ).loc Cert.ReferenceIdeal.main_v96_0) i = v4 c i)
          ∧ (∀ i : (⟨2, ![454656, 256]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 i = 1#1 → r.2.mem ((c.tc : Thread Cert.ReferenceIdeal.nD Cert.ReferenceIdeal.τ).loc Cert.ReferenceIdeal.main_v96_1) i = v5 c i)
          ∧ (∀ i : (⟨2, ![30, 454650]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 i = 1#1 → r.2.mem ((c.tc : Thread Cert.ReferenceIdeal.nD Cert.ReferenceIdeal.τ).loc Cert.ReferenceIdeal.main_v25) i = v6 c i)
          ∧ (∀ i : (⟨2, ![12, 12288]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2 i = 1#1 → r.2.mem ((c.tc : Thread Cert.ReferenceIdeal.nD Cert.ReferenceIdeal.τ).loc Cert.ReferenceIdeal.main_v27) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_ids_name_rays : Cert.Pre_ids_name_rays.Facts) (hPre_ids_and_scales : Cert.Pre_ids_and_scales.Facts) (hOn_claimed : Cert.On_claimed.Facts),
    quiescent_Kernel (hKernel := hKernel) (hPre_ids_name_rays := hPre_ids_name_rays)
    ∧ quiescent_KernelIdeal (hKernelIdeal := hKernelIdeal) (hPre_ids_name_rays := hPre_ids_name_rays)
    ∧ quiescent_KernelIdeal_pre_ids_and_scales (hKernelIdeal := hKernelIdeal) (hPre_ids_and_scales := hPre_ids_and_scales)
    ∧ quiescent_ReferenceIdeal (hReferenceIdeal := hReferenceIdeal)
    ∧ quiescent_ReferenceIdeal_pre_ids_and_scales (hReferenceIdeal := hReferenceIdeal) (hPre_ids_and_scales := hPre_ids_and_scales)
    ∧ preserves_Kernel_KernelIdeal
    ∧ algebraic_KernelIdeal_ReferenceIdeal_on_claimed_pre_ids_and_scales (hKernelIdeal := hKernelIdeal) (hReferenceIdeal := hReferenceIdeal) (hPre_ids_and_scales := hPre_ids_and_scales) (hOn_claimed := hOn_claimed)
-- ==== On_claimed.lean ====
abbrev S454650x3 : Shape := ⟨2, ![454650, 3]⟩
abbrev S12288x3 : Shape := ⟨2, ![12288, 3]⟩
abbrev S454650 : Shape := ⟨1, ![454650]⟩
abbrev S12289 : Shape := ⟨1, ![12289]⟩
abbrev S63x256 : Shape := ⟨2, ![63, 256]⟩
abbrev S7x256x256 : Shape := ⟨3, ![7, 256, 256]⟩
abbrev S256x257 : Shape := ⟨2, ![256, 257]⟩
abbrev S256x128 : Shape := ⟨2, ![256, 128]⟩
abbrev S27x128 : Shape := ⟨2, ![27, 128]⟩
abbrev S128x3 : Shape := ⟨2, ![128, 3]⟩
abbrev S13 : Shape := ⟨1, ![13]⟩
abbrev S256 : Shape := ⟨1, ![256]⟩
abbrev S7x256 : Shape := ⟨2, ![7, 256]⟩
abbrev S257 : Shape := ⟨1, ![257]⟩
abbrev S128 : Shape := ⟨1, ![128]⟩
abbrev S3 : Shape := ⟨1, ![3]⟩
abbrev S12 : Shape := ⟨1, ![12]⟩
abbrev S454656x256 : Shape := ⟨2, ![454656, 256]⟩
abbrev S_ : Shape := ⟨0, ![]⟩
abbrev S8x12288 : Shape := ⟨2, ![8, 12288]⟩
abbrev S10x128 : Shape := ⟨2, ![10, 128]⟩
abbrev S63x454650 : Shape := ⟨2, ![63, 454650]⟩
abbrev S30x454650 : Shape := ⟨2, ![30, 454650]⟩
abbrev S12x12288 : Shape := ⟨2, ![12, 12288]⟩

class Facts : Prop where
  bcast_S_S454656x256 : S_.BroadcastsInDim S454656x256 (![] : Fin 0 → Fin S454656x256.rank)
  bcast_S_S8x12288 : S_.BroadcastsInDim S8x12288 (![] : Fin 0 → Fin S8x12288.rank)
  bcast_S_S454650 : S_.BroadcastsInDim S454650 (![] : Fin 0 → Fin S454650.rank)
  bcast_S_S10x128 : S_.BroadcastsInDim S10x128 (![] : Fin 0 → Fin S10x128.rank)
  bcast_S_S63x454650 : S_.BroadcastsInDim S63x454650 (![] : Fin 0 → Fin S63x454650.rank)
  bcast_S_S30x454650 : S_.BroadcastsInDim S30x454650 (![] : Fin 0 → Fin S30x454650.rank)
  bcast_S_S12x12288 : S_.BroadcastsInDim S12x12288 (![] : Fin 0 → Fin S12x12288.rank)

variable [Facts]

def fn {F : FTy → Type} [FloatOps F] (main_arg0 : FVec F S454650x3 .f32) (main_arg1 : FVec F S12288x3 .f32) (main_arg2 : FVec F S454650 .f32) (main_arg3 : IVec S12289 32) (main_arg4 : IVec S454650 32) (main_arg5 : FVec F S63x256 .fp8e4m3) (main_arg6 : FVec F S7x256x256 .fp8e4m3) (main_arg7 : FVec F S63x256 .fp8e4m3) (main_arg8 : FVec F S256x257 .fp8e4m3) (main_arg9 : FVec F S256x128 .fp8e4m3) (main_arg10 : FVec F S27x128 .fp8e4m3) (main_arg11 : FVec F S128x3 .fp8e4m3) (main_arg12 : FVec F S13 .f32) (main_arg13 : FVec F S256 .f32) (main_arg14 : FVec F S7x256 .f32) (main_arg15 : FVec F S257 .f32) (main_arg16 : FVec F S128 .f32) (main_arg17 : FVec F S3 .f32) (main_arg18 : FVec F S12 .f32) : IVec S8x12288 1 × IVec S454650 1 × IVec S454650 1 × IVec S10x128 1 × IVec S63x454650 1 × IVec S454656x256 1 × IVec S30x454650 1 × IVec S12x12288 1 :=
  let main_v0 : IVec S454656x256 32 := iotaInDim S454656x256 32 0
  let main_c : IVec S_ 32 := constantI S_ 32 454650#32
  let main_v1 : IVec S454656x256 32 := broadcastInDim S454656x256 ![] bcast_S_S454656x256 main_c
  let main_v2 : IVec S454656x256 1 := cmpi .slt main_v0 main_v1
  let main_c_0 : IVec S_ 1 := constantI S_ 1 0#1
  let main_v3 : IVec S8x12288 1 := broadcastInDim S8x12288 ![] bcast_S_S8x12288 main_c_0
  let main_c_1 : IVec S_ 1 := constantI S_ 1 1#1
  let main_v4 : IVec S454650 1 := broadcastInDim S454650 ![] bcast_S_S454650 main_c_1
  let main_c_2 : IVec S_ 1 := constantI S_ 1 0#1
  let main_v5 : IVec S454650 1 := broadcastInDim S454650 ![] bcast_S_S454650 main_c_2
  let main_c_3 : IVec S_ 1 := constantI S_ 1 0#1
  let main_v6 : IVec S10x128 1 := broadcastInDim S10x128 ![] bcast_S_S10x128 main_c_3
  let main_c_4 : IVec S_ 1 := constantI S_ 1 1#1
  let main_v7 : IVec S63x454650 1 := broadcastInDim S63x454650 ![] bcast_S_S63x454650 main_c_4
  let main_c_5 : IVec S_ 1 := constantI S_ 1 1#1
  let main_v8 : IVec S30x454650 1 := broadcastInDim S30x454650 ![] bcast_S_S30x454650 main_c_5
  let main_c_6 : IVec S_ 1 := constantI S_ 1 0#1
  let main_v9 : IVec S12x12288 1 := broadcastInDim S12x12288 ![] bcast_S_S12x12288 main_c_6
  (main_v3, main_v4, main_v5, main_v6, main_v7, main_v2, main_v8, main_v9)
-- ==== Pre_ids_and_scales.lean ====
abbrev S454650x3 : Shape := ⟨2, ![454650, 3]⟩
abbrev S12288x3 : Shape := ⟨2, ![12288, 3]⟩
abbrev S454650 : Shape := ⟨1, ![454650]⟩
abbrev S12289 : Shape := ⟨1, ![12289]⟩
abbrev S63x256 : Shape := ⟨2, ![63, 256]⟩
abbrev S7x256x256 : Shape := ⟨3, ![7, 256, 256]⟩
abbrev S256x257 : Shape := ⟨2, ![256, 257]⟩
abbrev S256x128 : Shape := ⟨2, ![256, 128]⟩
abbrev S27x128 : Shape := ⟨2, ![27, 128]⟩
abbrev S128x3 : Shape := ⟨2, ![128, 3]⟩
abbrev S13 : Shape := ⟨1, ![13]⟩
abbrev S256 : Shape := ⟨1, ![256]⟩
abbrev S7x256 : Shape := ⟨2, ![7, 256]⟩
abbrev S257 : Shape := ⟨1, ![257]⟩
abbrev S128 : Shape := ⟨1, ![128]⟩
abbrev S3 : Shape := ⟨1, ![3]⟩
abbrev S12 : Shape := ⟨1, ![12]⟩
abbrev S454650x1 : Shape := ⟨2, ![454650, 1]⟩
abbrev S_ : Shape := ⟨0, ![]⟩
abbrev S1 : Shape := ⟨1, ![1]⟩
abbrev S1x1 : Shape := ⟨2, ![1, 1]⟩
abbrev S8 : Shape := ⟨1, ![8]⟩
abbrev S1x8 : Shape := ⟨2, ![1, 8]⟩
abbrev S454650x8 : Shape := ⟨2, ![454650, 8]⟩

class Facts : Prop where
  bcast_S454650_S454650x1_0 : S454650.BroadcastsInDim S454650x1 (![0] : Fin 1 → Fin S454650x1.rank)
  bcast_S_S454650x1 : S_.BroadcastsInDim S454650x1 (![] : Fin 0 → Fin S454650x1.rank)
  slices_S12_S1_0 : S12.Slices ![0] S1
  bcast_S1_S1x1_1 : S1.BroadcastsInDim S1x1 (![1] : Fin 1 → Fin S1x1.rank)
  bcast_S_S1x1 : S_.BroadcastsInDim S1x1 (![] : Fin 0 → Fin S1x1.rank)
  bcast_S1x1_S454650x1_0_1 : S1x1.BroadcastsInDim S454650x1 (![0, 1] : Fin 2 → Fin S454650x1.rank)
  slices_S12_S8_1 : S12.Slices ![1] S8
  bcast_S8_S1x8_1 : S8.BroadcastsInDim S1x8 (![1] : Fin 1 → Fin S1x8.rank)
  bcast_S_S1x8 : S_.BroadcastsInDim S1x8 (![] : Fin 0 → Fin S1x8.rank)
  bcast_S454650x1_S454650x8_0_1 : S454650x1.BroadcastsInDim S454650x8 (![0, 1] : Fin 2 → Fin S454650x8.rank)
  bcast_S1x8_S454650x8_0_1 : S1x8.BroadcastsInDim S454650x8 (![0, 1] : Fin 2 → Fin S454650x8.rank)

variable [Facts]

def fn {F : FTy → Type} [FloatOps F] (main_arg0 : FVec F S454650x3 .f32) (main_arg1 : FVec F S12288x3 .f32) (main_arg2 : FVec F S454650 .f32) (main_arg3 : IVec S12289 32) (main_arg4 : IVec S454650 32) (main_arg5 : FVec F S63x256 .fp8e4m3) (main_arg6 : FVec F S7x256x256 .fp8e4m3) (main_arg7 : FVec F S63x256 .fp8e4m3) (main_arg8 : FVec F S256x257 .fp8e4m3) (main_arg9 : FVec F S256x128 .fp8e4m3) (main_arg10 : FVec F S27x128 .fp8e4m3) (main_arg11 : FVec F S128x3 .fp8e4m3) (main_arg12 : FVec F S13 .f32) (main_arg13 : FVec F S256 .f32) (main_arg14 : FVec F S7x256 .f32) (main_arg15 : FVec F S257 .f32) (main_arg16 : FVec F S128 .f32) (main_arg17 : FVec F S3 .f32) (main_arg18 : FVec F S12 .f32) : IVec S454650x8 1 :=
  let main_v0 : IVec S454650x1 32 := broadcastInDim S454650x1 ![0] bcast_S454650_S454650x1_0 main_arg4
  let main_c : IVec S_ 32 := constantI S_ 32 0#32
  let main_v1 : IVec S454650x1 32 := broadcastInDim S454650x1 ![] bcast_S_S454650x1 main_c
  let main_v2 : IVec S454650x1 1 := cmpi .sge main_v0 main_v1
  let main_v3 : IVec S454650x1 32 := broadcastInDim S454650x1 ![0] bcast_S454650_S454650x1_0 main_arg4
  let main_c_0 : IVec S_ 32 := constantI S_ 32 12288#32
  let main_v4 : IVec S454650x1 32 := broadcastInDim S454650x1 ![] bcast_S_S454650x1 main_c_0
  let main_v5 : IVec S454650x1 1 := cmpi .slt main_v3 main_v4
  let main_v6 : IVec S454650x1 1 := andi main_v2 main_v5
  let main_v7 : FVec F S1 .f32 := (extractStridedSlice S1 ![0] · slices_S12_S1_0) main_arg18
  let main_v8 : FVec F S1x1 .f32 := broadcastInDim S1x1 ![1] bcast_S1_S1x1_1 main_v7
  let main_cst : FVec F S_ .f32 := constant S_ .f32 0x00000000#32
  let main_v9 : FVec F S1x1 .f32 := broadcastInDim S1x1 ![] bcast_S_S1x1 main_cst
  let main_v10 : IVec S1x1 1 := cmpf .une main_v8 main_v9
  let main_v11 : IVec S454650x1 1 := broadcastInDim S454650x1 ![0, 1] bcast_S1x1_S454650x1_0_1 main_v10
  let main_v12 : IVec S454650x1 1 := andi main_v6 main_v11
  let main_v13 : FVec F S8 .f32 := (extractStridedSlice S8 ![1] · slices_S12_S8_1) main_arg18
  let main_v14 : FVec F S1x8 .f32 := broadcastInDim S1x8 ![1] bcast_S8_S1x8_1 main_v13
  let main_cst_1 : FVec F S_ .f32 := constant S_ .f32 0x00000000#32
  let main_v15 : FVec F S1x8 .f32 := broadcastInDim S1x8 ![] bcast_S_S1x8 main_cst_1
  let main_v16 : IVec S1x8 1 := cmpf .ogt main_v14 main_v15
  let main_v17 : IVec S454650x8 1 := broadcastInDim S454650x8 ![0, 1] bcast_S454650x1_S454650x8_0_1 main_v12
  let main_v18 : IVec S454650x8 1 := broadcastInDim S454650x8 ![0, 1] bcast_S1x8_S454650x8_0_1 main_v16
  let main_v19 : IVec S454650x8 1 := andi main_v17 main_v18
  main_v19
-- ==== Pre_ids_name_rays.lean ====
abbrev S454650x3 : Shape := ⟨2, ![454650, 3]⟩
abbrev S12288x3 : Shape := ⟨2, ![12288, 3]⟩
abbrev S454650 : Shape := ⟨1, ![454650]⟩
abbrev S12289 : Shape := ⟨1, ![12289]⟩
abbrev S63x256 : Shape := ⟨2, ![63, 256]⟩
abbrev S7x256x256 : Shape := ⟨3, ![7, 256, 256]⟩
abbrev S256x257 : Shape := ⟨2, ![256, 257]⟩
abbrev S256x128 : Shape := ⟨2, ![256, 128]⟩
abbrev S27x128 : Shape := ⟨2, ![27, 128]⟩
abbrev S128x3 : Shape := ⟨2, ![128, 3]⟩
abbrev S13 : Shape := ⟨1, ![13]⟩
abbrev S256 : Shape := ⟨1, ![256]⟩
abbrev S7x256 : Shape := ⟨2, ![7, 256]⟩
abbrev S257 : Shape := ⟨1, ![257]⟩
abbrev S128 : Shape := ⟨1, ![128]⟩
abbrev S3 : Shape := ⟨1, ![3]⟩
abbrev S12 : Shape := ⟨1, ![12]⟩
abbrev S_ : Shape := ⟨0, ![]⟩

class Facts : Prop where
  bcast_S_S454650 : S_.BroadcastsInDim S454650 (![] : Fin 0 → Fin S454650.rank)

variable [Facts]

def fn {F : FTy → Type} [FloatOps F] (main_arg0 : FVec F S454650x3 .f32) (main_arg1 : FVec F S12288x3 .f32) (main_arg2 : FVec F S454650 .f32) (main_arg3 : IVec S12289 32) (main_arg4 : IVec S454650 32) (main_arg5 : FVec F S63x256 .fp8e4m3) (main_arg6 : FVec F S7x256x256 .fp8e4m3) (main_arg7 : FVec F S63x256 .fp8e4m3) (main_arg8 : FVec F S256x257 .fp8e4m3) (main_arg9 : FVec F S256x128 .fp8e4m3) (main_arg10 : FVec F S27x128 .fp8e4m3) (main_arg11 : FVec F S128x3 .fp8e4m3) (main_arg12 : FVec F S13 .f32) (main_arg13 : FVec F S256 .f32) (main_arg14 : FVec F S7x256 .f32) (main_arg15 : FVec F S257 .f32) (main_arg16 : FVec F S128 .f32) (main_arg17 : FVec F S3 .f32) (main_arg18 : FVec F S12 .f32) : IVec S454650 1 :=
  let main_c : IVec S_ 32 := constantI S_ 32 0#32
  let main_v0 : IVec S454650 32 := broadcastInDim S454650 ![] bcast_S_S454650 main_c
  let main_v1 : IVec S454650 1 := cmpi .sge main_arg4 main_v0
  let main_c_0 : IVec S_ 32 := constantI S_ 32 12288#32
  let main_v2 : IVec S454650 32 := broadcastInDim S454650 ![] bcast_S_S454650 main_c_0
  let main_v3 : IVec S454650 1 := cmpi .slt main_arg4 main_v2
  let main_v4 : IVec S454650 1 := andi main_v1 main_v3
  main_v4
-- ==== Kernel.lean ====
abbrev S454650x3 : Shape := ⟨2, ![454650, 3]⟩
abbrev S12288x3 : Shape := ⟨2, ![12288, 3]⟩
abbrev S454650 : Shape := ⟨1, ![454650]⟩
abbrev S12289 : Shape := ⟨1, ![12289]⟩
abbrev S63x256 : Shape := ⟨2, ![63, 256]⟩
abbrev S7x256x256 : Shape := ⟨3, ![7, 256, 256]⟩
abbrev S256x257 : Shape := ⟨2, ![256, 257]⟩
abbrev S256x128 : Shape := ⟨2, ![256, 128]⟩
abbrev S27x128 : Shape := ⟨2, ![27, 128]⟩
abbrev S128x3 : Shape := ⟨2, ![128, 3]⟩
abbrev S13 : Shape := ⟨1, ![13]⟩
abbrev S256 : Shape := ⟨1, ![256]⟩
abbrev S7x256 : Shape := ⟨2, ![7, 256]⟩
abbrev S257 : Shape := ⟨1, ![257]⟩
abbrev S128 : Shape := ⟨1, ![128]⟩
abbrev S3 : Shape := ⟨1, ![3]⟩
abbrev S12 : Shape := ⟨1, ![12]⟩
abbrev S_ : Shape := ⟨0, ![]⟩
abbrev S1 : Shape := ⟨1, ![1]⟩
abbrev S16 : Shape := ⟨1, ![16]⟩
abbrev S2 : Shape := ⟨1, ![2]⟩
abbrev S18 : Shape := ⟨1, ![18]⟩
abbrev S1x256 : Shape := ⟨2, ![1, 256]⟩
abbrev S7 : Shape := ⟨1, ![7]⟩
abbrev S7x1 : Shape := ⟨2, ![7, 1]⟩
abbrev S6x256 : Shape := ⟨2, ![6, 256]⟩
abbrev S16x256 : Shape := ⟨2, ![16, 256]⟩
abbrev S8 : Shape := ⟨1, ![8]⟩
abbrev S8x1 : Shape := ⟨2, ![8, 1]⟩
abbrev S8x128 : Shape := ⟨2, ![8, 128]⟩
abbrev S257x256 : Shape := ⟨2, ![257, 256]⟩
abbrev S32x256 : Shape := ⟨2, ![32, 256]⟩
abbrev S3x128 : Shape := ⟨2, ![3, 128]⟩
abbrev S222 : Shape := ⟨1, ![222]⟩
abbrev S222x1 : Shape := ⟨2, ![222, 1]⟩
abbrev S3x454650 : Shape := ⟨2, ![3, 454650]⟩
abbrev S3x12288 : Shape := ⟨2, ![3, 12288]⟩
abbrev S256x256 : Shape := ⟨2, ![256, 256]⟩
abbrev S8x12288 : Shape := ⟨2, ![8, 12288]⟩
abbrev S10x128 : Shape := ⟨2, ![10, 128]⟩
abbrev S63x454650 : Shape := ⟨2, ![63, 454650]⟩
abbrev S454656x256 : Shape := ⟨2, ![454656, 256]⟩
abbrev S30x454650 : Shape := ⟨2, ![30, 454650]⟩
abbrev S12x12288 : Shape := ⟨2, ![12, 12288]⟩
abbrev S3x2048 : Shape := ⟨2, ![3, 2048]⟩
abbrev S2048 : Shape := ⟨1, ![2048]⟩
abbrev S63x2048 : Shape := ⟨2, ![63, 2048]⟩
abbrev S2048x256 : Shape := ⟨2, ![2048, 256]⟩
abbrev S30x2048 : Shape := ⟨2, ![30, 2048]⟩
abbrev S10x8x256 : Shape := ⟨3, ![10, 8, 256]⟩
abbrev S98x32x128 : Shape := ⟨3, ![98, 32, 128]⟩
abbrev S98x8x128 : Shape := ⟨3, ![98, 8, 128]⟩
abbrev S32x2048 : Shape := ⟨2, ![32, 2048]⟩
abbrev S16x128 : Shape := ⟨2, ![16, 128]⟩
abbrev S12x128 : Shape := ⟨2, ![12, 128]⟩
abbrev S1x128 : Shape := ⟨2, ![1, 128]⟩
abbrev S32x128 : Shape := ⟨2, ![32, 128]⟩
abbrev S1x32x128 : Shape := ⟨3, ![1, 32, 128]⟩
abbrev S3x1 : Shape := ⟨2, ![3, 1]⟩
abbrev S1x2048 : Shape := ⟨2, ![1, 2048]⟩
abbrev S64x2048 : Shape := ⟨2, ![64, 2048]⟩
abbrev S128x128 : Shape := ⟨2, ![128, 128]⟩
abbrev S128x2048 : Shape := ⟨2, ![128, 2048]⟩
abbrev S2048x128 : Shape := ⟨2, ![2048, 128]⟩
abbrev S65x256 : Shape := ⟨2, ![65, 256]⟩
abbrev S128x256 : Shape := ⟨2, ![128, 256]⟩
abbrev S64x128 : Shape := ⟨2, ![64, 128]⟩
abbrev S37x128 : Shape := ⟨2, ![37, 128]⟩
abbrev S29x128 : Shape := ⟨2, ![29, 128]⟩
abbrev S32x8x256 : Shape := ⟨3, ![32, 8, 256]⟩
abbrev S8x256 : Shape := ⟨2, ![8, 256]⟩
abbrev S1x256x256 : Shape := ⟨3, ![1, 256, 256]⟩
abbrev S32x8x128 : Shape := ⟨3, ![32, 8, 128]⟩
abbrev S1x8x256 : Shape := ⟨3, ![1, 8, 256]⟩
abbrev S1x8x128 : Shape := ⟨3, ![1, 8, 128]⟩
abbrev S8x2048 : Shape := ⟨2, ![8, 2048]⟩
abbrev S1x1 : Shape := ⟨2, ![1, 1]⟩
abbrev S10x256 : Shape := ⟨2, ![10, 256]⟩
abbrev S10 : Shape := ⟨1, ![10]⟩
abbrev S10x1 : Shape := ⟨2, ![10, 1]⟩

abbrev nBuf : Space → Nat
  | .hbm => 225
  | .vmem => 37
  | .smem => 3
  | _ => 0

abbrev hbmTy0_0 (i : Nat) : BufTy := match i % 128 with
  | 0 => ⟨S454650x3, .f32⟩
  | 1 => ⟨S12288x3, .f32⟩
  | 2 => ⟨S454650, .f32⟩
  | 3 => ⟨S12289, .i32⟩
  | 4 => ⟨S454650, .i32⟩
  | 5 => ⟨S63x256, .fp8e4m3⟩
  | 6 => ⟨S7x256x256, .fp8e4m3⟩
  | 7 => ⟨S63x256, .fp8e4m3⟩
  | 8 => ⟨S256x257, .fp8e4m3⟩
  | 9 => ⟨S256x128, .fp8e4m3⟩
  | 10 => ⟨S27x128, .fp8e4m3⟩
  | 11 => ⟨S128x3, .fp8e4m3⟩
  | 12 => ⟨S13, .f32⟩
  | 13 => ⟨S256, .f32⟩
  | 14 => ⟨S7x256, .f32⟩
  | 15 => ⟨S257, .f32⟩
  | 16 => ⟨S128, .f32⟩
  | 17 => ⟨S3, .f32⟩
  | 18 => ⟨S12, .f32⟩
  | 19 => ⟨S_, .f32⟩
  | 20 => ⟨S12, .f32⟩
  | 21 => ⟨S12, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S_, .f32⟩
  | 31 => ⟨S1, .f32⟩
  | 32 => ⟨S_, .f32⟩
  | 33 => ⟨S_, .f32⟩
  | 34 => ⟨S1, .f32⟩
  | 35 => ⟨S_, .f32⟩
  | 36 => ⟨S1, .f32⟩
  | 37 => ⟨S_, .f32⟩
  | 38 => ⟨S_, .f32⟩
  | 39 => ⟨S1, .f32⟩
  | 40 => ⟨S_, .f32⟩
  | 41 => ⟨S_, .f32⟩
  | 42 => ⟨S1, .f32⟩
  | 43 => ⟨S_, .f32⟩
  | 44 => ⟨S1, .f32⟩
  | 45 => ⟨S_, .f32⟩
  | 46 => ⟨S_, .f32⟩
  | 47 => ⟨S1, .f32⟩
  | 48 => ⟨S_, .f32⟩
  | 49 => ⟨S_, .f32⟩
  | 50 => ⟨S1, .f32⟩
  | 51 => ⟨S_, .f32⟩
  | 52 => ⟨S1, .f32⟩
  | 53 => ⟨S_, .f32⟩
  | 54 => ⟨S_, .f32⟩
  | 55 => ⟨S1, .f32⟩
  | 56 => ⟨S_, .f32⟩
  | 57 => ⟨S_, .f32⟩
  | 58 => ⟨S1, .f32⟩
  | 59 => ⟨S_, .f32⟩
  | 60 => ⟨S1, .f32⟩
  | 61 => ⟨S_, .f32⟩
  | 62 => ⟨S_, .f32⟩
  | 63 => ⟨S1, .f32⟩
  | 64 => ⟨S_, .f32⟩
  | 65 => ⟨S_, .f32⟩
  | 66 => ⟨S1, .f32⟩
  | 67 => ⟨S_, .f32⟩
  | 68 => ⟨S1, .f32⟩
  | 69 => ⟨S_, .f32⟩
  | 70 => ⟨S_, .f32⟩
  | 71 => ⟨S1, .f32⟩
  | 72 => ⟨S_, .f32⟩
  | 73 => ⟨S_, .f32⟩
  | 74 => ⟨S1, .f32⟩
  | 75 => ⟨S_, .f32⟩
  | 76 => ⟨S1, .f32⟩
  | 77 => ⟨S_, .f32⟩
  | 78 => ⟨S_, .f32⟩
  | 79 => ⟨S1, .f32⟩
  | 80 => ⟨S_, .f32⟩
  | 81 => ⟨S_, .f32⟩
  | 82 => ⟨S1, .f32⟩
  | 83 => ⟨S_, .f32⟩
  | 84 => ⟨S1, .f32⟩
  | 85 => ⟨S_, .f32⟩
  | 86 => ⟨S_, .f32⟩
  | 87 => ⟨S1, .f32⟩
  | 88 => ⟨S_, .f32⟩
  | 89 => ⟨S_, .f32⟩
  | 90 => ⟨S1, .f32⟩
  | 91 => ⟨S_, .f32⟩
  | 92 => ⟨S1, .f32⟩
  | 93 => ⟨S_, .f32⟩
  | 94 => ⟨S_, .f32⟩
  | 95 => ⟨S1, .f32⟩
  | 96 => ⟨S_, .f32⟩
  | 97 => ⟨S_, .f32⟩
  | 98 => ⟨S1, .f32⟩
  | 99 => ⟨S_, .f32⟩
  | 100 => ⟨S1, .f32⟩
  | 101 => ⟨S_, .f32⟩
  | 102 => ⟨S_, .f32⟩
  | 103 => ⟨S1, .f32⟩
  | 104 => ⟨S_, .f32⟩
  | 105 => ⟨S_, .f32⟩
  | 106 => ⟨S1, .f32⟩
  | 107 => ⟨S_, .f32⟩
  | 108 => ⟨S1, .f32⟩
  | 109 => ⟨S_, .f32⟩
  | 110 => ⟨S_, .f32⟩
  | 111 => ⟨S1, .f32⟩
  | 112 => ⟨S_, .f32⟩
  | 113 => ⟨S_, .f32⟩
  | 114 => ⟨S1, .f32⟩
  | 115 => ⟨S_, .f32⟩
  | 116 => ⟨S1, .f32⟩
  | 117 => ⟨S_, .f32⟩
  | 118 => ⟨S_, .f32⟩
  | 119 => ⟨S1, .f32⟩
  | 120 => ⟨S_, .f32⟩
  | 121 => ⟨S_, .f32⟩
  | 122 => ⟨S1, .f32⟩
  | 123 => ⟨S_, .f32⟩
  | 124 => ⟨S1, .f32⟩
  | 125 => ⟨S_, .f32⟩
  | 126 => ⟨S_, .f32⟩
  | 127 => ⟨S1, .f32⟩
  | _ => ⟨S454650x3, .f32⟩

abbrev hbmTy0_1 (i : Nat) : BufTy := match i % 128 with
  | 0 => ⟨S_, .f32⟩
  | 1 => ⟨S1, .f32⟩
  | 2 => ⟨S_, .f32⟩
  | 3 => ⟨S1, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S1, .f32⟩
  | 14 => ⟨S1, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S1, .f32⟩
  | 25 => ⟨S16, .f32⟩
  | 26 => ⟨S2, .f32⟩
  | 27 => ⟨S18, .f32⟩
  | 28 => ⟨S1x256, .f32⟩
  | 29 => ⟨S1, .f32⟩
  | 30 => ⟨S_, .f32⟩
  | 31 => ⟨S1x256, .f32⟩
  | 32 => ⟨S1x256, .f32⟩
  | 33 => ⟨S7, .f32⟩
  | 34 => ⟨S7x1, .f32⟩
  | 35 => ⟨S7x256, .f32⟩
  | 36 => ⟨S7x256, .f32⟩
  | 37 => ⟨S256, .f32⟩
  | 38 => ⟨S1x256, .f32⟩
  | 39 => ⟨S1, .f32⟩
  | 40 => ⟨S_, .f32⟩
  | 41 => ⟨S1x256, .f32⟩
  | 42 => ⟨S1x256, .f32⟩
  | 43 => ⟨S_, .i32⟩
  | 44 => ⟨S_, .f32⟩
  | 45 => ⟨S256, .f32⟩
  | 46 => ⟨S1x256, .f32⟩
  | 47 => ⟨S1, .f32⟩
  | 48 => ⟨S_, .f32⟩
  | 49 => ⟨S1x256, .f32⟩
  | 50 => ⟨S1x256, .f32⟩
  | 51 => ⟨S_, .f32⟩
  | 52 => ⟨S6x256, .f32⟩
  | 53 => ⟨S16x256, .f32⟩
  | 54 => ⟨S_, .i32⟩
  | 55 => ⟨S_, .f32⟩
  | 56 => ⟨S8, .f32⟩
  | 57 => ⟨S8x1, .f32⟩
  | 58 => ⟨S8x128, .f32⟩
  | 59 => ⟨S257x256, .fp8e4m3⟩
  | 60 => ⟨S1x256, .fp8e4m3⟩
  | 61 => ⟨S32x256, .fp8e4m3⟩
  | 62 => ⟨S3x128, .fp8e4m3⟩
  | 63 => ⟨S222, .i32⟩
  | 64 => ⟨S222, .i32⟩
  | 65 => ⟨S_, .i32⟩
  | 66 => ⟨S222, .i32⟩
  | 67 => ⟨S222, .i32⟩
  | 68 => ⟨S_, .i32⟩
  | 69 => ⟨S222, .i32⟩
  | 70 => ⟨S222, .i32⟩
  | 71 => ⟨S_, .i32⟩
  | 72 => ⟨S222, .i32⟩
  | 73 => ⟨S222, .i32⟩
  | 74 => ⟨S_, .i32⟩
  | 75 => ⟨S222, .i32⟩
  | 76 => ⟨S222, .i32⟩
  | 77 => ⟨S_, .i32⟩
  | 78 => ⟨S222, .i32⟩
  | 79 => ⟨S222, .i1⟩
  | 80 => ⟨S_, .i32⟩
  | 81 => ⟨S222, .i32⟩
  | 82 => ⟨S222, .i32⟩
  | 83 => ⟨S222, .i32⟩
  | 84 => ⟨S222x1, .i32⟩
  | 85 => ⟨S222, .i32⟩
  | 86 => ⟨S3x454650, .f32⟩
  | 87 => ⟨S3x12288, .f32⟩
  | 88 => ⟨S256x256, .fp8e4m3⟩
  | 89 => ⟨S8x12288, .f32⟩
  | 90 => ⟨S454650, .f32⟩
  | 91 => ⟨S454650, .f32⟩
  | 92 => ⟨S10x128, .f32⟩
  | 93 => ⟨S63x454650, .fp8e4m3⟩
  | 94 => ⟨S454656x256, .fp8e4m3⟩
  | 95 => ⟨S30x454650, .f32⟩
  | 96 => ⟨S12x12288, .f32⟩
  | _ => ⟨S454650x3, .f32⟩

abbrev hbmTy (i : Nat) : BufTy := match i / 128 with
  | 0 => hbmTy0_0 i
  | 1 => hbmTy0_1 i
  | _ => ⟨S454650x3, .f32⟩

abbrev bufTy : (tb : Table) → Fin (tcTables nBuf tb) → BufTy
  | .hbm, ⟨i, _⟩ => hbmTy i
  | .local _ .vmem, ⟨0, _⟩ => ⟨S3x2048, .f32⟩
  | .local _ .vmem, ⟨1, _⟩ => ⟨S3x2048, .f32⟩
  | .local _ .vmem, ⟨2, _⟩ => ⟨S2048, .f32⟩
  | .local _ .vmem, ⟨3, _⟩ => ⟨S2048, .f32⟩
  | .local _ .vmem, ⟨4, _⟩ => ⟨S2048, .i32⟩
  | .local _ .vmem, ⟨5, _⟩ => ⟨S2048, .i32⟩
  | .local _ .vmem, ⟨6, _⟩ => ⟨S3x12288, .f32⟩
  | .local _ .vmem, ⟨7, _⟩ => ⟨S63x256, .fp8e4m3⟩
  | .local _ .vmem, ⟨8, _⟩ => ⟨S7x256x256, .fp8e4m3⟩
  | .local _ .vmem, ⟨9, _⟩ => ⟨S63x256, .fp8e4m3⟩
  | .local _ .vmem, ⟨10, _⟩ => ⟨S256x256, .fp8e4m3⟩
  | .local _ .vmem, ⟨11, _⟩ => ⟨S32x256, .fp8e4m3⟩
  | .local _ .vmem, ⟨12, _⟩ => ⟨S256x128, .fp8e4m3⟩
  | .local _ .vmem, ⟨13, _⟩ => ⟨S27x128, .fp8e4m3⟩
  | .local _ .vmem, ⟨14, _⟩ => ⟨S3x128, .fp8e4m3⟩
  | .local _ .vmem, ⟨15, _⟩ => ⟨S16x256, .f32⟩
  | .local _ .vmem, ⟨16, _⟩ => ⟨S8x128, .f32⟩
  | .local _ .vmem, ⟨17, _⟩ => ⟨S8x12288, .f32⟩
  | .local _ .vmem, ⟨18, _⟩ => ⟨S2048, .f32⟩
  | .local _ .vmem, ⟨19, _⟩ => ⟨S2048, .f32⟩
  | .local _ .vmem, ⟨20, _⟩ => ⟨S2048, .f32⟩
  | .local _ .vmem, ⟨21, _⟩ => ⟨S2048, .f32⟩
  | .local _ .vmem, ⟨22, _⟩ => ⟨S10x128, .f32⟩
  | .local _ .vmem, ⟨23, _⟩ => ⟨S63x2048, .fp8e4m3⟩
  | .local _ .vmem, ⟨24, _⟩ => ⟨S63x2048, .fp8e4m3⟩
  | .local _ .vmem, ⟨25, _⟩ => ⟨S2048x256, .fp8e4m3⟩
  | .local _ .vmem, ⟨26, _⟩ => ⟨S2048x256, .fp8e4m3⟩
  | .local _ .vmem, ⟨27, _⟩ => ⟨S30x2048, .f32⟩
  | .local _ .vmem, ⟨28, _⟩ => ⟨S30x2048, .f32⟩
  | .local _ .vmem, ⟨29, _⟩ => ⟨S12x12288, .f32⟩
  | .local _ .vmem, ⟨30, _⟩ => ⟨S10x8x256, .f32⟩
  | .local _ .vmem, ⟨31, _⟩ => ⟨S98x32x128, .f32⟩
  | .local _ .vmem, ⟨32, _⟩ => ⟨S98x8x128, .f32⟩
  | .local _ .vmem, ⟨33, _⟩ => ⟨S8x128, .f32⟩
  | .local _ .vmem, ⟨34, _⟩ => ⟨S8x128, .i32⟩
  | .local _ .vmem, ⟨35, _⟩ => ⟨S32x2048, .f32⟩
  | .local _ .vmem, ⟨36, _⟩ => ⟨S16x128, .f32⟩
  | .local _ .smem, ⟨0, _⟩ => ⟨S222, .i32⟩
  | .local _ .smem, ⟨1, _⟩ => ⟨S222, .i32⟩
  | .local _ .smem, ⟨2, _⟩ => ⟨S18, .f32⟩
  | _, _ => ⟨S454650x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_0 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_c : Ref sig .tc := ⟨.hbm, 171, rfl⟩
abbrev main_call0_v0 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_cst_1 : Ref sig .tc := ⟨.hbm, 179, rfl⟩
abbrev main_v156 : Ref sig .tc := ⟨.hbm, 180, rfl⟩
abbrev main_v157 : Ref sig .tc := ⟨.hbm, 181, rfl⟩
abbrev main_c_2 : Ref sig .tc := ⟨.hbm, 182, rfl⟩
abbrev main_call1_v0 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_c_3 : Ref sig .tc := ⟨.hbm, 193, rfl⟩
abbrev main_v167 : Ref sig .tc := ⟨.hbm, 194, rfl⟩
abbrev main_v168 : Ref sig .tc := ⟨.hbm, 195, rfl⟩
abbrev main_c_4 : Ref sig .tc := ⟨.hbm, 196, rfl⟩
abbrev main_v169 : Ref sig .tc := ⟨.hbm, 197, rfl⟩
abbrev main_v170 : Ref sig .tc := ⟨.hbm, 198, rfl⟩
abbrev main_c_5 : Ref sig .tc := ⟨.hbm, 199, rfl⟩
abbrev main_v171 : Ref sig .tc := ⟨.hbm, 200, rfl⟩
abbrev main_v172 : Ref sig .tc := ⟨.hbm, 201, rfl⟩
abbrev main_c_6 : Ref sig .tc := ⟨.hbm, 202, rfl⟩
abbrev main_v173 : Ref sig .tc := ⟨.hbm, 203, rfl⟩
abbrev main_v174 : Ref sig .tc := ⟨.hbm, 204, rfl⟩
abbrev main_c_7 : Ref sig .tc := ⟨.hbm, 205, rfl⟩
abbrev main_v175 : Ref sig .tc := ⟨.hbm, 206, rfl⟩
abbrev main_v176 : Ref sig .tc := ⟨.hbm, 207, rfl⟩
abbrev main_c_8 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185_0 : Ref sig .tc := ⟨.hbm, 217, rfl⟩
abbrev main_v185_1 : Ref sig .tc := ⟨.hbm, 218, rfl⟩
abbrev main_v185_2 : Ref sig .tc := ⟨.hbm, 219, rfl⟩
abbrev main_v185_3 : Ref sig .tc := ⟨.hbm, 220, rfl⟩
abbrev main_v185_4 : Ref sig .tc := ⟨.hbm, 221, rfl⟩
abbrev main_v185_5 : Ref sig .tc := ⟨.hbm, 222, rfl⟩
abbrev main_v185_6 : Ref sig .tc := ⟨.hbm, 223, rfl⟩
abbrev main_v185_7 : Ref sig .tc := ⟨.hbm, 224, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32

abbrev nD : Nat := 1
abbrev τ : Topo := Topo.v7x

variable {F : FTy → Type} [FloatOps F]

abbrev grid0 : Pipeline.Grid := ⟨1, ![222], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1491 : BitVec 32 := 0#32
  let c96_i32 : BitVec 32 := 96#32
  let v3181 : BitVec 32 := Scalar.addi c0_i32_1491 c96_i32
  let c1_i32_1492 : BitVec 32 := 1#32
  ⟨c0_i32_1491, v3181, c1_i32_1492⟩
def k0_mult1 (k0_t1 : Fin k0_t1_loop.trips) : BitVec 32 :=
  let c0_i32_1491 : BitVec 32 := 0#32
  let c1_i32_1492 : BitVec 32 := 1#32
  let arg33 : BitVec 32 := Scf.iv c0_i32_1491 c1_i32_1492 k0_t1
  let c128_i32_1494 : BitVec 32 := 128#32
  let v3182 : BitVec 32 := Scalar.muli arg33 c128_i32_1494
  v3182
def k0_off1 (k0_t1 : Fin k0_t1_loop.trips) : Fin 2 → Nat :=
  let c0_1495 : Index := 0#32
  let c0_i32_1491 : BitVec 32 := 0#32
  let c1_i32_1492 : BitVec 32 := 1#32
  let arg33 : BitVec 32 := Scf.iv c0_i32_1491 c1_i32_1492 k0_t1
  let c128_i32_1494 : BitVec 32 := 128#32
  let v3182 : BitVec 32 := Scalar.muli arg33 c128_i32_1494
  let v3183 : BitVec 32 := v3182
  let v3184 : Index := Scalar.indexCast v3183
  ![0, v3184.toNat]
def k0_mult2 (k0_t1 : Fin k0_t1_loop.trips) : BitVec 32 :=
  let c0_i32_1491 : BitVec 32 := 0#32
  let c1_i32_1492 : BitVec 32 := 1#32
  let arg33 : BitVec 32 := Scf.iv c0_i32_1491 c1_i32_1492 k0_t1
  let c128_i32_1515 : BitVec 32 := 128#32
  let v3256 : BitVec 32 := Scalar.muli arg33 c128_i32_1515
  v3256
def k0_off2 (k0_t1 : Fin k0_t1_loop.trips) : Fin 2 → Nat :=
  let c0_1516 : Index := 0#32
  let c0_i32_1491 : BitVec 32 := 0#32
  let c1_i32_1492 : BitVec 32 := 1#32
  let arg33 : BitVec 32 := Scf.iv c0_i32_1491 c1_i32_1492 k0_t1
  let c128_i32_1515 : BitVec 32 := 128#32
  let v3256 : BitVec 32 := Scalar.muli arg33 c128_i32_1515
  let v3257 : BitVec 32 := v3256
  let v3258 : Index := Scalar.indexCast v3257
  ![0, v3258.toNat]
def k0_off3 (k0_t1 : Fin k0_t1_loop.trips) : Fin 3 → Nat :=
  let c0_i32_1491 : BitVec 32 := 0#32
  let c1_i32_1492 : BitVec 32 := 1#32
  let arg33 : BitVec 32 := Scf.iv c0_i32_1491 c1_i32_1492 k0_t1
  let v3395 : Index := Scalar.indexCast arg33
  let c0_1560 : Index := 0#32
  let c0_1561 : Index := 0#32
  ![v3395.toNat, 0, 0]
def k0_off4 (i : grid0.Coords) : Fin 1 → Nat :=
  let arg0 : BitVec 32 := BitVec.ofNat 32 (i 0).val
  let v19 : Index := Scalar.indexCast arg0
  ![v19.toNat]
def k0_off5 (v20 : BitVec 32) : Fin 3 → Nat :=
  let c0_i32_98 : BitVec 32 := 0#32
  let v356 : BitVec 1 := Scalar.cmpi .sgt v20 c0_i32_98
  let v357 : BitVec 32 := Scalar.extui v356
  let c0_i32_99 : BitVec 32 := 0#32
  let v358 : BitVec 1 := Scalar.cmpi .slt v20 c0_i32_99
  let v359 : BitVec 32 := Scalar.extui v358
  let v360 : BitVec 32 := Scalar.subi v357 v359
  let c128_i32_97 : BitVec 32 := 128#32
  let c0_i32_100 : BitVec 32 := 0#32
  let v361 : BitVec 1 := Scalar.cmpi .sgt c128_i32_97 c0_i32_100
  let v362 : BitVec 32 := Scalar.extui v361
  let c0_i32_101 : BitVec 32 := 0#32
  let v363 : BitVec 1 := Scalar.cmpi .slt c128_i32_97 c0_i32_101
  let v364 : BitVec 32 := Scalar.extui v363
  let v365 : BitVec 32 := Scalar.subi v362 v364
  let v366 : BitVec 1 := Scalar.cmpi .ne v360 v365
  let v367 : BitVec 32 := Scalar.remsi v20 c128_i32_97
  let c0_i32_102 : BitVec 32 := 0#32
  let v368 : BitVec 1 := Scalar.cmpi .ne v367 c0_i32_102
  let v369 : BitVec 1 := Scalar.andi v366 v368
  let v355 : BitVec 32 := Scalar.divsi v20 c128_i32_97
  let c1_i32_103 : BitVec 32 := 1#32
  let v370 : BitVec 32 := Scalar.subi v355 c1_i32_103
  let v371 : BitVec 32 := Scalar.select v369 v370 v355
  let v378 : Index := Scalar.indexCast v371
  let c0_108 : Index := 0#32
  let c0_109 : Index := 0#32
  ![v378.toNat, 0, 0]

def k0_off6 (v20 : BitVec 32) : Fin 3 → Nat :=
  let c0_i32_98 : BitVec 32 := 0#32
  let v356 : BitVec 1 := Scalar.cmpi .sgt v20 c0_i32_98
  let v357 : BitVec 32 := Scalar.extui v356
  let c0_i32_99 : BitVec 32 := 0#32
  let v358 : BitVec 1 := Scalar.cmpi .slt v20 c0_i32_99
  let v359 : BitVec 32 := Scalar.extui v358
  let v360 : BitVec 32 := Scalar.subi v357 v359
  let c128_i32_97 : BitVec 32 := 128#32
  let c0_i32_100 : BitVec 32 := 0#32
  let v361 : BitVec 1 := Scalar.cmpi .sgt c128_i32_97 c0_i32_100
  let v362 : BitVec 32 := Scalar.extui v361
  let c0_i32_101 : BitVec 32 := 0#32
  let v363 : BitVec 1 := Scalar.cmpi .slt c128_i32_97 c0_i32_101
  let v364 : BitVec 32 := Scalar.extui v363
  let v365 : BitVec 32 := Scalar.subi v362 v364
  let v366 : BitVec 1 := Scalar.cmpi .ne v360 v365
  let v367 : BitVec 32 := Scalar.remsi v20 c128_i32_97
  let c0_i32_102 : BitVec 32 := 0#32
  let v368 : BitVec 1 := Scalar.cmpi .ne v367 c0_i32_102
  let v369 : BitVec 1 := Scalar.andi v366 v368
  let v355 : BitVec 32 := Scalar.divsi v20 c128_i32_97
  let c1_i32_103 : BitVec 32 := 1#32
  let v370 : BitVec 32 := Scalar.subi v355 c1_i32_103
  let v371 : BitVec 32 := Scalar.select v369 v370 v355
  let c1_i32_110 : BitVec 32 := 1#32
  let v382 : BitVec 32 := Scalar.addi v371 c1_i32_110
  let v383 : Index := Scalar.indexCast v382
  let c0_111 : Index := 0#32
  let c0_112 : Index := 0#32
  ![v383.toNat, 0, 0]
def k0_off7 (i : grid0.Coords) : Fin 1 → Nat :=
  let arg0 : BitVec 32 := BitVec.ofNat 32 (i 0).val
  let v393 : Index := Scalar.indexCast arg0
  ![v393.toNat]
@[reducible] def k0_t2_loop (v20 : BitVec 32) (v394 : BitVec 32) : Scf.Loop 32 :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1478 : BitVec 32 := 1#32
  ⟨c1_i32_1475, v3166, c1_i32_1478⟩
def k0_cond2 (v20 : BitVec 32) (v394 : BitVec 32) : BitVec 1 :=
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c0_i32_124 : BitVec 32 := 0#32
  let v416 : BitVec 1 := Scalar.cmpi .sgt v412 c0_i32_124
  let v417 : BitVec 32 := Scalar.extui v416
  let c0_i32_125 : BitVec 32 := 0#32
  let v418 : BitVec 1 := Scalar.cmpi .ne v417 c0_i32_125
  v418

def k0_off8 (v20 : BitVec 32) (v394 : BitVec 32) (k0_t2 : Fin (k0_t2_loop v20 v394).trips) : Fin 3 → Nat :=
  let c1_i32_1475 : BitVec 32 := 1#32
  let c1_i32_1478 : BitVec 32 := 1#32
  let arg33 : BitVec 32 := Scf.iv c1_i32_1475 c1_i32_1478 k0_t2
  let c128_i32_1480 : BitVec 32 := 128#32
  let v3169 : BitVec 32 := Scalar.muli arg33 c128_i32_1480
  let v3170 : BitVec 32 := Scalar.addi v20 v3169
  let c0_i32_1484 : BitVec 32 := 0#32
  let v3173 : BitVec 1 := Scalar.cmpi .sgt v3170 c0_i32_1484
  let v3174 : BitVec 32 := Scalar.extui v3173
  let c0_i32_1485 : BitVec 32 := 0#32
  let v3175 : BitVec 1 := Scalar.cmpi .slt v3170 c0_i32_1485
  let v3176 : BitVec 32 := Scalar.extui v3175
  let v3177 : BitVec 32 := Scalar.subi v3174 v3176
  let c128_i32_1483 : BitVec 32 := 128#32
  let c0_i32_1486 : BitVec 32 := 0#32
  let v3178 : BitVec 1 := Scalar.cmpi .sgt c128_i32_1483 c0_i32_1486
  let v3179 : BitVec 32 := Scalar.extui v3178
  let c0_i32_1487 : BitVec 32 := 0#32
  let v3180 : BitVec 1 := Scalar.cmpi .slt c128_i32_1483 c0_i32_1487
  let v3181 : BitVec 32 := Scalar.extui v3180
  let v3182 : BitVec 32 := Scalar.subi v3179 v3181
  let v3183 : BitVec 1 := Scalar.cmpi .ne v3177 v3182
  let v3184 : BitVec 32 := Scalar.remsi v3170 c128_i32_1483
  let c0_i32_1488 : BitVec 32 := 0#32
  let v3185 : BitVec 1 := Scalar.cmpi .ne v3184 c0_i32_1488
  let v3186 : BitVec 1 := Scalar.andi v3183 v3185
  let v3172 : BitVec 32 := Scalar.divsi v3170 c128_i32_1483
  let c1_i32_1489 : BitVec 32 := 1#32
  let v3187 : BitVec 32 := Scalar.subi v3172 c1_i32_1489
  let v3188 : BitVec 32 := Scalar.select v3186 v3187 v3172
  let v3195 : Index := Scalar.indexCast v3188
  let c0_1494 : Index := 0#32
  let c0_1495 : Index := 0#32
  ![v3195.toNat, 0, 0]
def k0_off9 (v20 : BitVec 32) (v394 : BitVec 32) (k0_t2 : Fin (k0_t2_loop v20 v394).trips) : Fin 3 → Nat :=
  let c1_i32_1475 : BitVec 32 := 1#32
  let c1_i32_1478 : BitVec 32 := 1#32
  let arg33 : BitVec 32 := Scf.iv c1_i32_1475 c1_i32_1478 k0_t2
  let c128_i32_1480 : BitVec 32 := 128#32
  let v3169 : BitVec 32 := Scalar.muli arg33 c128_i32_1480
  let v3170 : BitVec 32 := Scalar.addi v20 v3169
  let c0_i32_1484 : BitVec 32 := 0#32
  let v3173 : BitVec 1 := Scalar.cmpi .sgt v3170 c0_i32_1484
  let v3174 : BitVec 32 := Scalar.extui v3173
  let c0_i32_1485 : BitVec 32 := 0#32
  let v3175 : BitVec 1 := Scalar.cmpi .slt v3170 c0_i32_1485
  let v3176 : BitVec 32 := Scalar.extui v3175
  let v3177 : BitVec 32 := Scalar.subi v3174 v3176
  let c128_i32_1483 : BitVec 32 := 128#32
  let c0_i32_1486 : BitVec 32 := 0#32
  let v3178 : BitVec 1 := Scalar.cmpi .sgt c128_i32_1483 c0_i32_1486
  let v3179 : BitVec 32 := Scalar.extui v3178
  let c0_i32_1487 : BitVec 32 := 0#32
  let v3180 : BitVec 1 := Scalar.cmpi .slt c128_i32_1483 c0_i32_1487
  let v3181 : BitVec 32 := Scalar.extui v3180
  let v3182 : BitVec 32 := Scalar.subi v3179 v3181
  let v3183 : BitVec 1 := Scalar.cmpi .ne v3177 v3182
  let v3184 : BitVec 32 := Scalar.remsi v3170 c128_i32_1483
  let c0_i32_1488 : BitVec 32 := 0#32
  let v3185 : BitVec 1 := Scalar.cmpi .ne v3184 c0_i32_1488
  let v3186 : BitVec 1 := Scalar.andi v3183 v3185
  let v3172 : BitVec 32 := Scalar.divsi v3170 c128_i32_1483
  let c1_i32_1489 : BitVec 32 := 1#32
  let v3187 : BitVec 32 := Scalar.subi v3172 c1_i32_1489
  let v3188 : BitVec 32 := Scalar.select v3186 v3187 v3172
  let c1_i32_1496 : BitVec 32 := 1#32
  let v3199 : BitVec 32 := Scalar.addi v3188 c1_i32_1496
  let v3200 : Index := Scalar.indexCast v3199
  let c0_1497 : Index := 0#32
  let c0_1498 : Index := 0#32
  ![v3200.toNat, 0, 0]
@[reducible] def k0_t3_loop (v20 : BitVec 32) (v394 : BitVec 32) : Scf.Loop 32 :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let v3163 : BitVec 32 := Scalar.addi c1_i32_1475 v3162
  let c1_i32_1479 : BitVec 32 := 1#32
  ⟨v3166, v3163, c1_i32_1479⟩
def k0_off10 (v20 : BitVec 32) (v394 : BitVec 32) (k0_t3 : Fin (k0_t3_loop v20 v394).trips) : Fin 3 → Nat :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1479 : BitVec 32 := 1#32
  let arg33 : BitVec 32 := Scf.iv v3166 c1_i32_1479 k0_t3
  let c128_i32_1480 : BitVec 32 := 128#32
  let v3169 : BitVec 32 := Scalar.muli arg33 c128_i32_1480
  let v3170 : BitVec 32 := Scalar.addi v20 v3169
  let c0_i32_1484 : BitVec 32 := 0#32
  let v3173 : BitVec 1 := Scalar.cmpi .sgt v3170 c0_i32_1484
  let v3174 : BitVec 32 := Scalar.extui v3173
  let c0_i32_1485 : BitVec 32 := 0#32
  let v3175 : BitVec 1 := Scalar.cmpi .slt v3170 c0_i32_1485
  let v3176 : BitVec 32 := Scalar.extui v3175
  let v3177 : BitVec 32 := Scalar.subi v3174 v3176
  let c128_i32_1483 : BitVec 32 := 128#32
  let c0_i32_1486 : BitVec 32 := 0#32
  let v3178 : BitVec 1 := Scalar.cmpi .sgt c128_i32_1483 c0_i32_1486
  let v3179 : BitVec 32 := Scalar.extui v3178
  let c0_i32_1487 : BitVec 32 := 0#32
  let v3180 : BitVec 1 := Scalar.cmpi .slt c128_i32_1483 c0_i32_1487
  let v3181 : BitVec 32 := Scalar.extui v3180
  let v3182 : BitVec 32 := Scalar.subi v3179 v3181
  let v3183 : BitVec 1 := Scalar.cmpi .ne v3177 v3182
  let v3184 : BitVec 32 := Scalar.remsi v3170 c128_i32_1483
  let c0_i32_1488 : BitVec 32 := 0#32
  let v3185 : BitVec 1 := Scalar.cmpi .ne v3184 c0_i32_1488
  let v3186 : BitVec 1 := Scalar.andi v3183 v3185
  let v3172 : BitVec 32 := Scalar.divsi v3170 c128_i32_1483
  let c1_i32_1489 : BitVec 32 := 1#32
  let v3187 : BitVec 32 := Scalar.subi v3172 c1_i32_1489
  let v3188 : BitVec 32 := Scalar.select v3186 v3187 v3172
  let v3195 : Index := Scalar.indexCast v3188
  let c0_1494 : Index := 0#32
  let c0_1495 : Index := 0#32
  ![v3195.toNat, 0, 0]
def k0_off11 (v20 : BitVec 32) (v394 : BitVec 32) (k0_t3 : Fin (k0_t3_loop v20 v394).trips) : Fin 3 → Nat :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1479 : BitVec 32 := 1#32
  let arg33 : BitVec 32 := Scf.iv v3166 c1_i32_1479 k0_t3
  let c128_i32_1480 : BitVec 32 := 128#32
  let v3169 : BitVec 32 := Scalar.muli arg33 c128_i32_1480
  let v3170 : BitVec 32 := Scalar.addi v20 v3169
  let c0_i32_1484 : BitVec 32 := 0#32
  let v3173 : BitVec 1 := Scalar.cmpi .sgt v3170 c0_i32_1484
  let v3174 : BitVec 32 := Scalar.extui v3173
  let c0_i32_1485 : BitVec 32 := 0#32
  let v3175 : BitVec 1 := Scalar.cmpi .slt v3170 c0_i32_1485
  let v3176 : BitVec 32 := Scalar.extui v3175
  let v3177 : BitVec 32 := Scalar.subi v3174 v3176
  let c128_i32_1483 : BitVec 32 := 128#32
  let c0_i32_1486 : BitVec 32 := 0#32
  let v3178 : BitVec 1 := Scalar.cmpi .sgt c128_i32_1483 c0_i32_1486
  let v3179 : BitVec 32 := Scalar.extui v3178
  let c0_i32_1487 : BitVec 32 := 0#32
  let v3180 : BitVec 1 := Scalar.cmpi .slt c128_i32_1483 c0_i32_1487
  let v3181 : BitVec 32 := Scalar.extui v3180
  let v3182 : BitVec 32 := Scalar.subi v3179 v3181
  let v3183 : BitVec 1 := Scalar.cmpi .ne v3177 v3182
  let v3184 : BitVec 32 := Scalar.remsi v3170 c128_i32_1483
  let c0_i32_1488 : BitVec 32 := 0#32
  let v3185 : BitVec 1 := Scalar.cmpi .ne v3184 c0_i32_1488
  let v3186 : BitVec 1 := Scalar.andi v3183 v3185
  let v3172 : BitVec 32 := Scalar.divsi v3170 c128_i32_1483
  let c1_i32_1489 : BitVec 32 := 1#32
  let v3187 : BitVec 32 := Scalar.subi v3172 c1_i32_1489
  let v3188 : BitVec 32 := Scalar.select v3186 v3187 v3172
  let c1_i32_1496 : BitVec 32 := 1#32
  let v3199 : BitVec 32 := Scalar.addi v3188 c1_i32_1496
  let v3200 : Index := Scalar.indexCast v3199
  let c0_1497 : Index := 0#32
  let c0_1498 : Index := 0#32
  ![v3200.toNat, 0, 0]
def k0_off12 (v20 : BitVec 32) : Fin 3 → Nat :=
  let c0_i32_1453 : BitVec 32 := 0#32
  let v3110 : BitVec 1 := Scalar.cmpi .sgt v20 c0_i32_1453
  let v3111 : BitVec 32 := Scalar.extui v3110
  let c0_i32_1454 : BitVec 32 := 0#32
  let v3112 : BitVec 1 := Scalar.cmpi .slt v20 c0_i32_1454
  let v3113 : BitVec 32 := Scalar.extui v3112
  let v3114 : BitVec 32 := Scalar.subi v3111 v3113
  let c128_i32_1452 : BitVec 32 := 128#32
  let c0_i32_1455 : BitVec 32 := 0#32
  let v3115 : BitVec 1 := Scalar.cmpi .sgt c128_i32_1452 c0_i32_1455
  let v3116 : BitVec 32 := Scalar.extui v3115
  let c0_i32_1456 : BitVec 32 := 0#32
  let v3117 : BitVec 1 := Scalar.cmpi .slt c128_i32_1452 c0_i32_1456
  let v3118 : BitVec 32 := Scalar.extui v3117
  let v3119 : BitVec 32 := Scalar.subi v3116 v3118
  let v3120 : BitVec 1 := Scalar.cmpi .ne v3114 v3119
  let v3121 : BitVec 32 := Scalar.remsi v20 c128_i32_1452
  let c0_i32_1457 : BitVec 32 := 0#32
  let v3122 : BitVec 1 := Scalar.cmpi .ne v3121 c0_i32_1457
  let v3123 : BitVec 1 := Scalar.andi v3120 v3122
  let v3109 : BitVec 32 := Scalar.divsi v20 c128_i32_1452
  let c1_i32_1458 : BitVec 32 := 1#32
  let v3124 : BitVec 32 := Scalar.subi v3109 c1_i32_1458
  let v3125 : BitVec 32 := Scalar.select v3123 v3124 v3109
  let v3130 : Index := Scalar.indexCast v3125
  let c0_1460 : Index := 0#32
  let c0_1461 : Index := 0#32
  ![v3130.toNat, 0, 0]
def k0_off13 (v20 : BitVec 32) : Fin 3 → Nat :=
  let c0_i32_1453 : BitVec 32 := 0#32
  let v3110 : BitVec 1 := Scalar.cmpi .sgt v20 c0_i32_1453
  let v3111 : BitVec 32 := Scalar.extui v3110
  let c0_i32_1454 : BitVec 32 := 0#32
  let v3112 : BitVec 1 := Scalar.cmpi .slt v20 c0_i32_1454
  let v3113 : BitVec 32 := Scalar.extui v3112
  let v3114 : BitVec 32 := Scalar.subi v3111 v3113
  let c128_i32_1452 : BitVec 32 := 128#32
  let c0_i32_1455 : BitVec 32 := 0#32
  let v3115 : BitVec 1 := Scalar.cmpi .sgt c128_i32_1452 c0_i32_1455
  let v3116 : BitVec 32 := Scalar.extui v3115
  let c0_i32_1456 : BitVec 32 := 0#32
  let v3117 : BitVec 1 := Scalar.cmpi .slt c128_i32_1452 c0_i32_1456
  let v3118 : BitVec 32 := Scalar.extui v3117
  let v3119 : BitVec 32 := Scalar.subi v3116 v3118
  let v3120 : BitVec 1 := Scalar.cmpi .ne v3114 v3119
  let v3121 : BitVec 32 := Scalar.remsi v20 c128_i32_1452
  let c0_i32_1457 : BitVec 32 := 0#32
  let v3122 : BitVec 1 := Scalar.cmpi .ne v3121 c0_i32_1457
  let v3123 : BitVec 1 := Scalar.andi v3120 v3122
  let v3109 : BitVec 32 := Scalar.divsi v20 c128_i32_1452
  let c1_i32_1458 : BitVec 32 := 1#32
  let v3124 : BitVec 32 := Scalar.subi v3109 c1_i32_1458
  let v3125 : BitVec 32 := Scalar.select v3123 v3124 v3109
  let c1_i32_1465 : BitVec 32 := 1#32
  let v3142 : BitVec 32 := Scalar.addi v3125 c1_i32_1465
  let v3143 : Index := Scalar.indexCast v3142
  let c0_1466 : Index := 0#32
  let c0_1467 : Index := 0#32
  ![v3143.toNat, 0, 0]

def k0_chk1 (v20 : BitVec 32) : Prop :=
  (∀ a, (k0_off5 v20) a + S1x32x128.size a ≤ S98x32x128.size a) ∧
  (∀ a, (k0_off6 v20) a + S1x32x128.size a ≤ S98x32x128.size a) ∧
  (∀ a, (k0_off12 v20) a + S1x8x128.size a ≤ S98x8x128.size a) ∧
  (∀ a, (k0_off13 v20) a + S1x8x128.size a ≤ S98x8x128.size a)
theorem k0_off5_inb : ∀ (v20 : BitVec 32) (k0_hw1 : k0_chk1 v20), ∀ a, (k0_off5 v20) a + S1x32x128.size a ≤ S98x32x128.size a := fun v20 k0_hw1 => k0_hw1.1
theorem k0_off6_inb : ∀ (v20 : BitVec 32) (k0_hw1 : k0_chk1 v20), ∀ a, (k0_off6 v20) a + S1x32x128.size a ≤ S98x32x128.size a := fun v20 k0_hw1 => k0_hw1.2.1
theorem k0_off12_inb : ∀ (v20 : BitVec 32) (k0_hw1 : k0_chk1 v20), ∀ a, (k0_off12 v20) a + S1x8x128.size a ≤ S98x8x128.size a := fun v20 k0_hw1 => k0_hw1.2.2.1
theorem k0_off13_inb : ∀ (v20 : BitVec 32) (k0_hw1 : k0_chk1 v20), ∀ a, (k0_off13 v20) a + S1x8x128.size a ≤ S98x8x128.size a := fun v20 k0_hw1 => k0_hw1.2.2.2

@[reducible] def k0_t4_loop (v20 : BitVec 32) (v394 : BitVec 32) : Scf.Loop 32 :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1478 : BitVec 32 := 1#32
  ⟨c1_i32_1475, v3166, c1_i32_1478⟩
def k0_cond3 (v20 : BitVec 32) (v394 : BitVec 32) : BitVec 1 :=
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c0_i32_1471 : BitVec 32 := 0#32
  let v3155 : BitVec 1 := Scalar.cmpi .sgt v412 c0_i32_1471
  let v3156 : BitVec 32 := Scalar.extui v3155
  let c0_i32_1472 : BitVec 32 := 0#32
  let v3157 : BitVec 1 := Scalar.cmpi .ne v3156 c0_i32_1472
  v3157

def k0_off14 (v20 : BitVec 32) (v394 : BitVec 32) (k0_t4 : Fin (k0_t4_loop v20 v394).trips) : Fin 3 → Nat :=
  let c1_i32_1475 : BitVec 32 := 1#32
  let c1_i32_1478 : BitVec 32 := 1#32
  let arg33 : BitVec 32 := Scf.iv c1_i32_1475 c1_i32_1478 k0_t4
  let c128_i32_1480 : BitVec 32 := 128#32
  let v3169 : BitVec 32 := Scalar.muli arg33 c128_i32_1480
  let v3170 : BitVec 32 := Scalar.addi v20 v3169
  let c0_i32_1515 : BitVec 32 := 0#32
  let v3295 : BitVec 1 := Scalar.cmpi .sgt v3170 c0_i32_1515
  let v3296 : BitVec 32 := Scalar.extui v3295
  let c0_i32_1516 : BitVec 32 := 0#32
  let v3297 : BitVec 1 := Scalar.cmpi .slt v3170 c0_i32_1516
  let v3298 : BitVec 32 := Scalar.extui v3297
  let v3299 : BitVec 32 := Scalar.subi v3296 v3298
  let c128_i32_1514 : BitVec 32 := 128#32
  let c0_i32_1517 : BitVec 32 := 0#32
  let v3300 : BitVec 1 := Scalar.cmpi .sgt c128_i32_1514 c0_i32_1517
  let v3301 : BitVec 32 := Scalar.extui v3300
  let c0_i32_1518 : BitVec 32 := 0#32
  let v3302 : BitVec 1 := Scalar.cmpi .slt c128_i32_1514 c0_i32_1518
  let v3303 : BitVec 32 := Scalar.extui v3302
  let v3304 : BitVec 32 := Scalar.subi v3301 v3303
  let v3305 : BitVec 1 := Scalar.cmpi .ne v3299 v3304
  let v3306 : BitVec 32 := Scalar.remsi v3170 c128_i32_1514
  let c0_i32_1519 : BitVec 32 := 0#32
  let v3307 : BitVec 1 := Scalar.cmpi .ne v3306 c0_i32_1519
  let v3308 : BitVec 1 := Scalar.andi v3305 v3307
  let v3294 : BitVec 32 := Scalar.divsi v3170 c128_i32_1514
  let c1_i32_1520 : BitVec 32 := 1#32
  let v3309 : BitVec 32 := Scalar.subi v3294 c1_i32_1520
  let v3310 : BitVec 32 := Scalar.select v3308 v3309 v3294
  let v3315 : Index := Scalar.indexCast v3310
  let c0_1522 : Index := 0#32
  let c0_1523 : Index := 0#32
  ![v3315.toNat, 0, 0]
def k0_off15 (v20 : BitVec 32) (v394 : BitVec 32) (k0_t4 : Fin (k0_t4_loop v20 v394).trips) : Fin 3 → Nat :=
  let c1_i32_1475 : BitVec 32 := 1#32
  let c1_i32_1478 : BitVec 32 := 1#32
  let arg33 : BitVec 32 := Scf.iv c1_i32_1475 c1_i32_1478 k0_t4
  let c128_i32_1480 : BitVec 32 := 128#32
  let v3169 : BitVec 32 := Scalar.muli arg33 c128_i32_1480
  let v3170 : BitVec 32 := Scalar.addi v20 v3169
  let c0_i32_1515 : BitVec 32 := 0#32
  let v3295 : BitVec 1 := Scalar.cmpi .sgt v3170 c0_i32_1515
  let v3296 : BitVec 32 := Scalar.extui v3295
  let c0_i32_1516 : BitVec 32 := 0#32
  let v3297 : BitVec 1 := Scalar.cmpi .slt v3170 c0_i32_1516
  let v3298 : BitVec 32 := Scalar.extui v3297
  let v3299 : BitVec 32 := Scalar.subi v3296 v3298
  let c128_i32_1514 : BitVec 32 := 128#32
  let c0_i32_1517 : BitVec 32 := 0#32
  let v3300 : BitVec 1 := Scalar.cmpi .sgt c128_i32_1514 c0_i32_1517
  let v3301 : BitVec 32 := Scalar.extui v3300
  let c0_i32_1518 : BitVec 32 := 0#32
  let v3302 : BitVec 1 := Scalar.cmpi .slt c128_i32_1514 c0_i32_1518
  let v3303 : BitVec 32 := Scalar.extui v3302
  let v3304 : BitVec 32 := Scalar.subi v3301 v3303
  let v3305 : BitVec 1 := Scalar.cmpi .ne v3299 v3304
  let v3306 : BitVec 32 := Scalar.remsi v3170 c128_i32_1514
  let c0_i32_1519 : BitVec 32 := 0#32
  let v3307 : BitVec 1 := Scalar.cmpi .ne v3306 c0_i32_1519
  let v3308 : BitVec 1 := Scalar.andi v3305 v3307
  let v3294 : BitVec 32 := Scalar.divsi v3170 c128_i32_1514
  let c1_i32_1520 : BitVec 32 := 1#32
  let v3309 : BitVec 32 := Scalar.subi v3294 c1_i32_1520
  let v3310 : BitVec 32 := Scalar.select v3308 v3309 v3294
  let c1_i32_1527 : BitVec 32 := 1#32
  let v3327 : BitVec 32 := Scalar.addi v3310 c1_i32_1527
  let v3328 : Index := Scalar.indexCast v3327
  let c0_1528 : Index := 0#32
  let c0_1529 : Index := 0#32
  ![v3328.toNat, 0, 0]
@[reducible] def k0_t5_loop (v20 : BitVec 32) (v394 : BitVec 32) : Scf.Loop 32 :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let v3163 : BitVec 32 := Scalar.addi c1_i32_1475 v3162
  let c1_i32_1479 : BitVec 32 := 1#32
  ⟨v3166, v3163, c1_i32_1479⟩
def k0_off16 (v20 : BitVec 32) (v394 : BitVec 32) (k0_t5 : Fin (k0_t5_loop v20 v394).trips) : Fin 3 → Nat :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1479 : BitVec 32 := 1#32
  let arg33 : BitVec 32 := Scf.iv v3166 c1_i32_1479 k0_t5
  let c128_i32_1480 : BitVec 32 := 128#32
  let v3169 : BitVec 32 := Scalar.muli arg33 c128_i32_1480
  let v3170 : BitVec 32 := Scalar.addi v20 v3169
  let c0_i32_1515 : BitVec 32 := 0#32
  let v3295 : BitVec 1 := Scalar.cmpi .sgt v3170 c0_i32_1515
  let v3296 : BitVec 32 := Scalar.extui v3295
  let c0_i32_1516 : BitVec 32 := 0#32
  let v3297 : BitVec 1 := Scalar.cmpi .slt v3170 c0_i32_1516
  let v3298 : BitVec 32 := Scalar.extui v3297
  let v3299 : BitVec 32 := Scalar.subi v3296 v3298
  let c128_i32_1514 : BitVec 32 := 128#32
  let c0_i32_1517 : BitVec 32 := 0#32
  let v3300 : BitVec 1 := Scalar.cmpi .sgt c128_i32_1514 c0_i32_1517
  let v3301 : BitVec 32 := Scalar.extui v3300
  let c0_i32_1518 : BitVec 32 := 0#32
  let v3302 : BitVec 1 := Scalar.cmpi .slt c128_i32_1514 c0_i32_1518
  let v3303 : BitVec 32 := Scalar.extui v3302
  let v3304 : BitVec 32 := Scalar.subi v3301 v3303
  let v3305 : BitVec 1 := Scalar.cmpi .ne v3299 v3304
  let v3306 : BitVec 32 := Scalar.remsi v3170 c128_i32_1514
  let c0_i32_1519 : BitVec 32 := 0#32
  let v3307 : BitVec 1 := Scalar.cmpi .ne v3306 c0_i32_1519
  let v3308 : BitVec 1 := Scalar.andi v3305 v3307
  let v3294 : BitVec 32 := Scalar.divsi v3170 c128_i32_1514
  let c1_i32_1520 : BitVec 32 := 1#32
  let v3309 : BitVec 32 := Scalar.subi v3294 c1_i32_1520
  let v3310 : BitVec 32 := Scalar.select v3308 v3309 v3294
  let v3315 : Index := Scalar.indexCast v3310
  let c0_1522 : Index := 0#32
  let c0_1523 : Index := 0#32
  ![v3315.toNat, 0, 0]
def k0_off17 (v20 : BitVec 32) (v394 : BitVec 32) (k0_t5 : Fin (k0_t5_loop v20 v394).trips) : Fin 3 → Nat :=
  let c1_i32_1475 : BitVec 32 := 1#32
  let v395 : BitVec 32 := Scalar.subi v394 v20
  let c0_i32_116 : BitVec 32 := 0#32
  let v397 : BitVec 1 := Scalar.cmpi .sgt v395 c0_i32_116
  let v398 : BitVec 32 := Scalar.extui v397
  let c0_i32_117 : BitVec 32 := 0#32
  let v399 : BitVec 1 := Scalar.cmpi .slt v395 c0_i32_117
  let v400 : BitVec 32 := Scalar.extui v399
  let v401 : BitVec 32 := Scalar.subi v398 v400
  let c128_i32_115 : BitVec 32 := 128#32
  let c0_i32_118 : BitVec 32 := 0#32
  let v402 : BitVec 1 := Scalar.cmpi .sgt c128_i32_115 c0_i32_118
  let v403 : BitVec 32 := Scalar.extui v402
  let c0_i32_119 : BitVec 32 := 0#32
  let v404 : BitVec 1 := Scalar.cmpi .slt c128_i32_115 c0_i32_119
  let v405 : BitVec 32 := Scalar.extui v404
  let v406 : BitVec 32 := Scalar.subi v403 v405
  let v407 : BitVec 1 := Scalar.cmpi .ne v401 v406
  let v408 : BitVec 32 := Scalar.remsi v395 c128_i32_115
  let c0_i32_120 : BitVec 32 := 0#32
  let v409 : BitVec 1 := Scalar.cmpi .ne v408 c0_i32_120
  let v410 : BitVec 1 := Scalar.andi v407 v409
  let v396 : BitVec 32 := Scalar.divsi v395 c128_i32_115
  let c1_i32_121 : BitVec 32 := 1#32
  let v411 : BitVec 32 := Scalar.subi v396 c1_i32_121
  let v412 : BitVec 32 := Scalar.select v410 v411 v396
  let c1_i32_1474 : BitVec 32 := 1#32
  let v3161 : BitVec 32 := Scalar.addi v412 c1_i32_1474
  let v3162 : BitVec 32 := Scalar.subi v3161 c1_i32_1475
  let c1_i32_1477 : BitVec 32 := 1#32
  let v3164 : BitVec 32 := Scalar.divsi v3162 c1_i32_1477
  let v3165 : BitVec 32 := Scalar.muli v3164 c1_i32_1477
  let v3166 : BitVec 32 := Scalar.addi c1_i32_1475 v3165
  let c1_i32_1479 : BitVec 32 := 1#32
  let arg33 : BitVec 32 := Scf.iv v3166 c1_i32_1479 k0_t5
  let c128_i32_1480 : BitVec 32 := 128#32
  let v3169 : BitVec 32 := Scalar.muli arg33 c128_i32_1480
  let v3170 : BitVec 32 := Scalar.addi v20 v3169
  let c0_i32_1515 : BitVec 32 := 0#32
  let v3295 : BitVec 1 := Scalar.cmpi .sgt v3170 c0_i32_1515
  let v3296 : BitVec 32 := Scalar.extui v3295
  let c0_i32_1516 : BitVec 32 := 0#32
  let v3297 : BitVec 1 := Scalar.cmpi .slt v3170 c0_i32_1516
  let v3298 : BitVec 32 := Scalar.extui v3297
  let v3299 : BitVec 32 := Scalar.subi v3296 v3298
  let c128_i32_1514 : BitVec 32 := 128#32
  let c0_i32_1517 : BitVec 32 := 0#32
  let v3300 : BitVec 1 := Scalar.cmpi .sgt c128_i32_1514 c0_i32_1517
  let v3301 : BitVec 32 := Scalar.extui v3300
  let c0_i32_1518 : BitVec 32 := 0#32
  let v3302 : BitVec 1 := Scalar.cmpi .slt c128_i32_1514 c0_i32_1518
  let v3303 : BitVec 32 := Scalar.extui v3302
  let v3304 : BitVec 32 := Scalar.subi v3301 v3303
  let v3305 : BitVec 1 := Scalar.cmpi .ne v3299 v3304
  let v3306 : BitVec 32 := Scalar.remsi v3170 c128_i32_1514
  let c0_i32_1519 : BitVec 32 := 0#32
  let v3307 : BitVec 1 := Scalar.cmpi .ne v3306 c0_i32_1519
  let v3308 : BitVec 1 := Scalar.andi v3305 v3307
  let v3294 : BitVec 32 := Scalar.divsi v3170 c128_i32_1514
  let c1_i32_1520 : BitVec 32 := 1#32
  let v3309 : BitVec 32 := Scalar.subi v3294 c1_i32_1520
  let v3310 : BitVec 32 := Scalar.select v3308 v3309 v3294
  let c1_i32_1527 : BitVec 32 := 1#32
  let v3327 : BitVec 32 := Scalar.addi v3310 c1_i32_1527
  let v3328 : Index := Scalar.indexCast v3327
  let c0_1528 : Index := 0#32
  let c0_1529 : Index := 0#32
  ![v3328.toNat, 0, 0]

def k0_chk2 (v20 : BitVec 32) (v394 : BitVec 32) : Prop :=
  (∀ (k0_h2 : k0_cond2 v20 v394 = 1#1), (k0_t2_loop v20 v394).OK) ∧
  (∀ k0_t2 : Fin (k0_t2_loop v20 v394).trips, ∀ (k0_h2 : k0_cond2 v20 v394 = 1#1), ∀ a, (k0_off8 v20 v394 k0_t2) a + S1x32x128.size a ≤ S98x32x128.size a) ∧
  (∀ k0_t2 : Fin (k0_t2_loop v20 v394).trips, ∀ (k0_h2 : k0_cond2 v20 v394 = 1#1), ∀ a, (k0_off9 v20 v394 k0_t2) a + S1x32x128.size a ≤ S98x32x128.size a) ∧
  (∀ (k0_h2 : k0_cond2 v20 v394 = 1#1), (k0_t3_loop v20 v394).OK) ∧
  (∀ k0_t3 : Fin (k0_t3_loop v20 v394).trips, ∀ (k0_h2 : k0_cond2 v20 v394 = 1#1), ∀ a, (k0_off10 v20 v394 k0_t3) a + S1x32x128.size a ≤ S98x32x128.size a) ∧
  (∀ k0_t3 : Fin (k0_t3_loop v20 v394).trips, ∀ (k0_h2 : k0_cond2 v20 v394 = 1#1), ∀ a, (k0_off11 v20 v394 k0_t3) a + S1x32x128.size a ≤ S98x32x128.size a) ∧
  (∀ (k0_h3 : k0_cond3 v20 v394 = 1#1), (k0_t4_loop v20 v394).OK) ∧
  (∀ k0_t4 : Fin (k0_t4_loop v20 v394).trips, ∀ (k0_h3 : k0_cond3 v20 v394 = 1#1), ∀ a, (k0_off14 v20 v394 k0_t4) a + S1x8x128.size a ≤ S98x8x128.size a) ∧
  (∀ k0_t4 : Fin (k0_t4_loop v20 v394).trips, ∀ (k0_h3 : k0_cond3 v20 v394 = 1#1), ∀ a, (k0_off15 v20 v394 k0_t4) a + S1x8x128.size a ≤ S98x8x128.size a) ∧
  (∀ (k0_h3 : k0_cond3 v20 v394 = 1#1), (k0_t5_loop v20 v394).OK) ∧
  (∀ k0_t5 : Fin (k0_t5_loop v20 v394).trips, ∀ (k0_h3 : k0_cond3 v20 v394 = 1#1), ∀ a, (k0_off16 v20 v394 k0_t5) a + S1x8x128.size a ≤ S98x8x128.size a) ∧
  (∀ k0_t5 : Fin (k0_t5_loop v20 v394).trips, ∀ (k0_h3 : k0_cond3 v20 v394 = 1#1), ∀ a, (k0_off17 v20 v394 k0_t5) a + S1x8x128.size a ≤ S98x8x128.size a)
theorem k0_t2_ok : ∀ (v20 : BitVec 32) (v394 : BitVec 32) (k0_hw2 : k0_chk2 v20 v394), ∀ (k0_h2 : k0_cond2 v20 v394 = 1#1), (k0_t2_loop v20 v394).OK := fun v20 v394 k0_hw2 k0_h2 => k0_hw2.1 k0_h2
theorem k0_off8_inb : ∀ (v20 : BitVec 32) (v394 : BitVec 32) (k0_hw2 : k0_chk2 v20 v394) (k0_t2 : Fin (k0_t2_loop v20 v394).trips), ∀ (k0_h2 : k0_cond2 v20 v394 = 1#1), ∀ a, (k0_off8 v20 v394 k0_t2) a + S1x32x128.size a ≤ S98x32x128.size a := fun v20 v394 k0_hw2 k0_t2 k0_h2 => k0_hw2.2.1 k0_t2 k0_h2
theorem k0_off9_inb : ∀ (v20 : BitVec 32) (v394 : BitVec 32) (k0_hw2 : k0_chk2 v20 v394) (k0_t2 : Fin (k0_t2_loop v20 v394).trips), ∀ (k0_h2 : k0_cond2 v20 v394 = 1#1), ∀ a, (k0_off9 v20 v394 k0_t2) a + S1x32x128.size a ≤ S98x32x128.size a := fun v20 v394 k0_hw2 k0_t2 k0_h2 => k0_hw2.2.2.1 k0_t2 k0_h2
theorem k0_t3_ok : ∀ (v20 : BitVec 32) (v394 : BitVec 32) (k0_hw2 : k0_chk2 v20 v394), ∀ (k0_h2 : k0_cond2 v20 v394 = 1#1), (k0_t3_loop v20 v394).OK := fun v20 v394 k0_hw2 k0_h2 => k0_hw2.2.2.2.1 k0_h2
theorem k0_off10_inb : ∀ (v20 : BitVec 32) (v394 : BitVec 32) (k0_hw2 : k0_chk2 v20 v394) (k0_t3 : Fin (k0_t3_loop v20 v394).trips), ∀ (k0_h2 : k0_cond2 v20 v394 = 1#1), ∀ a, (k0_off10 v20 v394 k0_t3) a + S1x32x128.size a ≤ S98x32x128.size a := fun v20 v394 k0_hw2 k0_t3 k0_h2 => k0_hw2.2.2.2.2.1 k0_t3 k0_h2
theorem k0_off11_inb : ∀ (v20 : BitVec 32) (v394 : BitVec 32) (k0_hw2 : k0_chk2 v20 v394) (k0_t3 : Fin (k0_t3_loop v20 v394).trips), ∀ (k0_h2 : k0_cond2 v20 v394 = 1#1), ∀ a, (k0_off11 v20 v394 k0_t3) a + S1x32x128.size a ≤ S98x32x128.size a := fun v20 v394 k0_hw2 k0_t3 k0_h2 => k0_hw2.2.2.2.2.2.1 k0_t3 k0_h2
theorem k0_t4_ok : ∀ (v20 : BitVec 32) (v394 : BitVec 32) (k0_hw2 : k0_chk2 v20 v394), ∀ (k0_h3 : k0_cond3 v20 v394 = 1#1), (k0_t4_loop v20 v394).OK := fun v20 v394 k0_hw2 k0_h3 => k0_hw2.2.2.2.2.2.2.1 k0_h3
theorem k0_off14_inb : ∀ (v20 : BitVec 32) (v394 : BitVec 32) (k0_hw2 : k0_chk2 v20 v394) (k0_t4 : Fin (k0_t4_loop v20 v394).trips), ∀ (k0_h3 : k0_cond3 v20 v394 = 1#1), ∀ a, (k0_off14 v20 v394 k0_t4) a + S1x8x128.size a ≤ S98x8x128.size a := fun v20 v394 k0_hw2 k0_t4 k0_h3 => k0_hw2.2.2.2.2.2.2.2.1 k0_t4 k0_h3
theorem k0_off15_inb : ∀ (v20 : BitVec 32) (v394 : BitVec 32) (k0_hw2 : k0_chk2 v20 v394) (k0_t4 : Fin (k0_t4_loop v20 v394).trips), ∀ (k0_h3 : k0_cond3 v20 v394 = 1#1), ∀ a, (k0_off15 v20 v394 k0_t4) a + S1x8x128.size a ≤ S98x8x128.size a := fun v20 v394 k0_hw2 k0_t4 k0_h3 => k0_hw2.2.2.2.2.2.2.2.2.1 k0_t4 k0_h3
theorem k0_t5_ok : ∀ (v20 : BitVec 32) (v394 : BitVec 32) (k0_hw2 : k0_chk2 v20 v394), ∀ (k0_h3 : k0_cond3 v20 v394 = 1#1), (k0_t5_loop v20 v394).OK := fun v20 v394 k0_hw2 k0_h3 => k0_hw2.2.2.2.2.2.2.2.2.2.1 k0_h3
theorem k0_off16_inb : ∀ (v20 : BitVec 32) (v394 : BitVec 32) (k0_hw2 : k0_chk2 v20 v394) (k0_t5 : Fin (k0_t5_loop v20 v394).trips), ∀ (k0_h3 : k0_cond3 v20 v394 = 1#1), ∀ a, (k0_off16 v20 v394 k0_t5) a + S1x8x128.size a ≤ S98x8x128.size a := fun v20 v394 k0_hw2 k0_t5 k0_h3 => k0_hw2.2.2.2.2.2.2.2.2.2.2.1 k0_t5 k0_h3
theorem k0_off17_inb : ∀ (v20 : BitVec 32) (v394 : BitVec 32) (k0_hw2 : k0_chk2 v20 v394) (k0_t5 : Fin (k0_t5_loop v20 v394).trips), ∀ (k0_h3 : k0_cond3 v20 v394 = 1#1), ∀ a, (k0_off17 v20 v394 k0_t5) a + S1x8x128.size a ≤ S98x8x128.size a := fun v20 v394 k0_hw2 k0_t5 k0_h3 => k0_hw2.2.2.2.2.2.2.2.2.2.2.2 k0_t5 k0_h3

def k0_cond4 (i : grid0.Coords) : BitVec 1 :=
  let arg0 : BitVec 32 := BitVec.ofNat 32 (i 0).val
  let c221_i32 : BitVec 32 := 221#32
  let v3158 : BitVec 1 := Scalar.cmpi .eq arg0 c221_i32
  let v3159 : BitVec 32 := Scalar.extui v3158
  let c0_i32_1473 : BitVec 32 := 0#32
  let v3160 : BitVec 1 := Scalar.cmpi .ne v3159 c0_i32_1473
  v3160

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  ![arg0.toNat]

def cc0_transform_19 (i : grid0.Coords) : Fin 1 → Nat :=
  let arg0 : BitVec 32 := BitVec.ofNat 32 (i 0).val
  let c0_i32 : BitVec 32 := 0#32
  ![arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S222 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S222 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S63x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x256x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S63x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S27x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x12288 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S10x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S63x2048 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x256 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S30x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S12x12288 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S454650x3 : Shape := ⟨2, ![454650, 3]⟩
abbrev S12288x3 : Shape := ⟨2, ![12288, 3]⟩
abbrev S454650 : Shape := ⟨1, ![454650]⟩
abbrev S12289 : Shape := ⟨1, ![12289]⟩
abbrev S63x256 : Shape := ⟨2, ![63, 256]⟩
abbrev S7x256x256 : Shape := ⟨3, ![7, 256, 256]⟩
abbrev S256x257 : Shape := ⟨2, ![256, 257]⟩
abbrev S256x128 : Shape := ⟨2, ![256, 128]⟩
abbrev S27x128 : Shape := ⟨2, ![27, 128]⟩
abbrev S128x3 : Shape := ⟨2, ![128, 3]⟩
abbrev S13 : Shape := ⟨1, ![13]⟩
abbrev S256 : Shape := ⟨1, ![256]⟩
abbrev S7x256 : Shape := ⟨2, ![7, 256]⟩
abbrev S257 : Shape := ⟨1, ![257]⟩
abbrev S128 : Shape := ⟨1, ![128]⟩
abbrev S3 : Shape := ⟨1, ![3]⟩
abbrev S12 : Shape := ⟨1, ![12]⟩
abbrev S10 : Shape := ⟨1, ![10]⟩
abbrev S4 : Shape := ⟨1, ![4]⟩
abbrev S454650x1x3 : Shape := ⟨3, ![454650, 1, 3]⟩
abbrev S10x1 : Shape := ⟨2, ![10, 1]⟩
abbrev S1x10x1 : Shape := ⟨3, ![1, 10, 1]⟩
abbrev S454650x10x3 : Shape := ⟨3, ![454650, 10, 3]⟩
abbrev S_ : Shape := ⟨0, ![]⟩
abbrev S12288x1x3 : Shape := ⟨3, ![12288, 1, 3]⟩
abbrev S4x1 : Shape := ⟨2, ![4, 1]⟩
abbrev S1x4x1 : Shape := ⟨3, ![1, 4, 1]⟩
abbrev S12288x4x3 : Shape := ⟨3, ![12288, 4, 3]⟩
abbrev S454650x30 : Shape := ⟨2, ![454650, 30]⟩
abbrev S30x454650 : Shape := ⟨2, ![30, 454650]⟩
abbrev S12288x12 : Shape := ⟨2, ![12288, 12]⟩
abbrev S12x12288 : Shape := ⟨2, ![12, 12288]⟩
abbrev S8x12288 : Shape := ⟨2, ![8, 12288]⟩
abbrev S10x128 : Shape := ⟨2, ![10, 128]⟩
abbrev S454650x10x1x3 : Shape := ⟨4, ![454650, 10, 1, 3]⟩
abbrev S454650x10x2x3 : Shape := ⟨4, ![454650, 10, 2, 3]⟩
abbrev S454650x60 : Shape := ⟨2, ![454650, 60]⟩
abbrev S454650x63 : Shape := ⟨2, ![454650, 63]⟩
abbrev S63x454650 : Shape := ⟨2, ![63, 454650]⟩
abbrev S1x13 : Shape := ⟨2, ![1, 13]⟩
abbrev S1x256 : Shape := ⟨2, ![1, 256]⟩
abbrev S1x257 : Shape := ⟨2, ![1, 257]⟩
abbrev S1x12 : Shape := ⟨2, ![1, 12]⟩
abbrev S454656x256 : Shape := ⟨2, ![454656, 256]⟩
abbrev S1x1 : Shape := ⟨2, ![1, 1]⟩
abbrev S454650x256 : Shape := ⟨2, ![454650, 256]⟩
abbrev S6x256 : Shape := ⟨2, ![6, 256]⟩
abbrev S1x256x256 : Shape := ⟨3, ![1, 256, 256]⟩
abbrev S256x256 : Shape := ⟨2, ![256, 256]⟩
abbrev S454650x257 : Shape := ⟨2, ![454650, 257]⟩
abbrev S454650x1 : Shape := ⟨2, ![454650, 1]⟩

abbrev nBuf : Space → Nat
  | .hbm => 146
  | .vmem => 14
  | .smem => 0
  | _ => 0

abbrev hbmTy0_0 (i : Nat) : BufTy := match i % 128 with
  | 0 => ⟨S454650x3, .f32⟩
  | 1 => ⟨S12288x3, .f32⟩
  | 2 => ⟨S454650, .f32⟩
  | 3 => ⟨S12289, .i32⟩
  | 4 => ⟨S454650, .i32⟩
  | 5 => ⟨S63x256, .fp8e4m3⟩
  | 6 => ⟨S7x256x256, .fp8e4m3⟩
  | 7 => ⟨S63x256, .fp8e4m3⟩
  | 8 => ⟨S256x257, .fp8e4m3⟩
  | 9 => ⟨S256x128, .fp8e4m3⟩
  | 10 => ⟨S27x128, .fp8e4m3⟩
  | 11 => ⟨S128x3, .fp8e4m3⟩
  | 12 => ⟨S13, .f32⟩
  | 13 => ⟨S256, .f32⟩
  | 14 => ⟨S7x256, .f32⟩
  | 15 => ⟨S257, .f32⟩
  | 16 => ⟨S128, .f32⟩
  | 17 => ⟨S3, .f32⟩
  | 18 => ⟨S12, .f32⟩
  | 19 => ⟨S10, .f32⟩
  | 20 => ⟨S4, .f32⟩
  | 21 => ⟨S454650x1x3, .f32⟩
  | 22 => ⟨S10x1, .f32⟩
  | 23 => ⟨S1x10x1, .f32⟩
  | 24 => ⟨S454650x10x3, .f32⟩
  | 25 => ⟨S454650x10x3, .f32⟩
  | 26 => ⟨S454650x10x3, .f32⟩
  | 27 => ⟨S_, .f32⟩
  | 28 => ⟨S454650x10x3, .f32⟩
  | 29 => ⟨S454650x10x3, .f32⟩
  | 30 => ⟨S454650x10x3, .f32⟩
  | 31 => ⟨S_, .f32⟩
  | 32 => ⟨S454650x10x3, .f32⟩
  | 33 => ⟨S454650x10x3, .f32⟩
  | 34 => ⟨S454650x10x3, .f32⟩
  | 35 => ⟨S12288x1x3, .f32⟩
  | 36 => ⟨S4x1, .f32⟩
  | 37 => ⟨S1x4x1, .f32⟩
  | 38 => ⟨S12288x4x3, .f32⟩
  | 39 => ⟨S12288x4x3, .f32⟩
  | 40 => ⟨S12288x4x3, .f32⟩
  | 41 => ⟨S_, .f32⟩
  | 42 => ⟨S12288x4x3, .f32⟩
  | 43 => ⟨S12288x4x3, .f32⟩
  | 44 => ⟨S12288x4x3, .f32⟩
  | 45 => ⟨S_, .f32⟩
  | 46 => ⟨S12288x4x3, .f32⟩
  | 47 => ⟨S12288x4x3, .f32⟩
  | 48 => ⟨S12288x4x3, .f32⟩
  | 49 => ⟨S454650x30, .f32⟩
  | 50 => ⟨S30x454650, .f32⟩
  | 51 => ⟨S12288x12, .f32⟩
  | 52 => ⟨S12x12288, .f32⟩
  | 53 => ⟨S_, .f32⟩
  | 54 => ⟨S8x12288, .f32⟩
  | 55 => ⟨S_, .f32⟩
  | 56 => ⟨S454650, .f32⟩
  | 57 => ⟨S_, .f32⟩
  | 58 => ⟨S10x128, .f32⟩
  | 59 => ⟨S_, .f32⟩
  | 60 => ⟨S454650x10x3, .f32⟩
  | 61 => ⟨S454650x10x3, .f32⟩
  | 62 => ⟨S454650x10x3, .f32⟩
  | 63 => ⟨S_, .f32⟩
  | 64 => ⟨S454650x10x3, .f32⟩
  | 65 => ⟨S454650x10x3, .f32⟩
  | 66 => ⟨S_, .f32⟩
  | 67 => ⟨S454650x10x3, .f32⟩
  | 68 => ⟨S454650x10x3, .f32⟩
  | 69 => ⟨S454650x10x3, .f32⟩
  | 70 => ⟨S_, .f32⟩
  | 71 => ⟨S454650x10x3, .f32⟩
  | 72 => ⟨S454650x10x3, .f32⟩
  | 73 => ⟨S454650x10x3, .f32⟩
  | 74 => ⟨S_, .f32⟩
  | 75 => ⟨S454650x10x3, .f32⟩
  | 76 => ⟨S454650x10x3, .f32⟩
  | 77 => ⟨S454650x10x3, .f32⟩
  | 78 => ⟨S_, .f32⟩
  | 79 => ⟨S454650x10x3, .f32⟩
  | 80 => ⟨S454650x10x3, .f32⟩
  | 81 => ⟨S454650x10x3, .f32⟩
  | 82 => ⟨S_, .f32⟩
  | 83 => ⟨S454650x10x3, .f32⟩
  | 84 => ⟨S454650x10x3, .f32⟩
  | 85 => ⟨S454650x10x3, .f32⟩
  | 86 => ⟨S_, .f32⟩
  | 87 => ⟨S454650x10x3, .f32⟩
  | 88 => ⟨S454650x10x3, .f32⟩
  | 89 => ⟨S_, .f32⟩
  | 90 => ⟨S454650x10x3, .f32⟩
  | 91 => ⟨S454650x10x3, .f32⟩
  | 92 => ⟨S454650x10x3, .f32⟩
  | 93 => ⟨S454650x10x3, .f32⟩
  | 94 => ⟨S454650x10x3, .f32⟩
  | 95 => ⟨S_, .f32⟩
  | 96 => ⟨S454650x10x3, .f32⟩
  | 97 => ⟨S454650x10x3, .f32⟩
  | 98 => ⟨S_, .f32⟩
  | 99 => ⟨S454650x10x3, .f32⟩
  | 100 => ⟨S454650x10x3, .f32⟩
  | 101 => ⟨S454650x10x3, .f32⟩
  | 102 => ⟨S_, .f32⟩
  | 103 => ⟨S454650x10x3, .f32⟩
  | 104 => ⟨S454650x10x3, .f32⟩
  | 105 => ⟨S_, .f32⟩
  | 106 => ⟨S454650x10x3, .f32⟩
  | 107 => ⟨S454650x10x3, .f32⟩
  | 108 => ⟨S454650x10x3, .f32⟩
  | 109 => ⟨S_, .f32⟩
  | 110 => ⟨S454650x10x3, .f32⟩
  | 111 => ⟨S454650x10x3, .f32⟩
  | 112 => ⟨S454650x10x3, .f32⟩
  | 113 => ⟨S_, .f32⟩
  | 114 => ⟨S454650x10x3, .f32⟩
  | 115 => ⟨S454650x10x3, .f32⟩
  | 116 => ⟨S454650x10x3, .f32⟩
  | 117 => ⟨S_, .f32⟩
  | 118 => ⟨S454650x10x3, .f32⟩
  | 119 => ⟨S454650x10x3, .f32⟩
  | 120 => ⟨S454650x10x3, .f32⟩
  | 121 => ⟨S_, .f32⟩
  | 122 => ⟨S454650x10x3, .f32⟩
  | 123 => ⟨S454650x10x3, .f32⟩
  | 124 => ⟨S454650x10x3, .f32⟩
  | 125 => ⟨S_, .f32⟩
  | 126 => ⟨S454650x10x3, .f32⟩
  | 127 => ⟨S454650x10x3, .f32⟩
  | _ => ⟨S454650x3, .f32⟩

abbrev hbmTy0_1 (i : Nat) : BufTy := match i % 128 with
  | 0 => ⟨S_, .f32⟩
  | 1 => ⟨S454650x10x3, .f32⟩
  | 2 => ⟨S454650x10x3, .f32⟩
  | 3 => ⟨S454650x10x3, .f32⟩
  | 4 => ⟨S454650x10x3, .f32⟩
  | 5 => ⟨S454650x10x1x3, .f32⟩
  | 6 => ⟨S454650x10x1x3, .f32⟩
  | 7 => ⟨S454650x10x2x3, .f32⟩
  | 8 => ⟨S454650x60, .f32⟩
  | 9 => ⟨S454650x63, .f32⟩
  | 10 => ⟨S63x454650, .f32⟩
  | 11 => ⟨S1x13, .f32⟩
  | 12 => ⟨S1x256, .f32⟩
  | 13 => ⟨S1x257, .f32⟩
  | 14 => ⟨S1x12, .f32⟩
  | 15 => ⟨S63x454650, .fp8e4m3⟩
  | 16 => ⟨S454656x256, .fp8e4m3⟩
  | 17 => ⟨S454650, .f32⟩
  | _ => ⟨S454650x3, .f32⟩

abbrev hbmTy (i : Nat) : BufTy := match i / 128 with
  | 0 => hbmTy0_0 i
  | 1 => hbmTy0_1 i
  | _ => ⟨S454650x3, .f32⟩

abbrev bufTy : (tb : Table) → Fin (tcTables nBuf tb) → BufTy
  | .hbm, ⟨i, _⟩ => hbmTy i
  | .local _ .vmem, ⟨0, _⟩ => ⟨S454650x63, .f32⟩
  | .local _ .vmem, ⟨1, _⟩ => ⟨S63x454650, .f32⟩
  | .local _ .vmem, ⟨2, _⟩ => ⟨S63x256, .fp8e4m3⟩
  | .local _ .vmem, ⟨3, _⟩ => ⟨S7x256x256, .fp8e4m3⟩
  | .local _ .vmem, ⟨4, _⟩ => ⟨S63x256, .fp8e4m3⟩
  | .local _ .vmem, ⟨5, _⟩ => ⟨S256x257, .fp8e4m3⟩
  | .local _ .vmem, ⟨6, _⟩ => ⟨S1x13, .f32⟩
  | .local _ .vmem, ⟨7, _⟩ => ⟨S1x256, .f32⟩
  | .local _ .vmem, ⟨8, _⟩ => ⟨S7x256, .f32⟩
  | .local _ .vmem, ⟨9, _⟩ => ⟨S1x257, .f32⟩
  | .local _ .vmem, ⟨10, _⟩ => ⟨S1x12, .f32⟩
  | .local _ .vmem, ⟨11, _⟩ => ⟨S63x454650, .fp8e4m3⟩
  | .local _ .vmem, ⟨12, _⟩ => ⟨S454656x256, .fp8e4m3⟩
  | .local _ .vmem, ⟨13, _⟩ => ⟨S454650, .f32⟩
  | _, _ => ⟨S454650x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_11 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_14 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_17 : Ref sig .tc := ⟨.hbm, 95, rfl⟩
abbrev main_v58 : Ref sig .tc := ⟨.hbm, 96, rfl⟩
abbrev main_v59 : Ref sig .tc := ⟨.hbm, 97, rfl⟩
abbrev main_cst_18 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_v63 : Ref sig .tc := ⟨.hbm, 103, rfl⟩
abbrev main_v64 : Ref sig .tc := ⟨.hbm, 104, rfl⟩
abbrev main_cst_20 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_22 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_24 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_25 : Ref sig .tc := ⟨.hbm, 125, rfl⟩
abbrev main_v80 : Ref sig .tc := ⟨.hbm, 126, rfl⟩
abbrev main_v81 : Ref sig .tc := ⟨.hbm, 127, rfl⟩
abbrev main_cst_26 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96_0 : Ref sig .tc := ⟨.hbm, 143, rfl⟩
abbrev main_v96_1 : Ref sig .tc := ⟨.hbm, 144, rfl⟩
abbrev main_v96_2 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S454650x63 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S63x454650 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S63x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x256x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S63x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x257 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x13 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x257 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S63x454650 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S454656x256 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S454650 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Pre.Ids.lean ====
/-
  What the preconditions say of the ray ids: each is the number of a ray.
-/
module

public import proofs.«01_k».proof.Proof.Gen.Pre_ids_name_rays
public import Idealize.ShloMosaic.Lib.WordCmp

@[expose] public section

noncomputable section

namespace Cert.Pre

open Idealize.ShloMosaic Cert.Pre_ids_name_rays

/-- A word at least 0 and below 12288 as a signed number is below 12288 as a natural number. -/
theorem lt_of_signed {w : BitVec 32} (h : IntOp.andi (IntOp.cmpi .sge w 0#32) (IntOp.cmpi .slt w 12288#32) = 1#1) : w.toNat < 12288 := by
  have h1 : IntOp.cmpi .sge w 0#32 = 1#1 := by
    revert h; generalize IntOp.cmpi .sge w 0#32 = p; generalize IntOp.cmpi .slt w 12288#32 = q; revert p q; decide
  have h2 : IntOp.cmpi .slt w 12288#32 = 1#1 := by
    revert h; generalize IntOp.cmpi .sge w 0#32 = p; generalize IntOp.cmpi .slt w 12288#32 = q; revert p q; decide
  have h1 : decide ((0#32).toInt ≤ w.toInt) = true := (BitVec.ofBool_eq_iff_eq (b' := true)).mp h1
  have h2 : decide (w.toInt < (12288#32).toInt) = true := (BitVec.ofBool_eq_iff_eq (b' := true)).mp h2
  have h1 : (0#32).toInt ≤ w.toInt := of_decide_eq_true h1
  have h2 : w.toInt < (12288#32).toInt := of_decide_eq_true h2
  have e := BitVec.toInt_eq_toNat_cond w
  have z0 : (0#32).toInt = 0 := rfl
  have z1 : (12288#32).toInt = 12288 := rfl
  have := w.isLt
  rw [z0] at h1
  rw [z1] at h2
  split at e <;> omega

theorem ids {F : FTy → Type} [FloatOps F] {a0 : FVec F S454650x3 .f32} {a1 : FVec F S12288x3 .f32} {a2 : FVec F S454650 .f32} {a3 : IVec S12289 32} {a4 : IVec S454650 32} {a5 : FVec F S63x256 .fp8e4m3} {a6 : FVec F S7x256x256 .fp8e4m3} {a7 : FVec F S63x256 .fp8e4m3} {a8 : FVec F S256x257 .fp8e4m3} {a9 : FVec F S256x128 .fp8e4m3} {a10 : FVec F S27x128 .fp8e4m3} {a11 : FVec F S128x3 .fp8e4m3} {a12 : FVec F S13 .f32} {a13 : FVec F S256 .f32} {a14 : FVec F S7x256 .f32} {a15 : FVec F S257 .f32} {a16 : FVec F S128 .f32} {a17 : FVec F S3 .f32} {a18 : FVec F S12 .f32}
    (h : fn (F := F) a0 a1 a2 a3 a4 a5 a6 a7 a8 a9 a10 a11 a12 a13 a14 a15 a16 a17 a18 = fun _ => 1#1) (j : S454650.Idx) : (a4 j).toNat < 12288 :=
  lt_of_signed (congrFun h j)

end Cert.Pre

end
-- ==== Proof.K.Base.lean ====
/-
  What the body's triples are stated over: a buffer held whole, and the two words the body's checks read.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The two words the body reads at a step: the ray numbers of the tile's first and last sample. -/
abbrev w1 (c : Dev nD) (i : grid0.Coords) (M : Memref sig .tc .smem S222 .i32) (f : Bf (F := F) c M) : BitVec 32 :=
  View.readAt (Elt F) M.view (Rect.unit (s := S222) (k0_off4 i) S1.size (k0_off4_inb i)).toLoadRect f (Shape.Idx.first (numel1_S1.symm ▸ Nat.one_pos))
abbrev w2 (c : Dev nD) (i : grid0.Coords) (M : Memref sig .tc .smem S222 .i32) (f : Bf (F := F) c M) : BitVec 32 :=
  View.readAt (Elt F) M.view (Rect.unit (s := S222) (k0_off7 i) S1.size (k0_off7_inb i)).toLoadRect f (Shape.Idx.first (numel1_S1.symm ▸ Nat.one_pos))

end Cert.KernelIdeal.Hand

end
-- ==== Proof.K.RunAT.lean ====
/-
  The kernel body run at the first step, for a tile whose rays span more than one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runAT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.RunAF.lean ====
/-
  The kernel body run at the first step, for a tile whose rays lie in one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runAF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.RunBT.lean ====
/-
  The kernel body run at a step between the first and the last, for a tile whose rays span more than one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runBT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.RunBF.lean ====
/-
  The kernel body run at a step between the first and the last, for a tile whose rays lie in one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runBF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.RunCT.lean ====
/-
  The kernel body run at the last step, for a tile whose rays span more than one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runCT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.RunCF.lean ====
/-
  The kernel body run at the last step, for a tile whose rays lie in one window of 128:
  what it leaves in its fifteen outputs and scratch buffers, found by the run itself.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runCF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.KernelIdeal.Hand

end
-- ==== Proof.K.Checks.lean ====
/-
  The assumptions the kernel body makes of the two words it reads per step: the ray numbers of the first and of the
  last sample of a tile. Both below the number of rays implies every window of 128 rays the body names lies inside its
  tables of 98 blocks.
-/
module

public import proofs.«01_k».proof.KernelIdeal
public import Idealize.ShloMosaic.Lib.Affine
public import Idealize.ShloMosaic.Lib.LoopRemainder
public import Idealize.ShloMosaic.Lib.WordCmp
public import Idealize.ShloMosaic.Lib.Tactic

@[expose] public section

noncomputable section

namespace Cert.KernelIdeal.Hand

open Cert.KernelIdeal
open Idealize.ShloMosaic Idealize.ShloMosaic.TcCoe Idealize.ShloMosaic.Tactic

/-- Python's `b // 128` as the kernel computes it from a word. -/
def fd (b : BitVec 32) : BitVec 32 :=
  Scalar.select (Scalar.andi
      (Scalar.cmpi .ne (Scalar.subi (Scalar.extui (Scalar.cmpi .sgt b 0#32)) (Scalar.extui (Scalar.cmpi .slt b 0#32)))
        (Scalar.subi (Scalar.extui (Scalar.cmpi .sgt 128#32 0#32)) (Scalar.extui (Scalar.cmpi .slt 128#32 0#32))))
      (Scalar.cmpi .ne (Scalar.remsi b 128#32) 0#32))
    (Scalar.subi (Scalar.divsi b 128#32) 1#32) (Scalar.divsi b 128#32)

theorem isInt_iff {x : BitVec 32} {e : Int} : Affine.IsInt x e ↔ x.toInt = e := by unfold Affine.IsInt; exact Iff.rfl

open Affine in
/-- On a word that is not negative it is the quotient. -/
theorem fd_isInt {b : BitVec 32} {e : Int} (hb : IsInt b e) (h0 : 0 ≤ e) (h1 : e < 2 ^ 31) : IsInt (fd b) (e / 128) := by
  have h128 : IsInt (128#32 : BitVec 32) 128 := Affine.ofNat 128 ⟨rfl, by decide⟩
  have hz : IsInt (0#32 : BitVec 32) 0 := Affine.ofNat 0 ⟨rfl, by decide⟩
  have hd : IsInt (Scalar.divsi b 128#32) (e / 128) := Affine.divsi hb h128 ⟨rfl, h0, by decide⟩
  have hr : IsInt (Scalar.remsi b 128#32) (e % 128) := Affine.remsi hb h128 ⟨rfl, h0, by decide⟩
  have h1' : IsInt (Scalar.subi (Scalar.divsi b 128#32) 1#32) (e / 128 - 1) :=
    Affine.subi hd (Affine.ofNat 1 ⟨rfl, by decide⟩) ⟨rfl, by omega, by omega⟩
  have hs : IsInt (Scalar.subi (Scalar.extui (Scalar.cmpi .sgt 128#32 0#32)) (Scalar.extui (Scalar.cmpi .slt 128#32 0#32)) : BitVec 32) 1 :=
    Affine.subi (Affine.extui_holds (Affine.sgt_holds h128 hz (by decide)) rfl)
      (Affine.extui_fails (Affine.slt_fails h128 hz (by decide)) rfl) ⟨rfl, by decide, by decide⟩
  unfold fd
  by_cases hp : 0 < e
  · have hsb : IsInt (Scalar.subi (Scalar.extui (Scalar.cmpi .sgt b 0#32)) (Scalar.extui (Scalar.cmpi .slt b 0#32)) : BitVec 32) 1 :=
      Affine.subi (Affine.extui_holds (Affine.sgt_holds hb hz hp) rfl)
        (Affine.extui_fails (Affine.slt_fails hb hz (by omega)) rfl) ⟨rfl, by decide, by decide⟩
    exact Affine.select_fails (Affine.andi_fails_left (Affine.ne_fails hsb hs rfl) trivial) h1' hd rfl
  · have he : e = 0 := by omega
    exact Affine.select_fails (Affine.andi_fails_right trivial (Affine.ne_fails hr hz (by rw [he]; rfl))) h1' hd rfl

/-- A block number below 97 and the one after it name blocks of the tables. -/
theorem inb {S : Shape} {x : BitVec 32} {e : Int} (f g h : Fin 3 → Nat) (hx : Affine.IsInt x e) (h0 : 0 ≤ e) (h1 : e ≤ 97)
    (hf : f = ![(Scalar.indexCast x).toNat, 0, 0]) (hg : g 0 = 1) (hh : h 0 = 98) (h2 : g 1 = h 1) (h3 : g 2 = h 2) :
    ∀ a, f a + g a ≤ h a := by
  subst hf
  intro a
  have hn : ((Scalar.indexCast x).toNat : Int) = e := Affine.toNat_of (Affine.indexCast hx) h0
  match a with
  | ⟨0, _⟩ => show (Scalar.indexCast x).toNat + g 0 ≤ h 0; omega
  | ⟨1, _⟩ => show 0 + g 1 ≤ h 1; omega
  | ⟨2, _⟩ => show 0 + g 2 ≤ h 2; omega

theorem one_isInt : Affine.IsInt (1#32 : BitVec 32) 1 := Affine.ofNat 1 ⟨rfl, by decide⟩
theorem c128_isInt : Affine.IsInt (128#32 : BitVec 32) 128 := Affine.ofNat 128 ⟨rfl, by decide⟩

theorem word_isInt {v : BitVec 32} (h : v.toNat < 12288) : Affine.IsInt v (v.toNat : Int) := by
  have := Affine.word v
  rwa [WordCmp.toInt_eq_toNat_of_lt_half (by omega : v.toNat < 2 ^ (32 - 1))] at this

theorem fd_next {b : BitVec 32} {e : Int} (hb : Affine.IsInt (fd b) e) (h0 : 0 ≤ e) (h1 : e ≤ 96) :
    Affine.IsInt (Scalar.addi (fd b) 1#32) (e + 1) :=
  Affine.addi hb one_isInt ⟨rfl, by omega, by omega⟩

/-- The first check: the first sample's ray number names two blocks of the tables. -/
theorem chk1_of {v : BitVec 32} (h : v.toNat < 12288) : k0_chk1 v := by
  have hv := fd_isInt (word_isInt h) (by omega) (by omega)
  have hv' := fd_next hv (by omega) (by omega)
  exact ⟨inb (S := S98x32x128) _ _ _ hv (by omega) (by omega) rfl rfl rfl rfl rfl,
    inb (S := S98x32x128) _ _ _ hv' (by omega) (by omega) rfl rfl rfl rfl rfl,
    inb (S := S98x8x128) _ _ _ hv (by omega) (by omega) rfl rfl rfl rfl rfl,
    inb (S := S98x8x128) _ _ _ hv' (by omega) (by omega) rfl rfl rfl rfl rfl⟩

/-- The number of further windows of 128 rays, as the kernel computes it. -/
theorem extra_pos {a b : BitVec 32} (h : k0_cond2 a b = 1#1) : Affine.Holds (Scalar.cmpi .sgt (fd (Scalar.subi b a)) 0#32) := by
  have h' : Scalar.cmpi .ne (Scalar.extui (Scalar.cmpi .sgt (fd (Scalar.subi b a)) 0#32)) 0#32 = 1#1 := h
  exact (Scalar.guard_iff _).mp h'

theorem sub_isInt {a b : BitVec 32} (ha : a.toNat < 12288) (hb : b.toNat < 12288) :
    Affine.IsInt (Scalar.subi b a) ((b.toNat : Int) - a.toNat) :=
  Affine.subi (word_isInt hb) (word_isInt ha) ⟨rfl, by omega, by omega⟩

/-- The last further window's number is the quotient, and there is one only if the last sample's ray is past the first's window. -/
theorem extra_bounds {a b : BitVec 32} (ha : a.toNat < 12288) (hb : b.toNat < 12288) (h : k0_cond2 a b = 1#1) :
    ∃ X : Int, Affine.IsInt (fd (Scalar.subi b a)) X ∧ 1 ≤ X ∧ X * 128 ≤ (b.toNat : Int) - a.toNat := by
  have hs := sub_isInt ha hb
  have hp := extra_pos h
  have hz : Affine.IsInt (0#32 : BitVec 32) 0 := Affine.ofNat 0 ⟨rfl, by decide⟩
  by_cases h0 : (0 : Int) ≤ (b.toNat : Int) - a.toNat
  · have hX := fd_isInt hs h0 (by omega)
    refine ⟨_, hX, ?_, by omega⟩
    by_contra hc
    exact Affine.sgt_fails hX hz (by omega) hp
  · exfalso
    have hd : (Scalar.divsi (Scalar.subi b a) 128#32).toInt = ((b.toNat : Int) - a.toNat).tdiv 128 := by
      have hi : (Scalar.subi b a).toInt = (b.toNat : Int) - a.toNat := (isInt_iff).mp hs
      show (IntOp.divsi .scalar (Scalar.subi b a) 128#32).toInt = _
      unfold IntOp.divsi
      rw [if_neg (IntOp.not_corner_of_pos (by decide)), BitVec.toInt_sdiv_of_ne_or_ne _ _ (Or.inr (by decide)), hi]
      rfl
    have hle : ((b.toNat : Int) - a.toNat).tdiv 128 ≤ 0 := by
      rw [show (b.toNat : Int) - a.toNat = -((a.toNat : Int) - b.toNat) by omega, Int.neg_tdiv]
      have := Int.tdiv_nonneg (a := (a.toNat : Int) - b.toNat) (b := 128) (by omega) (by decide)
      omega
    have hge : -12288 ≤ ((b.toNat : Int) - a.toNat).tdiv 128 := by
      rw [show (b.toNat : Int) - a.toNat = -((a.toNat : Int) - b.toNat) by omega, Int.neg_tdiv]
      have := Int.tdiv_le_self (a := (a.toNat : Int) - b.toNat) 128 (by omega)
      omega
    have hD : Affine.IsInt (Scalar.divsi (Scalar.subi b a) 128#32) (((b.toNat : Int) - a.toNat).tdiv 128) := (isInt_iff).mpr hd
    have hD' : Affine.IsInt (Scalar.subi (Scalar.divsi (Scalar.subi b a) 128#32) 1#32) (((b.toNat : Int) - a.toNat).tdiv 128 - 1) :=
      Affine.subi hD one_isInt ⟨rfl, by omega, by omega⟩
    unfold fd at hp
    generalize hc : Scalar.andi (Scalar.cmpi .ne (Scalar.subi (Scalar.extui (Scalar.cmpi .sgt (Scalar.subi b a) 0#32)) (Scalar.extui (Scalar.cmpi .slt (Scalar.subi b a) 0#32)))
        (Scalar.subi (Scalar.extui (Scalar.cmpi .sgt 128#32 0#32)) (Scalar.extui (Scalar.cmpi .slt 128#32 0#32))))
      (Scalar.cmpi .ne (Scalar.remsi (Scalar.subi b a) 128#32) 0#32) = c at hp
    by_cases hc1 : c = 1#1
    · rw [WordCmp.select_of_eq_one hc1] at hp
      exact Affine.sgt_fails hD' hz (by omega) hp
    · have hc0 : c = 0#1 := by clear hp hc; revert c; decide
      rw [WordCmp.select_of_eq_zero hc0] at hp
      exact Affine.sgt_fails hD hz (by omega) hp

theorem t2_ub {a b : BitVec 32} {X : Int} (hX : Affine.IsInt (fd (Scalar.subi b a)) X) (h1 : 1 ≤ X) (h2 : X ≤ 96) :
    Affine.IsInt (Scalar.addi 1#32 (Scalar.muli (Scalar.divsi (Scalar.subi (Scalar.addi (fd (Scalar.subi b a)) 1#32) 1#32) 1#32) 1#32)) (X + 1) := by
  have e1 := fd_next hX (by omega) h2
  have e2 : Affine.IsInt (Scalar.subi (Scalar.addi (fd (Scalar.subi b a)) 1#32) 1#32) X := Affine.subi e1 one_isInt ⟨by omega, by omega, by omega⟩
  have e3 := Affine.divsi_one e2 one_isInt ⟨rfl, rfl⟩
  have e4 := Affine.muli (e := X) e3 one_isInt ⟨by omega, by omega, by omega⟩
  exact Affine.addi one_isInt e4 ⟨by omega, by omega, by omega⟩

/-- The block number of further window `k`, and its bounds. -/
theorem base_isInt {a b : BitVec 32} (ha : a.toNat < 12288) (hb : b.toNat < 12288) {X : Int} (hX : Affine.IsInt (fd (Scalar.subi b a)) X)
    (h1 : 1 ≤ X) (h2 : X * 128 ≤ (b.toNat : Int) - a.toNat)
    (k : Fin (Scf.trips (1#32) (Scalar.addi 1#32 (Scalar.muli (Scalar.divsi (Scalar.subi (Scalar.addi (fd (Scalar.subi b a)) 1#32) 1#32) 1#32) 1#32)) 1#32)) :
    ∃ e : Int, Affine.IsInt (fd (Scalar.addi a (Scalar.muli (Scf.iv 1#32 1#32 k) 128#32))) e ∧ 0 ≤ e ∧ e ≤ 96 := by
  have hu := t2_ub hX h1 (by omega)
  have ht := Affine.trips_eq one_isInt hu one_isInt X.toNat ⟨by decide, by omega⟩
  have hk := k.isLt
  have hk : k.val < X.toNat := lt_of_lt_of_eq hk ht
  have hi : Affine.IsInt (Scf.iv 1#32 1#32 k) (1 + (k.val : Int)) := Affine.iv one_isInt one_isInt k ⟨by omega, by omega, by omega⟩
  have hm := Affine.muli (e := (1 + (k.val : Int)) * 128) hi c128_isInt ⟨rfl, by omega, by omega⟩
  have ha' := Affine.addi (e := (a.toNat : Int) + (1 + (k.val : Int)) * 128) (word_isInt ha) hm ⟨rfl, by omega, by omega⟩
  exact ⟨_, fd_isInt ha' (by omega) (by omega), by omega, by omega⟩

/-- The second check: every further window of a tile names two blocks of the tables, and the loops over them count. -/
theorem chk2_of {a b : BitVec 32} (ha : a.toNat < 12288) (hb : b.toNat < 12288) : k0_chk2 a b := by
  have ok (h : k0_cond2 a b = 1#1) : (k0_t2_loop a b).OK := by
    obtain ⟨X, hX, h1, h2⟩ := extra_bounds ha hb h
    exact Affine.ok one_isInt (t2_ub hX h1 (by omega)) one_isInt ⟨by decide, by omega⟩
  have base (h : k0_cond2 a b = 1#1) (k : Fin (k0_t2_loop a b).trips) :
      ∃ e : Int, Affine.IsInt (fd (Scalar.addi a (Scalar.muli (Scf.iv 1#32 1#32 k) 128#32))) e ∧ 0 ≤ e ∧ e ≤ 96 := by
    obtain ⟨X, hX, h1, h2⟩ := extra_bounds ha hb h
    exact base_isInt ha hb hX h1 h2 k
  refine ⟨ok, fun k h => ?_, fun k h => ?_, fun _ => Scf.rem_ok _ _, fun k _ => (Scf.rem_no_trip _ _ k).elim, fun k _ => (Scf.rem_no_trip _ _ k).elim,
    ok, fun k h => ?_, fun k h => ?_, fun _ => Scf.rem_ok _ _, fun k _ => (Scf.rem_no_trip _ _ k).elim, fun k _ => (Scf.rem_no_trip _ _ k).elim⟩
  · obtain ⟨e, he, h0, h1⟩ := base h k
    exact inb (S := S98x32x128) _ _ _ he h0 (by omega) rfl rfl rfl rfl rfl
  · obtain ⟨e, he, h0, h1⟩ := base h k
    exact inb (S := S98x32x128) _ _ _ (fd_next he h0 h1) (by omega) (by omega) rfl rfl rfl rfl rfl
  · obtain ⟨e, he, h0, h1⟩ := base h k
    exact inb (S := S98x8x128) _ _ _ he h0 (by omega) rfl rfl rfl rfl rfl
  · obtain ⟨e, he, h0, h1⟩ := base h k
    exact inb (S := S98x8x128) _ _ _ (fd_next he h0 h1) (by omega) (by omega) rfl rfl rfl rfl rfl

end Cert.KernelIdeal.Hand
end
-- ==== Proof.K.Step.lean ====
/-
  One step of the kernel, whichever of its six runs it is: first, middle or last; the tile's rays in one window of 128 or in more.
-/
module

public import proofs.«01_k».proof.Proof.K.RunAT
public import proofs.«01_k».proof.Proof.K.RunAF
public import proofs.«01_k».proof.Proof.K.RunBT
public import proofs.«01_k».proof.Proof.K.RunBF
public import proofs.«01_k».proof.Proof.K.RunCT
public import proofs.«01_k».proof.Proof.K.RunCF
public import proofs.«01_k».proof.Proof.K.Checks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)

/-- The contents `W` of the outputs and scratch buffers is what one of the six runs leaves. -/
inductive Step : (Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32) → Prop
  | rAT HC1 HC2 (hc1 : k0_cond1 i = 1#1) (hc4 : ¬ k0_cond4 i = 1#1) (hc2 : k0_cond2 (w1 c i arg1 f1) (w2 c i arg2 f2) = 1#1) (hc3 : k0_cond3 (w1 c i arg1 f1) (w2 c i arg2 f2) = 1#1) :
      Step (runAT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rAF HC1 HC2 (hc1 : k0_cond1 i = 1#1) (hc4 : ¬ k0_cond4 i = 1#1) (hc2 : ¬ k0_cond2 (w1 c i arg1 f1) (w2 c i arg2 f2) = 1#1) (hc3 : ¬ k0_cond3 (w1 c i arg1 f1) (w2 c i arg2 f2) = 1#1) :
      Step (runAF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rBT HC1 HC2 (hc1 : ¬ k0_cond1 i = 1#1) (hc4 : ¬ k0_cond4 i = 1#1) (hc2 : k0_cond2 (w1 c i arg1 f1) (w2 c i arg2 f2) = 1#1) (hc3 : k0_cond3 (w1 c i arg1 f1) (w2 c i arg2 f2) = 1#1) :
      Step (runBT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rBF HC1 HC2 (hc1 : ¬ k0_cond1 i = 1#1) (hc4 : ¬ k0_cond4 i = 1#1) (hc2 : ¬ k0_cond2 (w1 c i arg1 f1) (w2 c i arg2 f2) = 1#1) (hc3 : ¬ k0_cond3 (w1 c i arg1 f1) (w2 c i arg2 f2) = 1#1) :
      Step (runBF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rCT HC1 HC2 (hc1 : ¬ k0_cond1 i = 1#1) (hc4 : k0_cond4 i = 1#1) (hc2 : k0_cond2 (w1 c i arg1 f1) (w2 c i arg2 f2) = 1#1) (hc3 : k0_cond3 (w1 c i arg1 f1) (w2 c i arg2 f2) = 1#1) :
      Step (runCT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rCF HC1 HC2 (hc1 : ¬ k0_cond1 i = 1#1) (hc4 : k0_cond4 i = 1#1) (hc2 : ¬ k0_cond2 (w1 c i arg1 f1) (w2 c i arg2 f2) = 1#1) (hc3 : ¬ k0_cond3 (w1 c i arg1 f1) (w2 c i arg2 f2) = 1#1) :
      Step (runCF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1

/-- A step is not both the first and the last. -/
theorem not_cond4_of_cond1 (h : k0_cond1 i = 1#1) : ¬ k0_cond4 i = 1#1 := by
  intro h4
  unfold k0_cond1 at h
  unfold k0_cond4 at h4
  have e1 := (Scalar.guard_iff _).mp h
  have e4 := (Scalar.guard_iff _).mp h4
  have e1' := IntOp.cmpi_eq.mp e1
  have e4' := IntOp.cmpi_eq.mp e4
  rw [e1'] at e4'
  exact absurd e4' (by decide)

/-- From any contents, the two words being ray numbers, the body runs to its return and leaves what one of its runs leaves. -/
theorem body_step (H1 : (w1 c i arg1 f1).toNat < 12288) (H2 : (w2 c i arg2 f2).toNat < 12288) (g : PrngReg) (E : Set ℕ) (Q : PUnit → sProp 𝕄) (R : sProp 𝕄)
    (hQ : ∀ W, Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 W → iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r) ∗ R) ⊢ Q ⟨⟩) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g ∗ R) ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q := by
  have HC1 : ∀ v, v = w1 c i arg1 f1 → k0_chk1 v := fun v h => h ▸ chk1_of H1
  have HC2 : ∀ a b, a = w1 c i arg1 f1 → b = w2 c i arg2 f2 → k0_chk2 a b := fun a b h h' => by rw [h, h']; exact chk2_of H1 H2
  have fin : ∀ (X : { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 // ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q }), Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 X.1 →
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g ∗ R) ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q := by
    intro X hX
    have hq := hQ _ hX
    iintro ⟨H1, H2, H3, H4, H5, H6, H7, H8, H9, H10, H11, H12, H13, H14, H15, H16, H17, H18, H19, H20, H21, H22, H23, H24, H25, H26, H27, H28, H29, H30, H31, H32, Hg, HR⟩
    iapply (X.2 g E Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [Hg]; · iexact Hg
    iintro ⟨H1, H2, H3, H4, H5, H6, H7, H8, H9, H10, H11, H12, H13, H14, H15, H16, H17, H18, H19, H20, H21, H22, H23, H24, H25, H26, H27, H28, H29, H30, H31, H32, Hg⟩
    iapply hq
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [Hg]; · iexact Hg
    iexact HR
  have h23 : k0_cond3 (w1 c i arg1 f1) (w2 c i arg2 f2) = k0_cond2 (w1 c i arg1 f1) (w2 c i arg2 f2) := rfl
  by_cases hc2 : k0_cond2 (w1 c i arg1 f1) (w2 c i arg2 f2) = 1#1 <;> by_cases hc1 : k0_cond1 i = 1#1
  · exact fin _ (.rAT HC1 HC2 hc1 (not_cond4_of_cond1 i hc1) hc2 (h23.trans hc2))
  · by_cases hc4 : k0_cond4 i = 1#1
    · exact fin _ (.rCT HC1 HC2 hc1 hc4 hc2 (h23.trans hc2))
    · exact fin _ (.rBT HC1 HC2 hc1 hc4 hc2 (h23.trans hc2))
  · exact fin _ (.rAF HC1 HC2 hc1 (not_cond4_of_cond1 i hc1) hc2 (h23 ▸ hc2))
  · by_cases hc4 : k0_cond4 i = 1#1
    · exact fin _ (.rCF HC1 HC2 hc1 hc4 hc2 (h23 ▸ hc2))
    · exact fin _ (.rBF HC1 HC2 hc1 hc4 hc2 (h23 ▸ hc2))

end Cert.KernelIdeal.Hand

end
-- ==== Proof.K.Body.lean ====
/-
  The pipeline's body obligation and the run of @main, for any predicate `Rl` on what each output window is left at and any
  invariant `Inv` on what the scratch buffers hold between steps that the six runs of the body meet (`StepOK`).
-/
module

public import proofs.«01_k».proof.Proof.K.Step
public import proofs.«01_k».proof.Proof.Gen.KernelIdeal.Frame
public import Idealize.ShloMosaic.Lib.Pipeline.DatRel
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- Window 0's staging memref at point `t`. -/
abbrev ms0 (t : Fin cfg0.N) : Memref sig .tc .smem S222 .i32 := win0_0.stage (cfg0.slots t 0)
theorem hs0 (t : Fin cfg0.N) : (ms0 t).IsWhole := hstage0_0 ((cfg0.slots t 0).cast nbuf0_0)
/-- Window 1's staging memref at point `t`. -/
abbrev ms1 (t : Fin cfg0.N) : Memref sig .tc .smem S222 .i32 := win0_1.stage (cfg0.slots t 1)
theorem hs1 (t : Fin cfg0.N) : (ms1 t).IsWhole := hstage0_1 ((cfg0.slots t 1).cast nbuf0_1)
/-- Window 2's staging memref at point `t`. -/
abbrev ms2 (t : Fin cfg0.N) : Memref sig .tc .smem S18 .f32 := win0_2.stage (cfg0.slots t 2)
theorem hs2 (t : Fin cfg0.N) : (ms2 t).IsWhole := hstage0_2 ((cfg0.slots t 2).cast nbuf0_2)
/-- Window 3's staging memref at point `t`. -/
abbrev ms3 (t : Fin cfg0.N) : Memref sig .tc .vmem S3x2048 .f32 := win0_3.stage (cfg0.slots t 3)
theorem hs3 (t : Fin cfg0.N) : (ms3 t).IsWhole := hstage0_3 ((cfg0.slots t 3).cast nbuf0_3)
/-- Window 4's staging memref at point `t`. -/
abbrev ms4 (t : Fin cfg0.N) : Memref sig .tc .vmem S2048 .f32 := win0_4.stage (cfg0.slots t 4)
theorem hs4 (t : Fin cfg0.N) : (ms4 t).IsWhole := hstage0_4 ((cfg0.slots t 4).cast nbuf0_4)
/-- Window 5's staging memref at point `t`. -/
abbrev ms5 (t : Fin cfg0.N) : Memref sig .tc .vmem S2048 .i32 := win0_5.stage (cfg0.slots t 5)
theorem hs5 (t : Fin cfg0.N) : (ms5 t).IsWhole := hstage0_5 ((cfg0.slots t 5).cast nbuf0_5)
/-- Window 6's staging memref at point `t`. -/
abbrev ms6 (t : Fin cfg0.N) : Memref sig .tc .vmem S3x12288 .f32 := win0_6.stage (cfg0.slots t 6)
theorem hs6 (t : Fin cfg0.N) : (ms6 t).IsWhole := hstage0_6 ((cfg0.slots t 6).cast nbuf0_6)
/-- Window 7's staging memref at point `t`. -/
abbrev ms7 (t : Fin cfg0.N) : Memref sig .tc .vmem S63x256 .fp8e4m3 := win0_7.stage (cfg0.slots t 7)
theorem hs7 (t : Fin cfg0.N) : (ms7 t).IsWhole := hstage0_7 ((cfg0.slots t 7).cast nbuf0_7)
/-- Window 8's staging memref at point `t`. -/
abbrev ms8 (t : Fin cfg0.N) : Memref sig .tc .vmem S7x256x256 .fp8e4m3 := win0_8.stage (cfg0.slots t 8)
theorem hs8 (t : Fin cfg0.N) : (ms8 t).IsWhole := hstage0_8 ((cfg0.slots t 8).cast nbuf0_8)
/-- Window 9's staging memref at point `t`. -/
abbrev ms9 (t : Fin cfg0.N) : Memref sig .tc .vmem S63x256 .fp8e4m3 := win0_9.stage (cfg0.slots t 9)
theorem hs9 (t : Fin cfg0.N) : (ms9 t).IsWhole := hstage0_9 ((cfg0.slots t 9).cast nbuf0_9)
/-- Window 10's staging memref at point `t`. -/
abbrev ms10 (t : Fin cfg0.N) : Memref sig .tc .vmem S256x256 .fp8e4m3 := win0_10.stage (cfg0.slots t 10)
theorem hs10 (t : Fin cfg0.N) : (ms10 t).IsWhole := hstage0_10 ((cfg0.slots t 10).cast nbuf0_10)
/-- Window 11's staging memref at point `t`. -/
abbrev ms11 (t : Fin cfg0.N) : Memref sig .tc .vmem S32x256 .fp8e4m3 := win0_11.stage (cfg0.slots t 11)
theorem hs11 (t : Fin cfg0.N) : (ms11 t).IsWhole := hstage0_11 ((cfg0.slots t 11).cast nbuf0_11)
/-- Window 12's staging memref at point `t`. -/
abbrev ms12 (t : Fin cfg0.N) : Memref sig .tc .vmem S256x128 .fp8e4m3 := win0_12.stage (cfg0.slots t 12)
theorem hs12 (t : Fin cfg0.N) : (ms12 t).IsWhole := hstage0_12 ((cfg0.slots t 12).cast nbuf0_12)
/-- Window 13's staging memref at point `t`. -/
abbrev ms13 (t : Fin cfg0.N) : Memref sig .tc .vmem S27x128 .fp8e4m3 := win0_13.stage (cfg0.slots t 13)
theorem hs13 (t : Fin cfg0.N) : (ms13 t).IsWhole := hstage0_13 ((cfg0.slots t 13).cast nbuf0_13)
/-- Window 14's staging memref at point `t`. -/
abbrev ms14 (t : Fin cfg0.N) : Memref sig .tc .vmem S3x128 .fp8e4m3 := win0_14.stage (cfg0.slots t 14)
theorem hs14 (t : Fin cfg0.N) : (ms14 t).IsWhole := hstage0_14 ((cfg0.slots t 14).cast nbuf0_14)
/-- Window 15's staging memref at point `t`. -/
abbrev ms15 (t : Fin cfg0.N) : Memref sig .tc .vmem S16x256 .f32 := win0_15.stage (cfg0.slots t 15)
theorem hs15 (t : Fin cfg0.N) : (ms15 t).IsWhole := hstage0_15 ((cfg0.slots t 15).cast nbuf0_15)
/-- Window 16's staging memref at point `t`. -/
abbrev ms16 (t : Fin cfg0.N) : Memref sig .tc .vmem S8x128 .f32 := win0_16.stage (cfg0.slots t 16)
theorem hs16 (t : Fin cfg0.N) : (ms16 t).IsWhole := hstage0_16 ((cfg0.slots t 16).cast nbuf0_16)
/-- Window 17's staging memref at point `t`. -/
abbrev ms17 (t : Fin cfg0.N) : Memref sig .tc .vmem S8x12288 .f32 := win0_17.stage (cfg0.slots t 17)
theorem hs17 (t : Fin cfg0.N) : (ms17 t).IsWhole := hstage0_17 ((cfg0.slots t 17).cast nbuf0_17)
/-- Window 18's staging memref at point `t`. -/
abbrev ms18 (t : Fin cfg0.N) : Memref sig .tc .vmem S2048 .f32 := win0_18.stage (cfg0.slots t 18)
theorem hs18 (t : Fin cfg0.N) : (ms18 t).IsWhole := hstage0_18 ((cfg0.slots t 18).cast nbuf0_18)
/-- Window 19's staging memref at point `t`. -/
abbrev ms19 (t : Fin cfg0.N) : Memref sig .tc .vmem S2048 .f32 := win0_19.stage (cfg0.slots t 19)
theorem hs19 (t : Fin cfg0.N) : (ms19 t).IsWhole := hstage0_19 ((cfg0.slots t 19).cast nbuf0_19)
/-- Window 20's staging memref at point `t`. -/
abbrev ms20 (t : Fin cfg0.N) : Memref sig .tc .vmem S10x128 .f32 := win0_20.stage (cfg0.slots t 20)
theorem hs20 (t : Fin cfg0.N) : (ms20 t).IsWhole := hstage0_20 ((cfg0.slots t 20).cast nbuf0_20)
/-- Window 21's staging memref at point `t`. -/
abbrev ms21 (t : Fin cfg0.N) : Memref sig .tc .vmem S63x2048 .fp8e4m3 := win0_21.stage (cfg0.slots t 21)
theorem hs21 (t : Fin cfg0.N) : (ms21 t).IsWhole := hstage0_21 ((cfg0.slots t 21).cast nbuf0_21)
/-- Window 22's staging memref at point `t`. -/
abbrev ms22 (t : Fin cfg0.N) : Memref sig .tc .vmem S2048x256 .fp8e4m3 := win0_22.stage (cfg0.slots t 22)
theorem hs22 (t : Fin cfg0.N) : (ms22 t).IsWhole := hstage0_22 ((cfg0.slots t 22).cast nbuf0_22)
/-- Window 23's staging memref at point `t`. -/
abbrev ms23 (t : Fin cfg0.N) : Memref sig .tc .vmem S30x2048 .f32 := win0_23.stage (cfg0.slots t 23)
theorem hs23 (t : Fin cfg0.N) : (ms23 t).IsWhole := hstage0_23 ((cfg0.slots t 23).cast nbuf0_23)
/-- Window 24's staging memref at point `t`. -/
abbrev ms24 (t : Fin cfg0.N) : Memref sig .tc .vmem S12x12288 .f32 := win0_24.stage (cfg0.slots t 24)
theorem hs24 (t : Fin cfg0.N) : (ms24 t).IsWhole := hstage0_24 ((cfg0.slots t 24).cast nbuf0_24)

/-- Scratch buffer 0, whole. -/
abbrev sM0 : Memref sig .tc .vmem S10x8x256 .f32 := Memref.whole cc0_scratch0
/-- Scratch buffer 1, whole. -/
abbrev sM1 : Memref sig .tc .vmem S98x32x128 .f32 := Memref.whole cc0_scratch1
/-- Scratch buffer 2, whole. -/
abbrev sM2 : Memref sig .tc .vmem S98x8x128 .f32 := Memref.whole cc0_scratch2
/-- Scratch buffer 3, whole. -/
abbrev sM3 : Memref sig .tc .vmem S8x128 .f32 := Memref.whole cc0_scratch3
/-- Scratch buffer 4, whole. -/
abbrev sM4 : Memref sig .tc .vmem S8x128 .i32 := Memref.whole cc0_scratch4
/-- Scratch buffer 5, whole. -/
abbrev sM5 : Memref sig .tc .vmem S32x2048 .f32 := Memref.whole cc0_scratch5
/-- Scratch buffer 6, whole. -/
abbrev sM6 : Memref sig .tc .vmem S16x128 .f32 := Memref.whole cc0_scratch6

/-- The contents of the seven scratch buffers. -/
abbrev Scr (c : Dev nD) : Type := Bf (F := F) c sM0 × Bf (F := F) c sM1 × Bf (F := F) c sM2 × Bf (F := F) c sM3 × Bf (F := F) c sM4 × Bf (F := F) c sM5 × Bf (F := F) c sM6

/-- The windows held to a predicate: every output, and the three inputs whose last block reaches past the array. -/
def fgt : Fin cfg0.W → Bool := fun w => decide (w.val = 3 ∨ w.val = 4 ∨ w.val = 5 ∨ 17 ≤ w.val)

variable (Inv : (c : Dev nD) → ℕ → Scr (F := F) c → Prop)
variable (Rl : (c : Dev nD) → (w : Fin cfg0.W) → Fin cfg0.N → ((cfg0.win w).block.Idx → Elt F (cfg0.win w).elt) → Prop)

/-- The invariant between steps: the scratch buffers at contents that `Inv` admits, the generator register at some state. -/
def PhiS (c : Dev nD) (t : ℕ) : sProp 𝕄 :=
  iprop(∃ S : Scr (F := F) c, ⌜Inv c t S⌝ ∗ pt c sM0 S.1 ∗ pt c sM1 S.2.1 ∗ pt c sM2 S.2.2.1 ∗ pt c sM3 S.2.2.2.1 ∗ pt c sM4 S.2.2.2.2.1 ∗ pt c sM5 S.2.2.2.2.2.1 ∗ pt c sM6 S.2.2.2.2.2.2 ∗ ∃ r, prngReg c r)

/-- The proof data: each array as the region finds it, an input window left at its block, the invariant `PhiS`. -/
def dats (_ : Fin 1) (c : Dev nD) : Dat τ (Elt F) Unit ℕ (UR sig nD τ) ℕ cfg0 c where
  A w := V m c (Pipeline.arrRef spec0 w)
  after w t := (cfg0.win w).fill (cfg0.grid.coords t) (Pipeline.Dat.unnamed (cfg := cfg0) w t) (iblk m c w t)
  Φ t := PhiS Inv c t.val
  q _ := fullShare
  owed _ := 0

theorem A_eq (c : Dev nD) (w : Fin cfg0.W) : (dats m Inv 0 c).A w = V m c (Pipeline.arrRef spec0 w) := by dsimp only [dats]

theorem after0 (c : Dev nD) (t : Fin cfg0.N) : (dats m Inv 0 c).after 0 t = iblk m c 0 t := rfl
theorem after1 (c : Dev nD) (t : Fin cfg0.N) : (dats m Inv 0 c).after 1 t = iblk m c 1 t := rfl
theorem after2 (c : Dev nD) (t : Fin cfg0.N) : (dats m Inv 0 c).after 2 t = iblk m c 2 t := rfl
theorem after6 (c : Dev nD) (t : Fin cfg0.N) : (dats m Inv 0 c).after 6 t = iblk m c 6 t := rfl
theorem after7 (c : Dev nD) (t : Fin cfg0.N) : (dats m Inv 0 c).after 7 t = iblk m c 7 t := rfl
theorem after8 (c : Dev nD) (t : Fin cfg0.N) : (dats m Inv 0 c).after 8 t = iblk m c 8 t := rfl
theorem after9 (c : Dev nD) (t : Fin cfg0.N) : (dats m Inv 0 c).after 9 t = iblk m c 9 t := rfl
theorem after10 (c : Dev nD) (t : Fin cfg0.N) : (dats m Inv 0 c).after 10 t = iblk m c 10 t := rfl
theorem after11 (c : Dev nD) (t : Fin cfg0.N) : (dats m Inv 0 c).after 11 t = iblk m c 11 t := rfl
theorem after12 (c : Dev nD) (t : Fin cfg0.N) : (dats m Inv 0 c).after 12 t = iblk m c 12 t := rfl
theorem after13 (c : Dev nD) (t : Fin cfg0.N) : (dats m Inv 0 c).after 13 t = iblk m c 13 t := rfl
theorem after14 (c : Dev nD) (t : Fin cfg0.N) : (dats m Inv 0 c).after 14 t = iblk m c 14 t := rfl
theorem after15 (c : Dev nD) (t : Fin cfg0.N) : (dats m Inv 0 c).after 15 t = iblk m c 15 t := rfl
theorem after16 (c : Dev nD) (t : Fin cfg0.N) : (dats m Inv 0 c).after 16 t = iblk m c 16 t := rfl

/-- What a step is asked: from input blocks as fetched and scratch contents that `Inv` admits, whatever run the step is, it leaves the outputs meeting `Rl` and the scratch admitted at the next step. -/
def StepOK : Prop :=
  ∀ (c : Dev nD) (t : Fin cfg0.N) (f1 : Bf (F := F) c (ms0 t)) (f2 : Bf (F := F) c (ms1 t)) (f3 : Bf (F := F) c (ms2 t)) (f4 : Bf (F := F) c (ms3 t)) (f5 : Bf (F := F) c (ms4 t)) (f6 : Bf (F := F) c (ms5 t)) (f7 : Bf (F := F) c (ms6 t)) (f8 : Bf (F := F) c (ms7 t)) (f9 : Bf (F := F) c (ms8 t)) (f10 : Bf (F := F) c (ms9 t)) (f11 : Bf (F := F) c (ms10 t)) (f12 : Bf (F := F) c (ms11 t)) (f13 : Bf (F := F) c (ms12 t)) (f14 : Bf (F := F) c (ms13 t)) (f15 : Bf (F := F) c (ms14 t)) (f16 : Bf (F := F) c (ms15 t)) (f17 : Bf (F := F) c (ms16 t)) (f18 : Bf (F := F) c (ms17 t)) (f19 : Bf (F := F) c (ms18 t)) (f20 : Bf (F := F) c (ms19 t)) (f21 : Bf (F := F) c (ms20 t)) (f22 : Bf (F := F) c (ms21 t)) (f23 : Bf (F := F) c (ms22 t)) (f24 : Bf (F := F) c (ms23 t)) (f25 : Bf (F := F) c (ms24 t)) (S : Scr (F := F) c) (W : Bf (F := F) c (ms17 t) × Bf (F := F) c (ms18 t) × Bf (F := F) c (ms19 t) × Bf (F := F) c (ms20 t) × Bf (F := F) c (ms21 t) × Bf (F := F) c (ms22 t) × Bf (F := F) c (ms23 t) × Bf (F := F) c (ms24 t) × Bf (F := F) c sM0 × Bf (F := F) c sM1 × Bf (F := F) c sM2 × Bf (F := F) c sM3 × Bf (F := F) c sM4 × Bf (F := F) c sM5 × Bf (F := F) c sM6),
    (ms0 t).view.read (Elt F) f1 = iblk m c 0 t →
    (ms1 t).view.read (Elt F) f2 = iblk m c 1 t →
    (ms2 t).view.read (Elt F) f3 = iblk m c 2 t →
    ((dats m Inv 0 c).toRRel fgt (Rl c)).Finds 3 t ((ms3 t).view.read (Elt F) f4) →
    ((dats m Inv 0 c).toRRel fgt (Rl c)).Finds 4 t ((ms4 t).view.read (Elt F) f5) →
    ((dats m Inv 0 c).toRRel fgt (Rl c)).Finds 5 t ((ms5 t).view.read (Elt F) f6) →
    (ms6 t).view.read (Elt F) f7 = iblk m c 6 t →
    (ms7 t).view.read (Elt F) f8 = iblk m c 7 t →
    (ms8 t).view.read (Elt F) f9 = iblk m c 8 t →
    (ms9 t).view.read (Elt F) f10 = iblk m c 9 t →
    (ms10 t).view.read (Elt F) f11 = iblk m c 10 t →
    (ms11 t).view.read (Elt F) f12 = iblk m c 11 t →
    (ms12 t).view.read (Elt F) f13 = iblk m c 12 t →
    (ms13 t).view.read (Elt F) f14 = iblk m c 13 t →
    (ms14 t).view.read (Elt F) f15 = iblk m c 14 t →
    (ms15 t).view.read (Elt F) f16 = iblk m c 15 t →
    (ms16 t).view.read (Elt F) f17 = iblk m c 16 t →
    ((dats m Inv 0 c).toRRel fgt (Rl c)).Finds 17 t ((ms17 t).view.read (Elt F) f18) →
    ((dats m Inv 0 c).toRRel fgt (Rl c)).Finds 18 t ((ms18 t).view.read (Elt F) f19) →
    ((dats m Inv 0 c).toRRel fgt (Rl c)).Finds 19 t ((ms19 t).view.read (Elt F) f20) →
    ((dats m Inv 0 c).toRRel fgt (Rl c)).Finds 20 t ((ms20 t).view.read (Elt F) f21) →
    ((dats m Inv 0 c).toRRel fgt (Rl c)).Finds 21 t ((ms21 t).view.read (Elt F) f22) →
    ((dats m Inv 0 c).toRRel fgt (Rl c)).Finds 22 t ((ms22 t).view.read (Elt F) f23) →
    ((dats m Inv 0 c).toRRel fgt (Rl c)).Finds 23 t ((ms23 t).view.read (Elt F) f24) →
    ((dats m Inv 0 c).toRRel fgt (Rl c)).Finds 24 t ((ms24 t).view.read (Elt F) f25) →
    Inv c t.val S → Step c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) f1 f2 f3 f4 f5 f6 f7 f8 f9 f10 f11 f12 f13 f14 f15 f16 f17 f18 f19 f20 f21 f22 f23 f24 f25  S.1 S.2.1 S.2.2.1 S.2.2.2.1 S.2.2.2.2.1 S.2.2.2.2.2.1 S.2.2.2.2.2.2 W →
    Rl c 17 t ((ms17 t).view.read (Elt F) W.1) ∧ Rl c 18 t ((ms18 t).view.read (Elt F) W.2.1) ∧ Rl c 19 t ((ms19 t).view.read (Elt F) W.2.2.1) ∧ Rl c 20 t ((ms20 t).view.read (Elt F) W.2.2.2.1) ∧ Rl c 21 t ((ms21 t).view.read (Elt F) W.2.2.2.2.1) ∧ Rl c 22 t ((ms22 t).view.read (Elt F) W.2.2.2.2.2.1) ∧ Rl c 23 t ((ms23 t).view.read (Elt F) W.2.2.2.2.2.2.1) ∧ Rl c 24 t ((ms24 t).view.read (Elt F) W.2.2.2.2.2.2.2.1) ∧ Inv c (t.val + 1) (W.2.2.2.2.2.2.2.2.1, W.2.2.2.2.2.2.2.2.2.1, W.2.2.2.2.2.2.2.2.2.2.1, W.2.2.2.2.2.2.2.2.2.2.2.1, W.2.2.2.2.2.2.2.2.2.2.2.2.1, W.2.2.2.2.2.2.2.2.2.2.2.2.2.1, W.2.2.2.2.2.2.2.2.2.2.2.2.2.2)

/-- The first word a step reads is a ray number, whichever contents its staging buffer holds the table in; likewise the second. -/
def WordsOK : Prop :=
  ∀ (c : Dev nD) (t : Fin cfg0.N), (∀ f : Bf (F := F) c (ms0 t), (ms0 t).view.read (Elt F) f = iblk m c 0 t → (w1 c (grid0.coords t) (ms0 t) f).toNat < 12288)
    ∧ (∀ f : Bf (F := F) c (ms1 t), (ms1 t).view.read (Elt F) f = iblk m c 1 t → (w2 c (grid0.coords t) (ms1 t) f).toNat < 12288)

/-- What the body is called with at point `t`, and what it returns. -/
def bodyPre (c : Dev nD) (t : Fin cfg0.N) : sProp 𝕄 :=
  iprop((dats m Inv 0 c).Φ t.castSucc ∗ (dats m Inv 0 c).owesAt () t.castSucc
    ∗ (∃ d, owns (c : Thread nD τ) (ms0 t) fullShare ((dats m Inv 0 c).before 0 t d)) ∗ (∃ d, owns (c : Thread nD τ) (ms1 t) fullShare ((dats m Inv 0 c).before 1 t d)) ∗ (∃ d, owns (c : Thread nD τ) (ms2 t) fullShare ((dats m Inv 0 c).before 2 t d)) ∗ (∃ Y, ⌜((dats m Inv 0 c).toRRel fgt (Rl c)).Finds 3 t Y⌝ ∗ owns (c : Thread nD τ) (ms3 t) fullShare Y) ∗ (∃ Y, ⌜((dats m Inv 0 c).toRRel fgt (Rl c)).Finds 4 t Y⌝ ∗ owns (c : Thread nD τ) (ms4 t) fullShare Y) ∗ (∃ Y, ⌜((dats m Inv 0 c).toRRel fgt (Rl c)).Finds 5 t Y⌝ ∗ owns (c : Thread nD τ) (ms5 t) fullShare Y) ∗ (∃ d, owns (c : Thread nD τ) (ms6 t) fullShare ((dats m Inv 0 c).before 6 t d)) ∗ (∃ d, owns (c : Thread nD τ) (ms7 t) fullShare ((dats m Inv 0 c).before 7 t d)) ∗ (∃ d, owns (c : Thread nD τ) (ms8 t) fullShare ((dats m Inv 0 c).before 8 t d)) ∗ (∃ d, owns (c : Thread nD τ) (ms9 t) fullShare ((dats m Inv 0 c).before 9 t d)) ∗ (∃ d, owns (c : Thread nD τ) (ms10 t) fullShare ((dats m Inv 0 c).before 10 t d)) ∗ (∃ d, owns (c : Thread nD τ) (ms11 t) fullShare ((dats m Inv 0 c).before 11 t d)) ∗ (∃ d, owns (c : Thread nD τ) (ms12 t) fullShare ((dats m Inv 0 c).before 12 t d)) ∗ (∃ d, owns (c : Thread nD τ) (ms13 t) fullShare ((dats m Inv 0 c).before 13 t d)) ∗ (∃ d, owns (c : Thread nD τ) (ms14 t) fullShare ((dats m Inv 0 c).before 14 t d)) ∗ (∃ d, owns (c : Thread nD τ) (ms15 t) fullShare ((dats m Inv 0 c).before 15 t d)) ∗ (∃ d, owns (c : Thread nD τ) (ms16 t) fullShare ((dats m Inv 0 c).before 16 t d)) ∗ (∃ Y, ⌜((dats m Inv 0 c).toRRel fgt (Rl c)).Finds 17 t Y⌝ ∗ owns (c : Thread nD τ) (ms17 t) fullShare Y) ∗ (∃ Y, ⌜((dats m Inv 0 c).toRRel fgt (Rl c)).Finds 18 t Y⌝ ∗ owns (c : Thread nD τ) (ms18 t) fullShare Y) ∗ (∃ Y, ⌜((dats m Inv 0 c).toRRel fgt (Rl c)).Finds 19 t Y⌝ ∗ owns (c : Thread nD τ) (ms19 t) fullShare Y) ∗ (∃ Y, ⌜((dats m Inv 0 c).toRRel fgt (Rl c)).Finds 20 t Y⌝ ∗ owns (c : Thread nD τ) (ms20 t) fullShare Y) ∗ (∃ Y, ⌜((dats m Inv 0 c).toRRel fgt (Rl c)).Finds 21 t Y⌝ ∗ owns (c : Thread nD τ) (ms21 t) fullShare Y) ∗ (∃ Y, ⌜((dats m Inv 0 c).toRRel fgt (Rl c)).Finds 22 t Y⌝ ∗ owns (c : Thread nD τ) (ms22 t) fullShare Y) ∗ (∃ Y, ⌜((dats m Inv 0 c).toRRel fgt (Rl c)).Finds 23 t Y⌝ ∗ owns (c : Thread nD τ) (ms23 t) fullShare Y) ∗ (∃ Y, ⌜((dats m Inv 0 c).toRRel fgt (Rl c)).Finds 24 t Y⌝ ∗ owns (c : Thread nD τ) (ms24 t) fullShare Y))
def bodyPost (c : Dev nD) (t : Fin cfg0.N) : sProp 𝕄 :=
  iprop((dats m Inv 0 c).Φ t.succ ∗ (dats m Inv 0 c).owesAt () t.succ
    ∗ owns (c : Thread nD τ) (ms0 t) fullShare ((dats m Inv 0 c).after 0 t) ∗ owns (c : Thread nD τ) (ms1 t) fullShare ((dats m Inv 0 c).after 1 t) ∗ owns (c : Thread nD τ) (ms2 t) fullShare ((dats m Inv 0 c).after 2 t) ∗ (∃ X, ⌜Rl c 3 t X⌝ ∗ owns (c : Thread nD τ) (ms3 t) fullShare X) ∗ (∃ X, ⌜Rl c 4 t X⌝ ∗ owns (c : Thread nD τ) (ms4 t) fullShare X) ∗ (∃ X, ⌜Rl c 5 t X⌝ ∗ owns (c : Thread nD τ) (ms5 t) fullShare X) ∗ owns (c : Thread nD τ) (ms6 t) fullShare ((dats m Inv 0 c).after 6 t) ∗ owns (c : Thread nD τ) (ms7 t) fullShare ((dats m Inv 0 c).after 7 t) ∗ owns (c : Thread nD τ) (ms8 t) fullShare ((dats m Inv 0 c).after 8 t) ∗ owns (c : Thread nD τ) (ms9 t) fullShare ((dats m Inv 0 c).after 9 t) ∗ owns (c : Thread nD τ) (ms10 t) fullShare ((dats m Inv 0 c).after 10 t) ∗ owns (c : Thread nD τ) (ms11 t) fullShare ((dats m Inv 0 c).after 11 t) ∗ owns (c : Thread nD τ) (ms12 t) fullShare ((dats m Inv 0 c).after 12 t) ∗ owns (c : Thread nD τ) (ms13 t) fullShare ((dats m Inv 0 c).after 13 t) ∗ owns (c : Thread nD τ) (ms14 t) fullShare ((dats m Inv 0 c).after 14 t) ∗ owns (c : Thread nD τ) (ms15 t) fullShare ((dats m Inv 0 c).after 15 t) ∗ owns (c : Thread nD τ) (ms16 t) fullShare ((dats m Inv 0 c).after 16 t) ∗ (∃ X, ⌜Rl c 17 t X⌝ ∗ owns (c : Thread nD τ) (ms17 t) fullShare X) ∗ (∃ X, ⌜Rl c 18 t X⌝ ∗ owns (c : Thread nD τ) (ms18 t) fullShare X) ∗ (∃ X, ⌜Rl c 19 t X⌝ ∗ owns (c : Thread nD τ) (ms19 t) fullShare X) ∗ (∃ X, ⌜Rl c 20 t X⌝ ∗ owns (c : Thread nD τ) (ms20 t) fullShare X) ∗ (∃ X, ⌜Rl c 21 t X⌝ ∗ owns (c : Thread nD τ) (ms21 t) fullShare X) ∗ (∃ X, ⌜Rl c 22 t X⌝ ∗ owns (c : Thread nD τ) (ms22 t) fullShare X) ∗ (∃ X, ⌜Rl c 23 t X⌝ ∗ owns (c : Thread nD τ) (ms23 t) fullShare X) ∗ (∃ X, ⌜Rl c 24 t X⌝ ∗ owns (c : Thread nD τ) (ms24 t) fullShare X))

set_option maxHeartbeats 4000000 in
/-- The body at a point: the staging buffers and the scratch opened, one step (`body_step`), and all closed again. -/
theorem sound_body (hW : WordsOK m) (hS : StepOK m Inv Rl) (hI : ∀ c t X, Rl c 3 t X) (hI4 : ∀ c t X, Rl c 4 t X) (hI5 : ∀ c t X, Rl c 5 t X) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost bodyAt0
  rw [show (dats m Inv 0 c).owesAt () t.succ = (dats m Inv 0 c).owesAt () t.castSucc from rfl,
    show (dats m Inv 0 c).Φ t.castSucc = PhiS Inv c t.val from rfl, show (dats m Inv 0 c).Φ t.succ = PhiS Inv c (t.val + 1) from rfl]
  unfold PhiS owns
  iintro ⟨⟨%S, %hInv, H26, H27, H28, H29, H30, H31, H32, ⟨%g, Hg⟩⟩, HO, ⟨%d1, %f1, %e1, H1⟩, ⟨%d2, %f2, %e2, H2⟩, ⟨%d3, %f3, %e3, H3⟩, ⟨%Y4, %F4, %f4, %e4, H4⟩, ⟨%Y5, %F5, %f5, %e5, H5⟩, ⟨%Y6, %F6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%Y18, %F18, %f18, %e18, H18⟩, ⟨%Y19, %F19, %f19, %e19, H19⟩, ⟨%Y20, %F20, %f20, %e20, H20⟩, ⟨%Y21, %F21, %f21, %e21, H21⟩, ⟨%Y22, %F22, %f22, %e22, H22⟩, ⟨%Y23, %F23, %f23, %e23, H23⟩, ⟨%Y24, %F24, %f24, %e24, H24⟩, ⟨%Y25, %F25, %f25, %e25, H25⟩⟩
  have e1' := e1.trans (before0_0_of m (dats m Inv 0 c) (A_eq m Inv c 0) (fun t => after0 m Inv c t) t d1)
  have e2' := e2.trans (before0_1_of m (dats m Inv 0 c) (A_eq m Inv c 1) (fun t => after1 m Inv c t) t d2)
  have e3' := e3.trans (before0_2_of m (dats m Inv 0 c) (A_eq m Inv c 2) (fun t => after2 m Inv c t) t d3)
  have e7' := e7.trans (before0_6_of m (dats m Inv 0 c) (A_eq m Inv c 6) (fun t => after6 m Inv c t) t d7)
  have e8' := e8.trans (before0_7_of m (dats m Inv 0 c) (A_eq m Inv c 7) (fun t => after7 m Inv c t) t d8)
  have e9' := e9.trans (before0_8_of m (dats m Inv 0 c) (A_eq m Inv c 8) (fun t => after8 m Inv c t) t d9)
  have e10' := e10.trans (before0_9_of m (dats m Inv 0 c) (A_eq m Inv c 9) (fun t => after9 m Inv c t) t d10)
  have e11' := e11.trans (before0_10_of m (dats m Inv 0 c) (A_eq m Inv c 10) (fun t => after10 m Inv c t) t d11)
  have e12' := e12.trans (before0_11_of m (dats m Inv 0 c) (A_eq m Inv c 11) (fun t => after11 m Inv c t) t d12)
  have e13' := e13.trans (before0_12_of m (dats m Inv 0 c) (A_eq m Inv c 12) (fun t => after12 m Inv c t) t d13)
  have e14' := e14.trans (before0_13_of m (dats m Inv 0 c) (A_eq m Inv c 13) (fun t => after13 m Inv c t) t d14)
  have e15' := e15.trans (before0_14_of m (dats m Inv 0 c) (A_eq m Inv c 14) (fun t => after14 m Inv c t) t d15)
  have e16' := e16.trans (before0_15_of m (dats m Inv 0 c) (A_eq m Inv c 15) (fun t => after15 m Inv c t) t d16)
  have e17' := e17.trans (before0_16_of m (dats m Inv 0 c) (A_eq m Inv c 16) (fun t => after16 m Inv c t) t d17)
  iapply (body_step c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) f1 f2 f3 f4 f5 f6 f7 f8 f9 f10 f11 f12 f13 f14 f15 f16 f17 f18 f19 f20 f21 f22 f23 f24 f25 S.1 S.2.1 S.2.2.1 S.2.2.2.1 S.2.2.2.2.1 S.2.2.2.2.2.1 S.2.2.2.2.2.2 ((hW c t).1 f1 e1') ((hW c t).2 f2 e2') g Set.univ _ ((dats m Inv 0 c).owesAt () t.castSucc) ?_)
  rotate_left
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [Hg]; · iexact Hg
  iexact HO
  intro W hSt
  have hR := hS c t f1 f2 f3 f4 f5 f6 f7 f8 f9 f10 f11 f12 f13 f14 f15 f16 f17 f18 f19 f20 f21 f22 f23 f24 f25 S W e1' e2' e3' (e4 ▸ F4) (e5 ▸ F5) (e6 ▸ F6) e7' e8' e9' e10' e11' e12' e13' e14' e15' e16' e17' (e18 ▸ F18) (e19 ▸ F19) (e20 ▸ F20) (e21 ▸ F21) (e22 ▸ F22) (e23 ▸ F23) (e24 ▸ F24) (e25 ▸ F25) hInv hSt
  obtain ⟨hR18, hR19, hR20, hR21, hR22, hR23, hR24, hR25, hInv'⟩ := hR
  iintro ⟨H1, H2, H3, H4, H5, H6, H7, H8, H9, H10, H11, H12, H13, H14, H15, H16, H17, H18, H19, H20, H21, H22, H23, H24, H25, H26, H27, H28, H29, H30, H31, H32, Hg, HO⟩
  isplitl [H26 H27 H28 H29 H30 H31 H32 Hg]
  · iexists _; isplitr; · ipureintro; exact hInv'
    isplitl [H26]; · iexact H26
    isplitl [H27]; · iexact H27
    isplitl [H28]; · iexact H28
    isplitl [H29]; · iexact H29
    isplitl [H30]; · iexact H30
    isplitl [H31]; · iexact H31
    isplitl [H32]; · iexact H32
    iexact Hg
  isplitl [HO]; · iexact HO
  isplitl [H1]
  · iexists f1; isplitr; · ipureintro; exact e1'
    iexact H1
  isplitl [H2]
  · iexists f2; isplitr; · ipureintro; exact e2'
    iexact H2
  isplitl [H3]
  · iexists f3; isplitr; · ipureintro; exact e3'
    iexact H3
  isplitl [H4]
  · iexists _; isplitr; · ipureintro; exact hI c t ((ms3 t).view.read (Elt F) f4)
    iexists f4; isplitr; · ipureintro; rfl
    iexact H4
  isplitl [H5]
  · iexists _; isplitr; · ipureintro; exact hI4 c t ((ms4 t).view.read (Elt F) f5)
    iexists f5; isplitr; · ipureintro; rfl
    iexact H5
  isplitl [H6]
  · iexists _; isplitr; · ipureintro; exact hI5 c t ((ms5 t).view.read (Elt F) f6)
    iexists f6; isplitr; · ipureintro; rfl
    iexact H6
  isplitl [H7]
  · iexists f7; isplitr; · ipureintro; exact e7'
    iexact H7
  isplitl [H8]
  · iexists f8; isplitr; · ipureintro; exact e8'
    iexact H8
  isplitl [H9]
  · iexists f9; isplitr; · ipureintro; exact e9'
    iexact H9
  isplitl [H10]
  · iexists f10; isplitr; · ipureintro; exact e10'
    iexact H10
  isplitl [H11]
  · iexists f11; isplitr; · ipureintro; exact e11'
    iexact H11
  isplitl [H12]
  · iexists f12; isplitr; · ipureintro; exact e12'
    iexact H12
  isplitl [H13]
  · iexists f13; isplitr; · ipureintro; exact e13'
    iexact H13
  isplitl [H14]
  · iexists f14; isplitr; · ipureintro; exact e14'
    iexact H14
  isplitl [H15]
  · iexists f15; isplitr; · ipureintro; exact e15'
    iexact H15
  isplitl [H16]
  · iexists f16; isplitr; · ipureintro; exact e16'
    iexact H16
  isplitl [H17]
  · iexists f17; isplitr; · ipureintro; exact e17'
    iexact H17
  isplitl [H18]
  · iexists _; isplitr; · ipureintro; exact hR18
    iexists _; isplitr; · ipureintro; rfl
    iexact H18
  isplitl [H19]
  · iexists _; isplitr; · ipureintro; exact hR19
    iexists _; isplitr; · ipureintro; rfl
    iexact H19
  isplitl [H20]
  · iexists _; isplitr; · ipureintro; exact hR20
    iexists _; isplitr; · ipureintro; rfl
    iexact H20
  isplitl [H21]
  · iexists _; isplitr; · ipureintro; exact hR21
    iexists _; isplitr; · ipureintro; rfl
    iexact H21
  isplitl [H22]
  · iexists _; isplitr; · ipureintro; exact hR22
    iexists _; isplitr; · ipureintro; rfl
    iexact H22
  isplitl [H23]
  · iexists _; isplitr; · ipureintro; exact hR23
    iexists _; isplitr; · ipureintro; rfl
    iexact H23
  isplitl [H24]
  · iexists _; isplitr; · ipureintro; exact hR24
    iexists _; isplitr; · ipureintro; rfl
    iexact H24
  iexists _; isplitr; · ipureintro; exact hR25
  iexists _; isplitr; · ipureintro; rfl
  iexact H25

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (hW : WordsOK m) (hS : StepOK m Inv Rl) (hI : ∀ c t X, Rl c 3 t X) (hI4 : ∀ c t X, Rl c 4 t X) (hI5 : ∀ c t X, Rl c 5 t X) (c : Dev nD) :
    Pipeline.BodyObligationRel (dats m Inv 0 c) (defs₀ (F := F)) Variants.none () Set.univ fgt (Rl c) := fun t => by
  rw [bigSep_W0, bigSep_W0, defs₀_row]
  exact triple_restated (sound_body m Inv Rl hW hS hI hI4 hI5 c t) rfl .rfl fun _ => .rfl

theorem ex_whole (c : Dev nD) (b : Ref sig .tc) :
    (iprop(∃ f : Buf (Elt F) ((c : Thread nD τ).loc b), ((c : Thread nD τ).loc b) ↦{fullShare} f) : sProp 𝕄)
      = iprop(∃ f : Bf (F := F) c (Memref.whole b), pt c (Memref.whole b) f) := by
  unfold pt; rw [show (Memref.whole b).view.set = Finset.univ from View.set_whole b]

theorem Phi_in (c : Dev nD) (h0 : ∀ S, Inv c 0 S) : (Pipeline.ΦA spec0 c : sProp 𝕄) ⊢ PhiS Inv c 0 := by
  unfold Pipeline.ΦA PhiS
  rw [scopedRest0_eq]
  simp only [ex_whole]
  iintro ⟨⟨⟨%s0, H0⟩, ⟨%s1, H1⟩, ⟨%s2, H2⟩, ⟨%s3, H3⟩, ⟨%s4, H4⟩, ⟨%s5, H5⟩, ⟨%s6, H6⟩⟩, Hg⟩
  iexists (s0, s1, s2, s3, s4, s5, s6); isplitr; · ipureintro; exact h0 _
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hg

theorem Phi_out (c : Dev nD) (t : ℕ) : PhiS Inv c t ⊢ (Pipeline.ΦA spec0 c : sProp 𝕄) := by
  unfold Pipeline.ΦA PhiS
  rw [scopedRest0_eq]
  simp only [ex_whole]
  iintro ⟨%S, %_, H0, H1, H2, H3, H4, H5, H6, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  iexact Hg

set_option backward.isDefEq.respectTransparency.types false in
/-- Every run of @main ends, the windows' arrays at contents the relational data admit, every other buffer as the region found it, every semaphore at zero. -/
theorem run_main (hW : WordsOK m) (hS : StepOK m Inv Rl) (hI : ∀ c t X, Rl c 3 t X) (hI4 : ∀ c t X, Rl c 4 t X) (hI5 : ∀ c t X, Rl c 5 t X) (h0 : ∀ c S, Inv c 0 S) :
    θ_run defs (onTc (τ := τ) (main (F := F))) (s₀ m ρ)
      (fun r => Pipeline.RDat.FramePost (cfgs 0) (fun c => (dats m Inv 0 c).toRRel fgt (Rl c)) (V m) r ∧ r.2.sem = fun _ => 0) :=
  Pipeline.RDat.θ_run_frame_track (Q' := _) cfgs (0 : Fin 1) launch0 defs₀ Variants.none (fun c => (dats m Inv 0 c).toRRel fgt (Rl c)) m ρ main
    (hbody := fun c => (body_obligation m Inv Rl hW hS hI hI4 hI5 c).toRRel) (hshare := fun c => (dats m Inv 0 c).share_full fun _ => rfl)
    (howed := fun _ _ => rfl) (V := V m) (hmain := hmain m Variants.none) (hA := A_eq m Inv)
    (hin := fun c => Phi_in Inv c (h0 c)) (hout := fun c => Phi_out Inv c _) (hQ' := fun _ h => h)

end Cert.KernelIdeal.Hand

end
-- ==== Proof.K.Host.lean ====
/-
  The two tables of ray numbers that the host cuts out of the sample's ray ids: every word of them is one of the ids.
  And the frame: every run ends, with the arguments as they were.
-/
module

public import proofs.«01_k».proof.Proof.K.Body
public import Idealize.ShloMosaic.Lib.Claim
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- Every sample's ray id is below the number of rays. -/
def Ids : Prop := ∀ (c : Dev nD) (j : S454650.Idx), (m ((c : Thread nD τ).loc main_arg4) j : BitVec 32).toNat < 12288

theorem first_lt (h : Ids m) (c : Dev nD) (j : S222.Idx) : (V m c (Pipeline.arrRef spec0 0) j : BitVec 32).toNat < 12288 := by
  have e : ∃ k, V m c (Pipeline.arrRef spec0 0) j = m ((c : Thread nD τ).loc main_arg4) k := by
    show ∃ k, V m c main_v165 j = m ((c : Thread nD τ).loc main_arg4) k
    unfold V
    after_reads_simp
    exact ⟨_, rfl⟩
  obtain ⟨k, e⟩ := e
  rw [e]; exact h c k

theorem last_lt (h : Ids m) (c : Dev nD) (j : S222.Idx) : (V m c (Pipeline.arrRef spec0 1) j : BitVec 32).toNat < 12288 := by
  have e : ∃ k, V m c (Pipeline.arrRef spec0 1) j = m ((c : Thread nD τ).loc main_arg4) k := by
    show ∃ k, V m c main_v181 j = m ((c : Thread nD τ).loc main_arg4) k
    unfold V
    after_reads_simp
    exact ⟨_, rfl⟩
  obtain ⟨k, e⟩ := e
  rw [e]; exact h c k

theorem words_ok (h : Ids m) : WordsOK m := by
  intro c t
  refine ⟨fun f hf => ?_, fun f hf => ?_⟩
  · have e : w1 c (grid0.coords t) (ms0 t) f = (ms0 t).view.read (Elt F) f ((Rect.unit (s := S222) (k0_off4 (grid0.coords t)) S1.size (k0_off4_inb (grid0.coords t))).toLoadRect.idx (Shape.Idx.first (numel1_S1.symm ▸ Nat.one_pos))) := rfl
    rw [e, hf]
    exact first_lt m h c _
  · have e : w2 c (grid0.coords t) (ms1 t) f = (ms1 t).view.read (Elt F) f ((Rect.unit (s := S222) (k0_off7 (grid0.coords t)) S1.size (k0_off7_inb (grid0.coords t))).toLoadRect.idx (Shape.Idx.first (numel1_S1.symm ▸ Nat.one_pos))) := rfl
    rw [e, hf]
    exact last_lt m h c _

end Cert.KernelIdeal.Hand

end
-- ==== Proof.K.Frame.lean ====
/-
  The frame: whatever the body leaves in the output windows, a run ends with the arguments as they were and every
  semaphore at zero.
-/
module

public import proofs.«01_k».proof.Proof.K.Host

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The arguments as a run leaves them are the arguments it began with. -/
abbrev Kept (m : (ℓ : Loc nD τ sig) → Buf (Elt F) ℓ) (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)

set_option maxHeartbeats 1500000 in
theorem kept_of {Inv : (c : Dev nD) → ℕ → Scr (F := F) c → Prop}
    {Rl : (c : Dev nD) → (w : Fin cfg0.W) → Fin cfg0.N → ((cfg0.win w).block.Idx → Elt F (cfg0.win w).elt) → Prop}
    {r : PUnit × MemSt nD τ sig (Elt F)}
    (h : Pipeline.RDat.FramePost (cfgs 0) (fun c => (dats m Inv 0 c).toRRel fgt (Rl c)) (V m) r) (c : Dev nD) : Kept m r c :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((A_eq m Inv c 4).trans (V_main_arg2 m c)),
      ((h c).2 main_arg3 (Pipeline.mem_restRefs_of main_arg3 (by decide) (by decide))).trans (V_main_arg3 m c),
      (Pipeline.RDat.FramePost.arr_in h c 5 rfl).trans ((A_eq m Inv c 5).trans (V_main_arg4 m c)),
      (Pipeline.RDat.FramePost.arr_in h c 7 rfl).trans ((A_eq m Inv c 7).trans (V_main_arg5 m c)),
      (Pipeline.RDat.FramePost.arr_in h c 8 rfl).trans ((A_eq m Inv c 8).trans (V_main_arg6 m c)),
      (Pipeline.RDat.FramePost.arr_in h c 9 rfl).trans ((A_eq m Inv c 9).trans (V_main_arg7 m c)),
      ((h c).2 main_arg8 (Pipeline.mem_restRefs_of main_arg8 (by decide) (by decide))).trans (V_main_arg8 m c),
      (Pipeline.RDat.FramePost.arr_in h c 12 rfl).trans ((A_eq m Inv c 12).trans (V_main_arg9 m c)),
      (Pipeline.RDat.FramePost.arr_in h c 13 rfl).trans ((A_eq m Inv c 13).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- Every run from ray ids that name rays ends with the arguments kept and the semaphores at zero. -/
theorem run_kept (h : Ids m) : θ_run defs (onTc (τ := τ) (main (F := F))) (s₀ m ρ) (fun r => (∀ c : Dev nD, Kept m r c) ∧ r.2.sem = fun _ => 0) :=
  (θ_run defs _ _).mono (fun _ h => ⟨fun c => kept_of m h.1 c, h.2⟩)
    (run_main m ρ (fun _ _ _ => True) (fun _ _ _ _ => True) (words_ok m h) (by unfold StepOK; intros; simp only [and_self]) (fun _ _ _ => trivial) (fun _ _ _ => trivial)
      (fun _ _ _ => trivial) (fun _ _ => trivial))

end Cert.KernelIdeal.Hand

end
-- ==== Proof.B.Base.lean ====
/-
  What the body's triples are stated over: a buffer held whole, and the two words the body's checks read.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The two words the body reads at a step: the ray numbers of the tile's first and last sample. -/
abbrev w1 (c : Dev nD) (i : grid0.Coords) (M : Memref sig .tc .smem S222 .i32) (f : Bf (F := F) c M) : BitVec 32 :=
  View.readAt (Elt F) M.view (Rect.unit (s := S222) (k0_off4 i) S1.size (k0_off4_inb i)).toLoadRect f (Shape.Idx.first (numel1_S1.symm ▸ Nat.one_pos))
abbrev w2 (c : Dev nD) (i : grid0.Coords) (M : Memref sig .tc .smem S222 .i32) (f : Bf (F := F) c M) : BitVec 32 :=
  View.readAt (Elt F) M.view (Rect.unit (s := S222) (k0_off7 i) S1.size (k0_off7_inb i)).toLoadRect f (Shape.Idx.first (numel1_S1.symm ▸ Nat.one_pos))

end Cert.Kernel.Hand

end
-- ==== Proof.B.RunAT.lean ====
/-
  The kernel body run at the first step, for a tile whose rays span more than one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runAT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.RunAF.lean ====
/-
  The kernel body run at the first step, for a tile whose rays lie in one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runAF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.RunBT.lean ====
/-
  The kernel body run at a step between the first and the last, for a tile whose rays span more than one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runBT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.RunBF.lean ====
/-
  The kernel body run at a step between the first and the last, for a tile whose rays lie in one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runBF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.RunCT.lean ====
/-
  The kernel body run at the last step, for a tile whose rays span more than one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runCT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : k0_cond2 (w1 c i arg1 f1) (w2 c i arg2 f2) = 1#1) (hc3 : k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.RunCF.lean ====
/-
  The kernel body run at the last step, for a tile whose rays lie in one window of 128:
  what it leaves in its fifteen outputs and scratch buffers, found by the run itself.
-/
module

public import proofs.«01_k».proof.Proof.B.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's run at such a step, from any contents: the contents it leaves, and its triple. -/
noncomputable def runCF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : ¬ k0_cond2 (w1 c i arg1 f1) (w2 c i arg2 f2) = 1#1) (hc3 : ¬ k0_cond3 (w1 c i arg1 f1) (w2 c i arg2 f2) = 1#1) :
    { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 //
      ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q } := by
  refine ⟨⟨?_, ?_, ?_, ?_, ?_, ?_, ?_, ?_, ?_, ?_, ?_, ?_, ?_, ?_, ?_⟩, fun g E Q => ?run⟩
  case run =>
    iintro ⟨H1, H2, H3, H4, H5, H6, H7, H8, H9, H10, H11, H12, H13, H14, H15, H16, H17, H18, H19, H20, H21, H22, H23, H24, H25, H26, H27, H28, H29, H30, H31, H32, Hg, Hk⟩
    sl_exec_parts! (disch := first | sl_exact hc1 | sl_exact hc4 | exact HC1 _ rfl | exact HC2 _ _ rfl rfl | exact hc2 | exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexists _; iexact Hg

end Cert.Kernel.Hand

end
-- ==== Proof.B.Checks.lean ====
/-
  The assumptions the kernel body makes of the two words it reads per step: the ray numbers of the first and of the
  last sample of a tile. Both below the number of rays implies every window of 128 rays the body names lies inside its
  tables of 98 blocks.
-/
module

public import proofs.«01_k».proof.Kernel
public import Idealize.ShloMosaic.Lib.Affine
public import Idealize.ShloMosaic.Lib.LoopRemainder
public import Idealize.ShloMosaic.Lib.WordCmp
public import Idealize.ShloMosaic.Lib.Tactic

@[expose] public section

noncomputable section

namespace Cert.Kernel.Hand

open Cert.Kernel
open Idealize.ShloMosaic Idealize.ShloMosaic.TcCoe Idealize.ShloMosaic.Tactic

/-- Python's `b // 128` as the kernel computes it from a word. -/
def fd (b : BitVec 32) : BitVec 32 :=
  Scalar.select (Scalar.andi
      (Scalar.cmpi .ne (Scalar.subi (Scalar.extui (Scalar.cmpi .sgt b 0#32)) (Scalar.extui (Scalar.cmpi .slt b 0#32)))
        (Scalar.subi (Scalar.extui (Scalar.cmpi .sgt 128#32 0#32)) (Scalar.extui (Scalar.cmpi .slt 128#32 0#32))))
      (Scalar.cmpi .ne (Scalar.remsi b 128#32) 0#32))
    (Scalar.subi (Scalar.divsi b 128#32) 1#32) (Scalar.divsi b 128#32)

theorem isInt_iff {x : BitVec 32} {e : Int} : Affine.IsInt x e ↔ x.toInt = e := by unfold Affine.IsInt; exact Iff.rfl

open Affine in
/-- On a word that is not negative it is the quotient. -/
theorem fd_isInt {b : BitVec 32} {e : Int} (hb : IsInt b e) (h0 : 0 ≤ e) (h1 : e < 2 ^ 31) : IsInt (fd b) (e / 128) := by
  have h128 : IsInt (128#32 : BitVec 32) 128 := Affine.ofNat 128 ⟨rfl, by decide⟩
  have hz : IsInt (0#32 : BitVec 32) 0 := Affine.ofNat 0 ⟨rfl, by decide⟩
  have hd : IsInt (Scalar.divsi b 128#32) (e / 128) := Affine.divsi hb h128 ⟨rfl, h0, by decide⟩
  have hr : IsInt (Scalar.remsi b 128#32) (e % 128) := Affine.remsi hb h128 ⟨rfl, h0, by decide⟩
  have h1' : IsInt (Scalar.subi (Scalar.divsi b 128#32) 1#32) (e / 128 - 1) :=
    Affine.subi hd (Affine.ofNat 1 ⟨rfl, by decide⟩) ⟨rfl, by omega, by omega⟩
  have hs : IsInt (Scalar.subi (Scalar.extui (Scalar.cmpi .sgt 128#32 0#32)) (Scalar.extui (Scalar.cmpi .slt 128#32 0#32)) : BitVec 32) 1 :=
    Affine.subi (Affine.extui_holds (Affine.sgt_holds h128 hz (by decide)) rfl)
      (Affine.extui_fails (Affine.slt_fails h128 hz (by decide)) rfl) ⟨rfl, by decide, by decide⟩
  unfold fd
  by_cases hp : 0 < e
  · have hsb : IsInt (Scalar.subi (Scalar.extui (Scalar.cmpi .sgt b 0#32)) (Scalar.extui (Scalar.cmpi .slt b 0#32)) : BitVec 32) 1 :=
      Affine.subi (Affine.extui_holds (Affine.sgt_holds hb hz hp) rfl)
        (Affine.extui_fails (Affine.slt_fails hb hz (by omega)) rfl) ⟨rfl, by decide, by decide⟩
    exact Affine.select_fails (Affine.andi_fails_left (Affine.ne_fails hsb hs rfl) trivial) h1' hd rfl
  · have he : e = 0 := by omega
    exact Affine.select_fails (Affine.andi_fails_right trivial (Affine.ne_fails hr hz (by rw [he]; rfl))) h1' hd rfl

/-- A block number below 97 and the one after it name blocks of the tables. -/
theorem inb {S : Shape} {x : BitVec 32} {e : Int} (f g h : Fin 3 → Nat) (hx : Affine.IsInt x e) (h0 : 0 ≤ e) (h1 : e ≤ 97)
    (hf : f = ![(Scalar.indexCast x).toNat, 0, 0]) (hg : g 0 = 1) (hh : h 0 = 98) (h2 : g 1 = h 1) (h3 : g 2 = h 2) :
    ∀ a, f a + g a ≤ h a := by
  subst hf
  intro a
  have hn : ((Scalar.indexCast x).toNat : Int) = e := Affine.toNat_of (Affine.indexCast hx) h0
  match a with
  | ⟨0, _⟩ => show (Scalar.indexCast x).toNat + g 0 ≤ h 0; omega
  | ⟨1, _⟩ => show 0 + g 1 ≤ h 1; omega
  | ⟨2, _⟩ => show 0 + g 2 ≤ h 2; omega

theorem one_isInt : Affine.IsInt (1#32 : BitVec 32) 1 := Affine.ofNat 1 ⟨rfl, by decide⟩
theorem c128_isInt : Affine.IsInt (128#32 : BitVec 32) 128 := Affine.ofNat 128 ⟨rfl, by decide⟩

theorem word_isInt {v : BitVec 32} (h : v.toNat < 12288) : Affine.IsInt v (v.toNat : Int) := by
  have := Affine.word v
  rwa [WordCmp.toInt_eq_toNat_of_lt_half (by omega : v.toNat < 2 ^ (32 - 1))] at this

theorem fd_next {b : BitVec 32} {e : Int} (hb : Affine.IsInt (fd b) e) (h0 : 0 ≤ e) (h1 : e ≤ 96) :
    Affine.IsInt (Scalar.addi (fd b) 1#32) (e + 1) :=
  Affine.addi hb one_isInt ⟨rfl, by omega, by omega⟩

/-- The first check: the first sample's ray number names two blocks of the tables. -/
theorem chk1_of {v : BitVec 32} (h : v.toNat < 12288) : k0_chk1 v := by
  have hv := fd_isInt (word_isInt h) (by omega) (by omega)
  have hv' := fd_next hv (by omega) (by omega)
  exact ⟨inb (S := S98x32x128) _ _ _ hv (by omega) (by omega) rfl rfl rfl rfl rfl,
    inb (S := S98x32x128) _ _ _ hv' (by omega) (by omega) rfl rfl rfl rfl rfl,
    inb (S := S98x8x128) _ _ _ hv (by omega) (by omega) rfl rfl rfl rfl rfl,
    inb (S := S98x8x128) _ _ _ hv' (by omega) (by omega) rfl rfl rfl rfl rfl⟩

/-- The number of further windows of 128 rays, as the kernel computes it. -/
theorem extra_pos {a b : BitVec 32} (h : k0_cond2 a b = 1#1) : Affine.Holds (Scalar.cmpi .sgt (fd (Scalar.subi b a)) 0#32) := by
  have h' : Scalar.cmpi .ne (Scalar.extui (Scalar.cmpi .sgt (fd (Scalar.subi b a)) 0#32)) 0#32 = 1#1 := h
  exact (Scalar.guard_iff _).mp h'

theorem sub_isInt {a b : BitVec 32} (ha : a.toNat < 12288) (hb : b.toNat < 12288) :
    Affine.IsInt (Scalar.subi b a) ((b.toNat : Int) - a.toNat) :=
  Affine.subi (word_isInt hb) (word_isInt ha) ⟨rfl, by omega, by omega⟩

/-- The last further window's number is the quotient, and there is one only if the last sample's ray is past the first's window. -/
theorem extra_bounds {a b : BitVec 32} (ha : a.toNat < 12288) (hb : b.toNat < 12288) (h : k0_cond2 a b = 1#1) :
    ∃ X : Int, Affine.IsInt (fd (Scalar.subi b a)) X ∧ 1 ≤ X ∧ X * 128 ≤ (b.toNat : Int) - a.toNat := by
  have hs := sub_isInt ha hb
  have hp := extra_pos h
  have hz : Affine.IsInt (0#32 : BitVec 32) 0 := Affine.ofNat 0 ⟨rfl, by decide⟩
  by_cases h0 : (0 : Int) ≤ (b.toNat : Int) - a.toNat
  · have hX := fd_isInt hs h0 (by omega)
    refine ⟨_, hX, ?_, by omega⟩
    by_contra hc
    exact Affine.sgt_fails hX hz (by omega) hp
  · exfalso
    have hd : (Scalar.divsi (Scalar.subi b a) 128#32).toInt = ((b.toNat : Int) - a.toNat).tdiv 128 := by
      have hi : (Scalar.subi b a).toInt = (b.toNat : Int) - a.toNat := (isInt_iff).mp hs
      show (IntOp.divsi .scalar (Scalar.subi b a) 128#32).toInt = _
      unfold IntOp.divsi
      rw [if_neg (IntOp.not_corner_of_pos (by decide)), BitVec.toInt_sdiv_of_ne_or_ne _ _ (Or.inr (by decide)), hi]
      rfl
    have hle : ((b.toNat : Int) - a.toNat).tdiv 128 ≤ 0 := by
      rw [show (b.toNat : Int) - a.toNat = -((a.toNat : Int) - b.toNat) by omega, Int.neg_tdiv]
      have := Int.tdiv_nonneg (a := (a.toNat : Int) - b.toNat) (b := 128) (by omega) (by decide)
      omega
    have hge : -12288 ≤ ((b.toNat : Int) - a.toNat).tdiv 128 := by
      rw [show (b.toNat : Int) - a.toNat = -((a.toNat : Int) - b.toNat) by omega, Int.neg_tdiv]
      have := Int.tdiv_le_self (a := (a.toNat : Int) - b.toNat) 128 (by omega)
      omega
    have hD : Affine.IsInt (Scalar.divsi (Scalar.subi b a) 128#32) (((b.toNat : Int) - a.toNat).tdiv 128) := (isInt_iff).mpr hd
    have hD' : Affine.IsInt (Scalar.subi (Scalar.divsi (Scalar.subi b a) 128#32) 1#32) (((b.toNat : Int) - a.toNat).tdiv 128 - 1) :=
      Affine.subi hD one_isInt ⟨rfl, by omega, by omega⟩
    unfold fd at hp
    generalize hc : Scalar.andi (Scalar.cmpi .ne (Scalar.subi (Scalar.extui (Scalar.cmpi .sgt (Scalar.subi b a) 0#32)) (Scalar.extui (Scalar.cmpi .slt (Scalar.subi b a) 0#32)))
        (Scalar.subi (Scalar.extui (Scalar.cmpi .sgt 128#32 0#32)) (Scalar.extui (Scalar.cmpi .slt 128#32 0#32))))
      (Scalar.cmpi .ne (Scalar.remsi (Scalar.subi b a) 128#32) 0#32) = c at hp
    by_cases hc1 : c = 1#1
    · rw [WordCmp.select_of_eq_one hc1] at hp
      exact Affine.sgt_fails hD' hz (by omega) hp
    · have hc0 : c = 0#1 := by clear hp hc; revert c; decide
      rw [WordCmp.select_of_eq_zero hc0] at hp
      exact Affine.sgt_fails hD hz (by omega) hp

theorem t2_ub {a b : BitVec 32} {X : Int} (hX : Affine.IsInt (fd (Scalar.subi b a)) X) (h1 : 1 ≤ X) (h2 : X ≤ 96) :
    Affine.IsInt (Scalar.addi 1#32 (Scalar.muli (Scalar.divsi (Scalar.subi (Scalar.addi (fd (Scalar.subi b a)) 1#32) 1#32) 1#32) 1#32)) (X + 1) := by
  have e1 := fd_next hX (by omega) h2
  have e2 : Affine.IsInt (Scalar.subi (Scalar.addi (fd (Scalar.subi b a)) 1#32) 1#32) X := Affine.subi e1 one_isInt ⟨by omega, by omega, by omega⟩
  have e3 := Affine.divsi_one e2 one_isInt ⟨rfl, rfl⟩
  have e4 := Affine.muli (e := X) e3 one_isInt ⟨by omega, by omega, by omega⟩
  exact Affine.addi one_isInt e4 ⟨by omega, by omega, by omega⟩

/-- The block number of further window `k`, and its bounds. -/
theorem base_isInt {a b : BitVec 32} (ha : a.toNat < 12288) (hb : b.toNat < 12288) {X : Int} (hX : Affine.IsInt (fd (Scalar.subi b a)) X)
    (h1 : 1 ≤ X) (h2 : X * 128 ≤ (b.toNat : Int) - a.toNat)
    (k : Fin (Scf.trips (1#32) (Scalar.addi 1#32 (Scalar.muli (Scalar.divsi (Scalar.subi (Scalar.addi (fd (Scalar.subi b a)) 1#32) 1#32) 1#32) 1#32)) 1#32)) :
    ∃ e : Int, Affine.IsInt (fd (Scalar.addi a (Scalar.muli (Scf.iv 1#32 1#32 k) 128#32))) e ∧ 0 ≤ e ∧ e ≤ 96 := by
  have hu := t2_ub hX h1 (by omega)
  have ht := Affine.trips_eq one_isInt hu one_isInt X.toNat ⟨by decide, by omega⟩
  have hk := k.isLt
  have hk : k.val < X.toNat := lt_of_lt_of_eq hk ht
  have hi : Affine.IsInt (Scf.iv 1#32 1#32 k) (1 + (k.val : Int)) := Affine.iv one_isInt one_isInt k ⟨by omega, by omega, by omega⟩
  have hm := Affine.muli (e := (1 + (k.val : Int)) * 128) hi c128_isInt ⟨rfl, by omega, by omega⟩
  have ha' := Affine.addi (e := (a.toNat : Int) + (1 + (k.val : Int)) * 128) (word_isInt ha) hm ⟨rfl, by omega, by omega⟩
  exact ⟨_, fd_isInt ha' (by omega) (by omega), by omega, by omega⟩

/-- The second check: every further window of a tile names two blocks of the tables, and the loops over them count. -/
theorem chk2_of {a b : BitVec 32} (ha : a.toNat < 12288) (hb : b.toNat < 12288) : k0_chk2 a b := by
  have ok (h : k0_cond2 a b = 1#1) : (k0_t2_loop a b).OK := by
    obtain ⟨X, hX, h1, h2⟩ := extra_bounds ha hb h
    exact Affine.ok one_isInt (t2_ub hX h1 (by omega)) one_isInt ⟨by decide, by omega⟩
  have base (h : k0_cond2 a b = 1#1) (k : Fin (k0_t2_loop a b).trips) :
      ∃ e : Int, Affine.IsInt (fd (Scalar.addi a (Scalar.muli (Scf.iv 1#32 1#32 k) 128#32))) e ∧ 0 ≤ e ∧ e ≤ 96 := by
    obtain ⟨X, hX, h1, h2⟩ := extra_bounds ha hb h
    exact base_isInt ha hb hX h1 h2 k
  refine ⟨ok, fun k h => ?_, fun k h => ?_, fun _ => Scf.rem_ok _ _, fun k _ => (Scf.rem_no_trip _ _ k).elim, fun k _ => (Scf.rem_no_trip _ _ k).elim,
    ok, fun k h => ?_, fun k h => ?_, fun _ => Scf.rem_ok _ _, fun k _ => (Scf.rem_no_trip _ _ k).elim, fun k _ => (Scf.rem_no_trip _ _ k).elim⟩
  · obtain ⟨e, he, h0, h1⟩ := base h k
    exact inb (S := S98x32x128) _ _ _ he h0 (by omega) rfl rfl rfl rfl rfl
  · obtain ⟨e, he, h0, h1⟩ := base h k
    exact inb (S := S98x32x128) _ _ _ (fd_next he h0 h1) (by omega) (by omega) rfl rfl rfl rfl rfl
  · obtain ⟨e, he, h0, h1⟩ := base h k
    exact inb (S := S98x8x128) _ _ _ he h0 (by omega) rfl rfl rfl rfl rfl
  · obtain ⟨e, he, h0, h1⟩ := base h k
    exact inb (S := S98x8x128) _ _ _ (fd_next he h0 h1) (by omega) (by omega) rfl rfl rfl rfl rfl

end Cert.Kernel.Hand
end
-- ==== Proof.B.Step.lean ====
/-
  One step of the kernel, whichever of its six runs it is: first, middle or last; the tile's rays in one window of 128 or in more.
-/
module

public import proofs.«01_k».proof.Proof.B.RunAT
public import proofs.«01_k».proof.Proof.B.RunAF
public import proofs.«01_k».proof.Proof.B.RunBT
public import proofs.«01_k».proof.Proof.B.RunBF
public import proofs.«01_k».proof.Proof.B.RunCT
public import proofs.«01_k».proof.Proof.B.RunCF
public import proofs.«01_k».proof.Proof.B.Checks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)

/-- The contents `W` of the outputs and scratch buffers is what one of the six runs leaves. -/
inductive Step : (Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32) → Prop
  | rAT HC1 HC2 (hc1 : k0_cond1 i = 1#1) (hc4 : ¬ k0_cond4 i = 1#1) (hc2 : k0_cond2 (w1 c i arg1 f1) (w2 c i arg2 f2) = 1#1) (hc3 : k0_cond3 (w1 c i arg1 f1) (w2 c i arg2 f2) = 1#1) :
      Step (runAT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rAF HC1 HC2 (hc1 : k0_cond1 i = 1#1) (hc4 : ¬ k0_cond4 i = 1#1) (hc2 : ¬ k0_cond2 (w1 c i arg1 f1) (w2 c i arg2 f2) = 1#1) (hc3 : ¬ k0_cond3 (w1 c i arg1 f1) (w2 c i arg2 f2) = 1#1) :
      Step (runAF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rBT HC1 HC2 (hc1 : ¬ k0_cond1 i = 1#1) (hc4 : ¬ k0_cond4 i = 1#1) (hc2 : k0_cond2 (w1 c i arg1 f1) (w2 c i arg2 f2) = 1#1) (hc3 : k0_cond3 (w1 c i arg1 f1) (w2 c i arg2 f2) = 1#1) :
      Step (runBT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rBF HC1 HC2 (hc1 : ¬ k0_cond1 i = 1#1) (hc4 : ¬ k0_cond4 i = 1#1) (hc2 : ¬ k0_cond2 (w1 c i arg1 f1) (w2 c i arg2 f2) = 1#1) (hc3 : ¬ k0_cond3 (w1 c i arg1 f1) (w2 c i arg2 f2) = 1#1) :
      Step (runBF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rCT HC1 HC2 (hc1 : ¬ k0_cond1 i = 1#1) (hc4 : k0_cond4 i = 1#1) (hc2 : k0_cond2 (w1 c i arg1 f1) (w2 c i arg2 f2) = 1#1) (hc3 : k0_cond3 (w1 c i arg1 f1) (w2 c i arg2 f2) = 1#1) :
      Step (runCT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1
  | rCF HC1 HC2 (hc1 : ¬ k0_cond1 i = 1#1) (hc4 : k0_cond4 i = 1#1) (hc2 : ¬ k0_cond2 (w1 c i arg1 f1) (w2 c i arg2 f2) = 1#1) (hc3 : ¬ k0_cond3 (w1 c i arg1 f1) (w2 c i arg2 f2) = 1#1) :
      Step (runCF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1

/-- A step is not both the first and the last. -/
theorem not_cond4_of_cond1 (h : k0_cond1 i = 1#1) : ¬ k0_cond4 i = 1#1 := by
  intro h4
  unfold k0_cond1 at h
  unfold k0_cond4 at h4
  have e1 := (Scalar.guard_iff _).mp h
  have e4 := (Scalar.guard_iff _).mp h4
  have e1' := IntOp.cmpi_eq.mp e1
  have e4' := IntOp.cmpi_eq.mp e4
  rw [e1'] at e4'
  exact absurd e4' (by decide)

/-- From any contents, the two words being ray numbers, the body runs to its return and leaves what one of its runs leaves. -/
theorem body_step (H1 : (w1 c i arg1 f1).toNat < 12288) (H2 : (w2 c i arg2 f2).toNat < 12288) (g : PrngReg) (E : Set ℕ) (Q : PUnit → sProp 𝕄) (R : sProp 𝕄)
    (hQ : ∀ W, Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 W → iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r) ∗ R) ⊢ Q ⟨⟩) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g ∗ R) ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q := by
  have HC1 : ∀ v, v = w1 c i arg1 f1 → k0_chk1 v := fun v h => h ▸ chk1_of H1
  have HC2 : ∀ a b, a = w1 c i arg1 f1 → b = w2 c i arg2 f2 → k0_chk2 a b := fun a b h h' => by rw [h, h']; exact chk2_of H1 H2
  have fin : ∀ (X : { W : Bf (F := F) c arg18 × Bf (F := F) c arg19 × Bf (F := F) c arg20 × Bf (F := F) c arg21 × Bf (F := F) c arg22 × Bf (F := F) c arg23 × Bf (F := F) c arg24 × Bf (F := F) c arg25 × Bf (F := F) c arg26 × Bf (F := F) c arg27 × Bf (F := F) c arg28 × Bf (F := F) c arg29 × Bf (F := F) c arg30 × Bf (F := F) c arg31 × Bf (F := F) c arg32 // ∀ (g : PrngReg) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g
          ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 W.1 ∗ pt c arg19 W.2.1 ∗ pt c arg20 W.2.2.1 ∗ pt c arg21 W.2.2.2.1 ∗ pt c arg22 W.2.2.2.2.1 ∗ pt c arg23 W.2.2.2.2.2.1 ∗ pt c arg24 W.2.2.2.2.2.2.1 ∗ pt c arg25 W.2.2.2.2.2.2.2.1 ∗ pt c arg26 W.2.2.2.2.2.2.2.2.1 ∗ pt c arg27 W.2.2.2.2.2.2.2.2.2.1 ∗ pt c arg28 W.2.2.2.2.2.2.2.2.2.2.1 ∗ pt c arg29 W.2.2.2.2.2.2.2.2.2.2.2.1 ∗ pt c arg30 W.2.2.2.2.2.2.2.2.2.2.2.2.1 ∗ pt c arg31 W.2.2.2.2.2.2.2.2.2.2.2.2.2.1 ∗ pt c arg32 W.2.2.2.2.2.2.2.2.2.2.2.2.2.2 ∗ (∃ r, prngReg c r)) -∗ Q ⟨⟩))
        ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q }), Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 X.1 →
      iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28 ∗ pt c arg29 f29 ∗ pt c arg30 f30 ∗ pt c arg31 f31 ∗ pt c arg32 f32 ∗ prngReg c g ∗ R) ⊢ wp frame (wpE (defs₀ (F := F)) Variants.none c none) E
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) Q := by
    intro X hX
    have hq := hQ _ hX
    iintro ⟨H1, H2, H3, H4, H5, H6, H7, H8, H9, H10, H11, H12, H13, H14, H15, H16, H17, H18, H19, H20, H21, H22, H23, H24, H25, H26, H27, H28, H29, H30, H31, H32, Hg, HR⟩
    iapply (X.2 g E Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [Hg]; · iexact Hg
    iintro ⟨H1, H2, H3, H4, H5, H6, H7, H8, H9, H10, H11, H12, H13, H14, H15, H16, H17, H18, H19, H20, H21, H22, H23, H24, H25, H26, H27, H28, H29, H30, H31, H32, Hg⟩
    iapply hq
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [Hg]; · iexact Hg
    iexact HR
  have h23 : k0_cond3 (w1 c i arg1 f1) (w2 c i arg2 f2) = k0_cond2 (w1 c i arg1 f1) (w2 c i arg2 f2) := rfl
  by_cases hc2 : k0_cond2 (w1 c i arg1 f1) (w2 c i arg2 f2) = 1#1 <;> by_cases hc1 : k0_cond1 i = 1#1
  · exact fin _ (.rAT HC1 HC2 hc1 (not_cond4_of_cond1 i hc1) hc2 (h23.trans hc2))
  · by_cases hc4 : k0_cond4 i = 1#1
    · exact fin _ (.rCT HC1 HC2 hc1 hc4 hc2 (h23.trans hc2))
    · exact fin _ (.rBT HC1 HC2 hc1 hc4 hc2 (h23.trans hc2))
  · exact fin _ (.rAF HC1 HC2 hc1 (not_cond4_of_cond1 i hc1) hc2 (h23 ▸ hc2))
  · by_cases hc4 : k0_cond4 i = 1#1
    · exact fin _ (.rCF HC1 HC2 hc1 hc4 hc2 (h23 ▸ hc2))
    · exact fin _ (.rBF HC1 HC2 hc1 hc4 hc2 (h23 ▸ hc2))

end Cert.Kernel.Hand

end
-- ==== Proof.B.Body.lean ====
/-
  The pipeline's body obligation and the run of @main, for any predicate `Rl` on what each output window is left at and any
  invariant `Inv` on what the scratch buffers hold between steps that the six runs of the body meet (`StepOK`).
-/
module

public import proofs.«01_k».proof.Proof.B.Step
public import proofs.«01_k».proof.Proof.Gen.Kernel.Frame
public import Idealize.ShloMosaic.Lib.Pipeline.DatRel
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- Window 0's staging memref at point `t`. -/
abbrev ms0 (t : Fin cfg0.N) : Memref sig .tc .smem S222 .i32 := win0_0.stage (cfg0.slots t 0)
theorem hs0 (t : Fin cfg0.N) : (ms0 t).IsWhole := hstage0_0 ((cfg0.slots t 0).cast nbuf0_0)
/-- Window 1's staging memref at point `t`. -/
abbrev ms1 (t : Fin cfg0.N) : Memref sig .tc .smem S222 .i32 := win0_1.stage (cfg0.slots t 1)
theorem hs1 (t : Fin cfg0.N) : (ms1 t).IsWhole := hstage0_1 ((cfg0.slots t 1).cast nbuf0_1)
/-- Window 2's staging memref at point `t`. -/
abbrev ms2 (t : Fin cfg0.N) : Memref sig .tc .smem S18 .f32 := win0_2.stage (cfg0.slots t 2)
theorem hs2 (t : Fin cfg0.N) : (ms2 t).IsWhole := hstage0_2 ((cfg0.slots t 2).cast nbuf0_2)
/-- Window 3's staging memref at point `t`. -/
abbrev ms3 (t : Fin cfg0.N) : Memref sig .tc .vmem S3x2048 .f32 := win0_3.stage (cfg0.slots t 3)
theorem hs3 (t : Fin cfg0.N) : (ms3 t).IsWhole := hstage0_3 ((cfg0.slots t 3).cast nbuf0_3)
/-- Window 4's staging memref at point `t`. -/
abbrev ms4 (t : Fin cfg0.N) : Memref sig .tc .vmem S2048 .f32 := win0_4.stage (cfg0.slots t 4)
theorem hs4 (t : Fin cfg0.N) : (ms4 t).IsWhole := hstage0_4 ((cfg0.slots t 4).cast nbuf0_4)
/-- Window 5's staging memref at point `t`. -/
abbrev ms5 (t : Fin cfg0.N) : Memref sig .tc .vmem S2048 .i32 := win0_5.stage (cfg0.slots t 5)
theorem hs5 (t : Fin cfg0.N) : (ms5 t).IsWhole := hstage0_5 ((cfg0.slots t 5).cast nbuf0_5)
/-- Window 6's staging memref at point `t`. -/
abbrev ms6 (t : Fin cfg0.N) : Memref sig .tc .vmem S3x12288 .f32 := win0_6.stage (cfg0.slots t 6)
theorem hs6 (t : Fin cfg0.N) : (ms6 t).IsWhole := hstage0_6 ((cfg0.slots t 6).cast nbuf0_6)
/-- Window 7's staging memref at point `t`. -/
abbrev ms7 (t : Fin cfg0.N) : Memref sig .tc .vmem S63x256 .fp8e4m3 := win0_7.stage (cfg0.slots t 7)
theorem hs7 (t : Fin cfg0.N) : (ms7 t).IsWhole := hstage0_7 ((cfg0.slots t 7).cast nbuf0_7)
/-- Window 8's staging memref at point `t`. -/
abbrev ms8 (t : Fin cfg0.N) : Memref sig .tc .vmem S7x256x256 .fp8e4m3 := win0_8.stage (cfg0.slots t 8)
theorem hs8 (t : Fin cfg0.N) : (ms8 t).IsWhole := hstage0_8 ((cfg0.slots t 8).cast nbuf0_8)
/-- Window 9's staging memref at point `t`. -/
abbrev ms9 (t : Fin cfg0.N) : Memref sig .tc .vmem S63x256 .fp8e4m3 := win0_9.stage (cfg0.slots t 9)
theorem hs9 (t : Fin cfg0.N) : (ms9 t).IsWhole := hstage0_9 ((cfg0.slots t 9).cast nbuf0_9)
/-- Window 10's staging memref at point `t`. -/
abbrev ms10 (t : Fin cfg0.N) : Memref sig .tc .vmem S256x256 .fp8e4m3 := win0_10.stage (cfg0.slots t 10)
theorem hs10 (t : Fin cfg0.N) : (ms10 t).IsWhole := hstage0_10 ((cfg0.slots t 10).cast nbuf0_10)
/-- Window 11's staging memref at point `t`. -/
abbrev ms11 (t : Fin cfg0.N) : Memref sig .tc .vmem S32x256 .fp8e4m3 := win0_11.stage (cfg0.slots t 11)
theorem hs11 (t : Fin cfg0.N) : (ms11 t).IsWhole := hstage0_11 ((cfg0.slots t 11).cast nbuf0_11)
/-- Window 12's staging memref at point `t`. -/
abbrev ms12 (t : Fin cfg0.N) : Memref sig .tc .vmem S256x128 .fp8e4m3 := win0_12.stage (cfg0.slots t 12)
theorem hs12 (t : Fin cfg0.N) : (ms12 t).IsWhole := hstage0_12 ((cfg0.slots t 12).cast nbuf0_12)
/-- Window 13's staging memref at point `t`. -/
abbrev ms13 (t : Fin cfg0.N) : Memref sig .tc .vmem S27x128 .fp8e4m3 := win0_13.stage (cfg0.slots t 13)
theorem hs13 (t : Fin cfg0.N) : (ms13 t).IsWhole := hstage0_13 ((cfg0.slots t 13).cast nbuf0_13)
/-- Window 14's staging memref at point `t`. -/
abbrev ms14 (t : Fin cfg0.N) : Memref sig .tc .vmem S3x128 .fp8e4m3 := win0_14.stage (cfg0.slots t 14)
theorem hs14 (t : Fin cfg0.N) : (ms14 t).IsWhole := hstage0_14 ((cfg0.slots t 14).cast nbuf0_14)
/-- Window 15's staging memref at point `t`. -/
abbrev ms15 (t : Fin cfg0.N) : Memref sig .tc .vmem S16x256 .f32 := win0_15.stage (cfg0.slots t 15)
theorem hs15 (t : Fin cfg0.N) : (ms15 t).IsWhole := hstage0_15 ((cfg0.slots t 15).cast nbuf0_15)
/-- Window 16's staging memref at point `t`. -/
abbrev ms16 (t : Fin cfg0.N) : Memref sig .tc .vmem S8x128 .f32 := win0_16.stage (cfg0.slots t 16)
theorem hs16 (t : Fin cfg0.N) : (ms16 t).IsWhole := hstage0_16 ((cfg0.slots t 16).cast nbuf0_16)
/-- Window 17's staging memref at point `t`. -/
abbrev ms17 (t : Fin cfg0.N) : Memref sig .tc .vmem S8x12288 .f32 := win0_17.stage (cfg0.slots t 17)
theorem hs17 (t : Fin cfg0.N) : (ms17 t).IsWhole := hstage0_17 ((cfg0.slots t 17).cast nbuf0_17)
/-- Window 18's staging memref at point `t`. -/
abbrev ms18 (t : Fin cfg0.N) : Memref sig .tc .vmem S2048 .f32 := win0_18.stage (cfg0.slots t 18)
theorem hs18 (t : Fin cfg0.N) : (ms18 t).IsWhole := hstage0_18 ((cfg0.slots t 18).cast nbuf0_18)
/-- Window 19's staging memref at point `t`. -/
abbrev ms19 (t : Fin cfg0.N) : Memref sig .tc .vmem S2048 .f32 := win0_19.stage (cfg0.slots t 19)
theorem hs19 (t : Fin cfg0.N) : (ms19 t).IsWhole := hstage0_19 ((cfg0.slots t 19).cast nbuf0_19)
/-- Window 20's staging memref at point `t`. -/
abbrev ms20 (t : Fin cfg0.N) : Memref sig .tc .vmem S10x128 .f32 := win0_20.stage (cfg0.slots t 20)
theorem hs20 (t : Fin cfg0.N) : (ms20 t).IsWhole := hstage0_20 ((cfg0.slots t 20).cast nbuf0_20)
/-- Window 21's staging memref at point `t`. -/
abbrev ms21 (t : Fin cfg0.N) : Memref sig .tc .vmem S63x2048 .fp8e4m3 := win0_21.stage (cfg0.slots t 21)
theorem hs21 (t : Fin cfg0.N) : (ms21 t).IsWhole := hstage0_21 ((cfg0.slots t 21).cast nbuf0_21)
/-- Window 22's staging memref at point `t`. -/
abbrev ms22 (t : Fin cfg0.N) : Memref sig .tc .vmem S2048x256 .fp8e4m3 := win0_22.stage (cfg0.slots t 22)
theorem hs22 (t : Fin cfg0.N) : (ms22 t).IsWhole := hstage0_22 ((cfg0.slots t 22).cast nbuf0_22)
/-- Window 23's staging memref at point `t`. -/
abbrev ms23 (t : Fin cfg0.N) : Memref sig .tc .vmem S30x2048 .f32 := win0_23.stage (cfg0.slots t 23)
theorem hs23 (t : Fin cfg0.N) : (ms23 t).IsWhole := hstage0_23 ((cfg0.slots t 23).cast nbuf0_23)
/-- Window 24's staging memref at point `t`. -/
abbrev ms24 (t : Fin cfg0.N) : Memref sig .tc .vmem S12x12288 .f32 := win0_24.stage (cfg0.slots t 24)
theorem hs24 (t : Fin cfg0.N) : (ms24 t).IsWhole := hstage0_24 ((cfg0.slots t 24).cast nbuf0_24)

/-- Scratch buffer 0, whole. -/
abbrev sM0 : Memref sig .tc .vmem S10x8x256 .f32 := Memref.whole cc0_scratch0
/-- Scratch buffer 1, whole. -/
abbrev sM1 : Memref sig .tc .vmem S98x32x128 .f32 := Memref.whole cc0_scratch1
/-- Scratch buffer 2, whole. -/
abbrev sM2 : Memref sig .tc .vmem S98x8x128 .f32 := Memref.whole cc0_scratch2
/-- Scratch buffer 3, whole. -/
abbrev sM3 : Memref sig .tc .vmem S8x128 .f32 := Memref.whole cc0_scratch3
/-- Scratch buffer 4, whole. -/
abbrev sM4 : Memref sig .tc .vmem S8x128 .i32 := Memref.whole cc0_scratch4
/-- Scratch buffer 5, whole. -/
abbrev sM5 : Memref sig .tc .vmem S32x2048 .f32 := Memref.whole cc0_scratch5
/-- Scratch buffer 6, whole. -/
abbrev sM6 : Memref sig .tc .vmem S16x128 .f32 := Memref.whole cc0_scratch6

/-- The contents of the seven scratch buffers. -/
abbrev Scr (c : Dev nD) : Type := Bf (F := F) c sM0 × Bf (F := F) c sM1 × Bf (F := F) c sM2 × Bf (F := F) c sM3 × Bf (F := F) c sM4 × Bf (F := F) c sM5 × Bf (F := F) c sM6

/-- The windows held to a predicate: every output, and the three inputs whose last block reaches past the array. -/
def fgt : Fin cfg0.W → Bool := fun w => decide (w.val = 3 ∨ w.val = 4 ∨ w.val = 5 ∨ 17 ≤ w.val)

variable (Inv : (c : Dev nD) → ℕ → Scr (F := F) c → Prop)
variable (Rl : (c : Dev nD) → (w : Fin cfg0.W) → Fin cfg0.N → ((cfg0.win w).block.Idx → Elt F (cfg0.win w).elt) → Prop)

/-- The invariant between steps: the scratch buffers at contents that `Inv` admits, the generator register at some state. -/
def PhiS (c : Dev nD) (t : ℕ) : sProp 𝕄 :=
  iprop(∃ S : Scr (F := F) c, ⌜Inv c t S⌝ ∗ pt c sM0 S.1 ∗ pt c sM1 S.2.1 ∗ pt c sM2 S.2.2.1 ∗ pt c sM3 S.2.2.2.1 ∗ pt c sM4 S.2.2.2.2.1 ∗ pt c sM5 S.2.2.2.2.2.1 ∗ pt c sM6 S.2.2.2.2.2.2 ∗ ∃ r, prngReg c r)

/-- The proof data: each array as the region finds it, an input window left at its block, the invariant `PhiS`. -/
def dats (_ : Fin 1) (c : Dev nD) : Dat τ (Elt F) Unit ℕ (UR sig nD τ) ℕ cfg0 c where
  A w := V m c (Pipeline.arrRef spec0 w)
  after w t := (cfg0.win w).fill (cfg0.grid.coords t) (Pipeline.Dat.unnamed (cfg := cfg0) w t) (iblk m c w t)
  Φ t := PhiS Inv c t.val
  q _ := fullShare
  owed _ := 0

theorem A_eq (c : Dev nD) (w : Fin cfg0.W) : (dats m Inv 0 c).A w = V m c (Pipeline.arrRef spec0 w) := by dsimp only [dats]

theorem after0 (c : Dev nD) (t : Fin cfg0.N) : (dats m Inv 0 c).after 0 t = iblk m c 0 t := rfl
theorem after1 (c : Dev nD) (t : Fin cfg0.N) : (dats m Inv 0 c).after 1 t = iblk m c 1 t := rfl
theorem after2 (c : Dev nD) (t : Fin cfg0.N) : (dats m Inv 0 c).after 2 t = iblk m c 2 t := rfl
theorem after6 (c : Dev nD) (t : Fin cfg0.N) : (dats m Inv 0 c).after 6 t = iblk m c 6 t := rfl
theorem after7 (c : Dev nD) (t : Fin cfg0.N) : (dats m Inv 0 c).after 7 t = iblk m c 7 t := rfl
theorem after8 (c : Dev nD) (t : Fin cfg0.N) : (dats m Inv 0 c).after 8 t = iblk m c 8 t := rfl
theorem after9 (c : Dev nD) (t : Fin cfg0.N) : (dats m Inv 0 c).after 9 t = iblk m c 9 t := rfl
theorem after10 (c : Dev nD) (t : Fin cfg0.N) : (dats m Inv 0 c).after 10 t = iblk m c 10 t := rfl
theorem after11 (c : Dev nD) (t : Fin cfg0.N) : (dats m Inv 0 c).after 11 t = iblk m c 11 t := rfl
theorem after12 (c : Dev nD) (t : Fin cfg0.N) : (dats m Inv 0 c).after 12 t = iblk m c 12 t := rfl
theorem after13 (c : Dev nD) (t : Fin cfg0.N) : (dats m Inv 0 c).after 13 t = iblk m c 13 t := rfl
theorem after14 (c : Dev nD) (t : Fin cfg0.N) : (dats m Inv 0 c).after 14 t = iblk m c 14 t := rfl
theorem after15 (c : Dev nD) (t : Fin cfg0.N) : (dats m Inv 0 c).after 15 t = iblk m c 15 t := rfl
theorem after16 (c : Dev nD) (t : Fin cfg0.N) : (dats m Inv 0 c).after 16 t = iblk m c 16 t := rfl

/-- What a step is asked: from input blocks as fetched and scratch contents that `Inv` admits, whatever run the step is, it leaves the outputs meeting `Rl` and the scratch admitted at the next step. -/
def StepOK : Prop :=
  ∀ (c : Dev nD) (t : Fin cfg0.N) (f1 : Bf (F := F) c (ms0 t)) (f2 : Bf (F := F) c (ms1 t)) (f3 : Bf (F := F) c (ms2 t)) (f4 : Bf (F := F) c (ms3 t)) (f5 : Bf (F := F) c (ms4 t)) (f6 : Bf (F := F) c (ms5 t)) (f7 : Bf (F := F) c (ms6 t)) (f8 : Bf (F := F) c (ms7 t)) (f9 : Bf (F := F) c (ms8 t)) (f10 : Bf (F := F) c (ms9 t)) (f11 : Bf (F := F) c (ms10 t)) (f12 : Bf (F := F) c (ms11 t)) (f13 : Bf (F := F) c (ms12 t)) (f14 : Bf (F := F) c (ms13 t)) (f15 : Bf (F := F) c (ms14 t)) (f16 : Bf (F := F) c (ms15 t)) (f17 : Bf (F := F) c (ms16 t)) (f18 : Bf (F := F) c (ms17 t)) (f19 : Bf (F := F) c (ms18 t)) (f20 : Bf (F := F) c (ms19 t)) (f21 : Bf (F := F) c (ms20 t)) (f22 : Bf (F := F) c (ms21 t)) (f23 : Bf (F := F) c (ms22 t)) (f24 : Bf (F := F) c (ms23 t)) (f25 : Bf (F := F) c (ms24 t)) (S : Scr (F := F) c) (W : Bf (F := F) c (ms17 t) × Bf (F := F) c (ms18 t) × Bf (F := F) c (ms19 t) × Bf (F := F) c (ms20 t) × Bf (F := F) c (ms21 t) × Bf (F := F) c (ms22 t) × Bf (F := F) c (ms23 t) × Bf (F := F) c (ms24 t) × Bf (F := F) c sM0 × Bf (F := F) c sM1 × Bf (F := F) c sM2 × Bf (F := F) c sM3 × Bf (F := F) c sM4 × Bf (F := F) c sM5 × Bf (F := F) c sM6),
    (ms0 t).view.read (Elt F) f1 = iblk m c 0 t →
    (ms1 t).view.read (Elt F) f2 = iblk m c 1 t →
    (ms2 t).view.read (Elt F) f3 = iblk m c 2 t →
    ((dats m Inv 0 c).toRRel fgt (Rl c)).Finds 3 t ((ms3 t).view.read (Elt F) f4) →
    ((dats m Inv 0 c).toRRel fgt (Rl c)).Finds 4 t ((ms4 t).view.read (Elt F) f5) →
    ((dats m Inv 0 c).toRRel fgt (Rl c)).Finds 5 t ((ms5 t).view.read (Elt F) f6) →
    (ms6 t).view.read (Elt F) f7 = iblk m c 6 t →
    (ms7 t).view.read (Elt F) f8 = iblk m c 7 t →
    (ms8 t).view.read (Elt F) f9 = iblk m c 8 t →
    (ms9 t).view.read (Elt F) f10 = iblk m c 9 t →
    (ms10 t).view.read (Elt F) f11 = iblk m c 10 t →
    (ms11 t).view.read (Elt F) f12 = iblk m c 11 t →
    (ms12 t).view.read (Elt F) f13 = iblk m c 12 t →
    (ms13 t).view.read (Elt F) f14 = iblk m c 13 t →
    (ms14 t).view.read (Elt F) f15 = iblk m c 14 t →
    (ms15 t).view.read (Elt F) f16 = iblk m c 15 t →
    (ms16 t).view.read (Elt F) f17 = iblk m c 16 t →
    ((dats m Inv 0 c).toRRel fgt (Rl c)).Finds 17 t ((ms17 t).view.read (Elt F) f18) →
    ((dats m Inv 0 c).toRRel fgt (Rl c)).Finds 18 t ((ms18 t).view.read (Elt F) f19) →
    ((dats m Inv 0 c).toRRel fgt (Rl c)).Finds 19 t ((ms19 t).view.read (Elt F) f20) →
    ((dats m Inv 0 c).toRRel fgt (Rl c)).Finds 20 t ((ms20 t).view.read (Elt F) f21) →
    ((dats m Inv 0 c).toRRel fgt (Rl c)).Finds 21 t ((ms21 t).view.read (Elt F) f22) →
    ((dats m Inv 0 c).toRRel fgt (Rl c)).Finds 22 t ((ms22 t).view.read (Elt F) f23) →
    ((dats m Inv 0 c).toRRel fgt (Rl c)).Finds 23 t ((ms23 t).view.read (Elt F) f24) →
    ((dats m Inv 0 c).toRRel fgt (Rl c)).Finds 24 t ((ms24 t).view.read (Elt F) f25) →
    Inv c t.val S → Step c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) f1 f2 f3 f4 f5 f6 f7 f8 f9 f10 f11 f12 f13 f14 f15 f16 f17 f18 f19 f20 f21 f22 f23 f24 f25  S.1 S.2.1 S.2.2.1 S.2.2.2.1 S.2.2.2.2.1 S.2.2.2.2.2.1 S.2.2.2.2.2.2 W →
    Rl c 17 t ((ms17 t).view.read (Elt F) W.1) ∧ Rl c 18 t ((ms18 t).view.read (Elt F) W.2.1) ∧ Rl c 19 t ((ms19 t).view.read (Elt F) W.2.2.1) ∧ Rl c 20 t ((ms20 t).view.read (Elt F) W.2.2.2.1) ∧ Rl c 21 t ((ms21 t).view.read (Elt F) W.2.2.2.2.1) ∧ Rl c 22 t ((ms22 t).view.read (Elt F) W.2.2.2.2.2.1) ∧ Rl c 23 t ((ms23 t).view.read (Elt F) W.2.2.2.2.2.2.1) ∧ Rl c 24 t ((ms24 t).view.read (Elt F) W.2.2.2.2.2.2.2.1) ∧ Inv c (t.val + 1) (W.2.2.2.2.2.2.2.2.1, W.2.2.2.2.2.2.2.2.2.1, W.2.2.2.2.2.2.2.2.2.2.1, W.2.2.2.2.2.2.2.2.2.2.2.1, W.2.2.2.2.2.2.2.2.2.2.2.2.1, W.2.2.2.2.2.2.2.2.2.2.2.2.2.1, W.2.2.2.2.2.2.2.2.2.2.2.2.2.2)

/-- The first word a step reads is a ray number, whichever contents its staging buffer holds the table in; likewise the second. -/
def WordsOK : Prop :=
  ∀ (c : Dev nD) (t : Fin cfg0.N), (∀ f : Bf (F := F) c (ms0 t), (ms0 t).view.read (Elt F) f = iblk m c 0 t → (w1 c (grid0.coords t) (ms0 t) f).toNat < 12288)
    ∧ (∀ f : Bf (F := F) c (ms1 t), (ms1 t).view.read (Elt F) f = iblk m c 1 t → (w2 c (grid0.coords t) (ms1 t) f).toNat < 12288)

/-- What the body is called with at point `t`, and what it returns. -/
def bodyPre (c : Dev nD) (t : Fin cfg0.N) : sProp 𝕄 :=
  iprop((dats m Inv 0 c).Φ t.castSucc ∗ (dats m Inv 0 c).owesAt () t.castSucc
    ∗ (∃ d, owns (c : Thread nD τ) (ms0 t) fullShare ((dats m Inv 0 c).before 0 t d)) ∗ (∃ d, owns (c : Thread nD τ) (ms1 t) fullShare ((dats m Inv 0 c).before 1 t d)) ∗ (∃ d, owns (c : Thread nD τ) (ms2 t) fullShare ((dats m Inv 0 c).before 2 t d)) ∗ (∃ Y, ⌜((dats m Inv 0 c).toRRel fgt (Rl c)).Finds 3 t Y⌝ ∗ owns (c : Thread nD τ) (ms3 t) fullShare Y) ∗ (∃ Y, ⌜((dats m Inv 0 c).toRRel fgt (Rl c)).Finds 4 t Y⌝ ∗ owns (c : Thread nD τ) (ms4 t) fullShare Y) ∗ (∃ Y, ⌜((dats m Inv 0 c).toRRel fgt (Rl c)).Finds 5 t Y⌝ ∗ owns (c : Thread nD τ) (ms5 t) fullShare Y) ∗ (∃ d, owns (c : Thread nD τ) (ms6 t) fullShare ((dats m Inv 0 c).before 6 t d)) ∗ (∃ d, owns (c : Thread nD τ) (ms7 t) fullShare ((dats m Inv 0 c).before 7 t d)) ∗ (∃ d, owns (c : Thread nD τ) (ms8 t) fullShare ((dats m Inv 0 c).before 8 t d)) ∗ (∃ d, owns (c : Thread nD τ) (ms9 t) fullShare ((dats m Inv 0 c).before 9 t d)) ∗ (∃ d, owns (c : Thread nD τ) (ms10 t) fullShare ((dats m Inv 0 c).before 10 t d)) ∗ (∃ d, owns (c : Thread nD τ) (ms11 t) fullShare ((dats m Inv 0 c).before 11 t d)) ∗ (∃ d, owns (c : Thread nD τ) (ms12 t) fullShare ((dats m Inv 0 c).before 12 t d)) ∗ (∃ d, owns (c : Thread nD τ) (ms13 t) fullShare ((dats m Inv 0 c).before 13 t d)) ∗ (∃ d, owns (c : Thread nD τ) (ms14 t) fullShare ((dats m Inv 0 c).before 14 t d)) ∗ (∃ d, owns (c : Thread nD τ) (ms15 t) fullShare ((dats m Inv 0 c).before 15 t d)) ∗ (∃ d, owns (c : Thread nD τ) (ms16 t) fullShare ((dats m Inv 0 c).before 16 t d)) ∗ (∃ Y, ⌜((dats m Inv 0 c).toRRel fgt (Rl c)).Finds 17 t Y⌝ ∗ owns (c : Thread nD τ) (ms17 t) fullShare Y) ∗ (∃ Y, ⌜((dats m Inv 0 c).toRRel fgt (Rl c)).Finds 18 t Y⌝ ∗ owns (c : Thread nD τ) (ms18 t) fullShare Y) ∗ (∃ Y, ⌜((dats m Inv 0 c).toRRel fgt (Rl c)).Finds 19 t Y⌝ ∗ owns (c : Thread nD τ) (ms19 t) fullShare Y) ∗ (∃ Y, ⌜((dats m Inv 0 c).toRRel fgt (Rl c)).Finds 20 t Y⌝ ∗ owns (c : Thread nD τ) (ms20 t) fullShare Y) ∗ (∃ Y, ⌜((dats m Inv 0 c).toRRel fgt (Rl c)).Finds 21 t Y⌝ ∗ owns (c : Thread nD τ) (ms21 t) fullShare Y) ∗ (∃ Y, ⌜((dats m Inv 0 c).toRRel fgt (Rl c)).Finds 22 t Y⌝ ∗ owns (c : Thread nD τ) (ms22 t) fullShare Y) ∗ (∃ Y, ⌜((dats m Inv 0 c).toRRel fgt (Rl c)).Finds 23 t Y⌝ ∗ owns (c : Thread nD τ) (ms23 t) fullShare Y) ∗ (∃ Y, ⌜((dats m Inv 0 c).toRRel fgt (Rl c)).Finds 24 t Y⌝ ∗ owns (c : Thread nD τ) (ms24 t) fullShare Y))
def bodyPost (c : Dev nD) (t : Fin cfg0.N) : sProp 𝕄 :=
  iprop((dats m Inv 0 c).Φ t.succ ∗ (dats m Inv 0 c).owesAt () t.succ
    ∗ owns (c : Thread nD τ) (ms0 t) fullShare ((dats m Inv 0 c).after 0 t) ∗ owns (c : Thread nD τ) (ms1 t) fullShare ((dats m Inv 0 c).after 1 t) ∗ owns (c : Thread nD τ) (ms2 t) fullShare ((dats m Inv 0 c).after 2 t) ∗ (∃ X, ⌜Rl c 3 t X⌝ ∗ owns (c : Thread nD τ) (ms3 t) fullShare X) ∗ (∃ X, ⌜Rl c 4 t X⌝ ∗ owns (c : Thread nD τ) (ms4 t) fullShare X) ∗ (∃ X, ⌜Rl c 5 t X⌝ ∗ owns (c : Thread nD τ) (ms5 t) fullShare X) ∗ owns (c : Thread nD τ) (ms6 t) fullShare ((dats m Inv 0 c).after 6 t) ∗ owns (c : Thread nD τ) (ms7 t) fullShare ((dats m Inv 0 c).after 7 t) ∗ owns (c : Thread nD τ) (ms8 t) fullShare ((dats m Inv 0 c).after 8 t) ∗ owns (c : Thread nD τ) (ms9 t) fullShare ((dats m Inv 0 c).after 9 t) ∗ owns (c : Thread nD τ) (ms10 t) fullShare ((dats m Inv 0 c).after 10 t) ∗ owns (c : Thread nD τ) (ms11 t) fullShare ((dats m Inv 0 c).after 11 t) ∗ owns (c : Thread nD τ) (ms12 t) fullShare ((dats m Inv 0 c).after 12 t) ∗ owns (c : Thread nD τ) (ms13 t) fullShare ((dats m Inv 0 c).after 13 t) ∗ owns (c : Thread nD τ) (ms14 t) fullShare ((dats m Inv 0 c).after 14 t) ∗ owns (c : Thread nD τ) (ms15 t) fullShare ((dats m Inv 0 c).after 15 t) ∗ owns (c : Thread nD τ) (ms16 t) fullShare ((dats m Inv 0 c).after 16 t) ∗ (∃ X, ⌜Rl c 17 t X⌝ ∗ owns (c : Thread nD τ) (ms17 t) fullShare X) ∗ (∃ X, ⌜Rl c 18 t X⌝ ∗ owns (c : Thread nD τ) (ms18 t) fullShare X) ∗ (∃ X, ⌜Rl c 19 t X⌝ ∗ owns (c : Thread nD τ) (ms19 t) fullShare X) ∗ (∃ X, ⌜Rl c 20 t X⌝ ∗ owns (c : Thread nD τ) (ms20 t) fullShare X) ∗ (∃ X, ⌜Rl c 21 t X⌝ ∗ owns (c : Thread nD τ) (ms21 t) fullShare X) ∗ (∃ X, ⌜Rl c 22 t X⌝ ∗ owns (c : Thread nD τ) (ms22 t) fullShare X) ∗ (∃ X, ⌜Rl c 23 t X⌝ ∗ owns (c : Thread nD τ) (ms23 t) fullShare X) ∗ (∃ X, ⌜Rl c 24 t X⌝ ∗ owns (c : Thread nD τ) (ms24 t) fullShare X))

set_option maxHeartbeats 4000000 in
/-- The body at a point: the staging buffers and the scratch opened, one step (`body_step`), and all closed again. -/
theorem sound_body (hW : WordsOK m) (hS : StepOK m Inv Rl) (hI : ∀ c t X, Rl c 3 t X) (hI4 : ∀ c t X, Rl c 4 t X) (hI5 : ∀ c t X, Rl c 5 t X) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost bodyAt0
  rw [show (dats m Inv 0 c).owesAt () t.succ = (dats m Inv 0 c).owesAt () t.castSucc from rfl,
    show (dats m Inv 0 c).Φ t.castSucc = PhiS Inv c t.val from rfl, show (dats m Inv 0 c).Φ t.succ = PhiS Inv c (t.val + 1) from rfl]
  unfold PhiS owns
  iintro ⟨⟨%S, %hInv, H26, H27, H28, H29, H30, H31, H32, ⟨%g, Hg⟩⟩, HO, ⟨%d1, %f1, %e1, H1⟩, ⟨%d2, %f2, %e2, H2⟩, ⟨%d3, %f3, %e3, H3⟩, ⟨%Y4, %F4, %f4, %e4, H4⟩, ⟨%Y5, %F5, %f5, %e5, H5⟩, ⟨%Y6, %F6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%Y18, %F18, %f18, %e18, H18⟩, ⟨%Y19, %F19, %f19, %e19, H19⟩, ⟨%Y20, %F20, %f20, %e20, H20⟩, ⟨%Y21, %F21, %f21, %e21, H21⟩, ⟨%Y22, %F22, %f22, %e22, H22⟩, ⟨%Y23, %F23, %f23, %e23, H23⟩, ⟨%Y24, %F24, %f24, %e24, H24⟩, ⟨%Y25, %F25, %f25, %e25, H25⟩⟩
  have e1' := e1.trans (before0_0_of m (dats m Inv 0 c) (A_eq m Inv c 0) (fun t => after0 m Inv c t) t d1)
  have e2' := e2.trans (before0_1_of m (dats m Inv 0 c) (A_eq m Inv c 1) (fun t => after1 m Inv c t) t d2)
  have e3' := e3.trans (before0_2_of m (dats m Inv 0 c) (A_eq m Inv c 2) (fun t => after2 m Inv c t) t d3)
  have e7' := e7.trans (before0_6_of m (dats m Inv 0 c) (A_eq m Inv c 6) (fun t => after6 m Inv c t) t d7)
  have e8' := e8.trans (before0_7_of m (dats m Inv 0 c) (A_eq m Inv c 7) (fun t => after7 m Inv c t) t d8)
  have e9' := e9.trans (before0_8_of m (dats m Inv 0 c) (A_eq m Inv c 8) (fun t => after8 m Inv c t) t d9)
  have e10' := e10.trans (before0_9_of m (dats m Inv 0 c) (A_eq m Inv c 9) (fun t => after9 m Inv c t) t d10)
  have e11' := e11.trans (before0_10_of m (dats m Inv 0 c) (A_eq m Inv c 10) (fun t => after10 m Inv c t) t d11)
  have e12' := e12.trans (before0_11_of m (dats m Inv 0 c) (A_eq m Inv c 11) (fun t => after11 m Inv c t) t d12)
  have e13' := e13.trans (before0_12_of m (dats m Inv 0 c) (A_eq m Inv c 12) (fun t => after12 m Inv c t) t d13)
  have e14' := e14.trans (before0_13_of m (dats m Inv 0 c) (A_eq m Inv c 13) (fun t => after13 m Inv c t) t d14)
  have e15' := e15.trans (before0_14_of m (dats m Inv 0 c) (A_eq m Inv c 14) (fun t => after14 m Inv c t) t d15)
  have e16' := e16.trans (before0_15_of m (dats m Inv 0 c) (A_eq m Inv c 15) (fun t => after15 m Inv c t) t d16)
  have e17' := e17.trans (before0_16_of m (dats m Inv 0 c) (A_eq m Inv c 16) (fun t => after16 m Inv c t) t d17)
  iapply (body_step c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) f1 f2 f3 f4 f5 f6 f7 f8 f9 f10 f11 f12 f13 f14 f15 f16 f17 f18 f19 f20 f21 f22 f23 f24 f25 S.1 S.2.1 S.2.2.1 S.2.2.2.1 S.2.2.2.2.1 S.2.2.2.2.2.1 S.2.2.2.2.2.2 ((hW c t).1 f1 e1') ((hW c t).2 f2 e2') g Set.univ _ ((dats m Inv 0 c).owesAt () t.castSucc) ?_)
  rotate_left
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [Hg]; · iexact Hg
  iexact HO
  intro W hSt
  have hR := hS c t f1 f2 f3 f4 f5 f6 f7 f8 f9 f10 f11 f12 f13 f14 f15 f16 f17 f18 f19 f20 f21 f22 f23 f24 f25 S W e1' e2' e3' (e4 ▸ F4) (e5 ▸ F5) (e6 ▸ F6) e7' e8' e9' e10' e11' e12' e13' e14' e15' e16' e17' (e18 ▸ F18) (e19 ▸ F19) (e20 ▸ F20) (e21 ▸ F21) (e22 ▸ F22) (e23 ▸ F23) (e24 ▸ F24) (e25 ▸ F25) hInv hSt
  obtain ⟨hR18, hR19, hR20, hR21, hR22, hR23, hR24, hR25, hInv'⟩ := hR
  iintro ⟨H1, H2, H3, H4, H5, H6, H7, H8, H9, H10, H11, H12, H13, H14, H15, H16, H17, H18, H19, H20, H21, H22, H23, H24, H25, H26, H27, H28, H29, H30, H31, H32, Hg, HO⟩
  isplitl [H26 H27 H28 H29 H30 H31 H32 Hg]
  · iexists _; isplitr; · ipureintro; exact hInv'
    isplitl [H26]; · iexact H26
    isplitl [H27]; · iexact H27
    isplitl [H28]; · iexact H28
    isplitl [H29]; · iexact H29
    isplitl [H30]; · iexact H30
    isplitl [H31]; · iexact H31
    isplitl [H32]; · iexact H32
    iexact Hg
  isplitl [HO]; · iexact HO
  isplitl [H1]
  · iexists f1; isplitr; · ipureintro; exact e1'
    iexact H1
  isplitl [H2]
  · iexists f2; isplitr; · ipureintro; exact e2'
    iexact H2
  isplitl [H3]
  · iexists f3; isplitr; · ipureintro; exact e3'
    iexact H3
  isplitl [H4]
  · iexists _; isplitr; · ipureintro; exact hI c t ((ms3 t).view.read (Elt F) f4)
    iexists f4; isplitr; · ipureintro; rfl
    iexact H4
  isplitl [H5]
  · iexists _; isplitr; · ipureintro; exact hI4 c t ((ms4 t).view.read (Elt F) f5)
    iexists f5; isplitr; · ipureintro; rfl
    iexact H5
  isplitl [H6]
  · iexists _; isplitr; · ipureintro; exact hI5 c t ((ms5 t).view.read (Elt F) f6)
    iexists f6; isplitr; · ipureintro; rfl
    iexact H6
  isplitl [H7]
  · iexists f7; isplitr; · ipureintro; exact e7'
    iexact H7
  isplitl [H8]
  · iexists f8; isplitr; · ipureintro; exact e8'
    iexact H8
  isplitl [H9]
  · iexists f9; isplitr; · ipureintro; exact e9'
    iexact H9
  isplitl [H10]
  · iexists f10; isplitr; · ipureintro; exact e10'
    iexact H10
  isplitl [H11]
  · iexists f11; isplitr; · ipureintro; exact e11'
    iexact H11
  isplitl [H12]
  · iexists f12; isplitr; · ipureintro; exact e12'
    iexact H12
  isplitl [H13]
  · iexists f13; isplitr; · ipureintro; exact e13'
    iexact H13
  isplitl [H14]
  · iexists f14; isplitr; · ipureintro; exact e14'
    iexact H14
  isplitl [H15]
  · iexists f15; isplitr; · ipureintro; exact e15'
    iexact H15
  isplitl [H16]
  · iexists f16; isplitr; · ipureintro; exact e16'
    iexact H16
  isplitl [H17]
  · iexists f17; isplitr; · ipureintro; exact e17'
    iexact H17
  isplitl [H18]
  · iexists _; isplitr; · ipureintro; exact hR18
    iexists _; isplitr; · ipureintro; rfl
    iexact H18
  isplitl [H19]
  · iexists _; isplitr; · ipureintro; exact hR19
    iexists _; isplitr; · ipureintro; rfl
    iexact H19
  isplitl [H20]
  · iexists _; isplitr; · ipureintro; exact hR20
    iexists _; isplitr; · ipureintro; rfl
    iexact H20
  isplitl [H21]
  · iexists _; isplitr; · ipureintro; exact hR21
    iexists _; isplitr; · ipureintro; rfl
    iexact H21
  isplitl [H22]
  · iexists _; isplitr; · ipureintro; exact hR22
    iexists _; isplitr; · ipureintro; rfl
    iexact H22
  isplitl [H23]
  · iexists _; isplitr; · ipureintro; exact hR23
    iexists _; isplitr; · ipureintro; rfl
    iexact H23
  isplitl [H24]
  · iexists _; isplitr; · ipureintro; exact hR24
    iexists _; isplitr; · ipureintro; rfl
    iexact H24
  iexists _; isplitr; · ipureintro; exact hR25
  iexists _; isplitr; · ipureintro; rfl
  iexact H25

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (hW : WordsOK m) (hS : StepOK m Inv Rl) (hI : ∀ c t X, Rl c 3 t X) (hI4 : ∀ c t X, Rl c 4 t X) (hI5 : ∀ c t X, Rl c 5 t X) (c : Dev nD) :
    Pipeline.BodyObligationRel (dats m Inv 0 c) (defs₀ (F := F)) Variants.none () Set.univ fgt (Rl c) := fun t => by
  rw [bigSep_W0, bigSep_W0, defs₀_row]
  exact triple_restated (sound_body m Inv Rl hW hS hI hI4 hI5 c t) rfl .rfl fun _ => .rfl

theorem ex_whole (c : Dev nD) (b : Ref sig .tc) :
    (iprop(∃ f : Buf (Elt F) ((c : Thread nD τ).loc b), ((c : Thread nD τ).loc b) ↦{fullShare} f) : sProp 𝕄)
      = iprop(∃ f : Bf (F := F) c (Memref.whole b), pt c (Memref.whole b) f) := by
  unfold pt; rw [show (Memref.whole b).view.set = Finset.univ from View.set_whole b]

theorem Phi_in (c : Dev nD) (h0 : ∀ S, Inv c 0 S) : (Pipeline.ΦA spec0 c : sProp 𝕄) ⊢ PhiS Inv c 0 := by
  unfold Pipeline.ΦA PhiS
  rw [scopedRest0_eq]
  simp only [ex_whole]
  iintro ⟨⟨⟨%s0, H0⟩, ⟨%s1, H1⟩, ⟨%s2, H2⟩, ⟨%s3, H3⟩, ⟨%s4, H4⟩, ⟨%s5, H5⟩, ⟨%s6, H6⟩⟩, Hg⟩
  iexists (s0, s1, s2, s3, s4, s5, s6); isplitr; · ipureintro; exact h0 _
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hg

theorem Phi_out (c : Dev nD) (t : ℕ) : PhiS Inv c t ⊢ (Pipeline.ΦA spec0 c : sProp 𝕄) := by
  unfold Pipeline.ΦA PhiS
  rw [scopedRest0_eq]
  simp only [ex_whole]
  iintro ⟨%S, %_, H0, H1, H2, H3, H4, H5, H6, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  iexact Hg

set_option backward.isDefEq.respectTransparency.types false in
/-- Every run of @main ends, the windows' arrays at contents the relational data admit, every other buffer as the region found it, every semaphore at zero. -/
theorem run_main (hW : WordsOK m) (hS : StepOK m Inv Rl) (hI : ∀ c t X, Rl c 3 t X) (hI4 : ∀ c t X, Rl c 4 t X) (hI5 : ∀ c t X, Rl c 5 t X) (h0 : ∀ c S, Inv c 0 S) :
    θ_run defs (onTc (τ := τ) (main (F := F))) (s₀ m ρ)
      (fun r => Pipeline.RDat.FramePost (cfgs 0) (fun c => (dats m Inv 0 c).toRRel fgt (Rl c)) (V m) r ∧ r.2.sem = fun _ => 0) :=
  Pipeline.RDat.θ_run_frame_track (Q' := _) cfgs (0 : Fin 1) launch0 defs₀ Variants.none (fun c => (dats m Inv 0 c).toRRel fgt (Rl c)) m ρ main
    (hbody := fun c => (body_obligation m Inv Rl hW hS hI hI4 hI5 c).toRRel) (hshare := fun c => (dats m Inv 0 c).share_full fun _ => rfl)
    (howed := fun _ _ => rfl) (V := V m) (hmain := hmain m Variants.none) (hA := A_eq m Inv)
    (hin := fun c => Phi_in Inv c (h0 c)) (hout := fun c => Phi_out Inv c _) (hQ' := fun _ h => h)

end Cert.Kernel.Hand

end
-- ==== Proof.B.Host.lean ====
/-
  The two tables of ray numbers that the host cuts out of the sample's ray ids: every word of them is one of the ids.
  And the frame: every run ends, with the arguments as they were.
-/
module

public import proofs.«01_k».proof.Proof.B.Body
public import Idealize.ShloMosaic.Lib.Claim
public import Idealize.ShloMosaic.Lib.StableHlo.ReadAt

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- Every sample's ray id is below the number of rays. -/
def Ids : Prop := ∀ (c : Dev nD) (j : S454650.Idx), (m ((c : Thread nD τ).loc main_arg4) j : BitVec 32).toNat < 12288

theorem first_lt (h : Ids m) (c : Dev nD) (j : S222.Idx) : (V m c (Pipeline.arrRef spec0 0) j : BitVec 32).toNat < 12288 := by
  have e : ∃ k, V m c (Pipeline.arrRef spec0 0) j = m ((c : Thread nD τ).loc main_arg4) k := by
    show ∃ k, V m c main_v165 j = m ((c : Thread nD τ).loc main_arg4) k
    unfold V
    after_reads_simp
    exact ⟨_, rfl⟩
  obtain ⟨k, e⟩ := e
  rw [e]; exact h c k

theorem last_lt (h : Ids m) (c : Dev nD) (j : S222.Idx) : (V m c (Pipeline.arrRef spec0 1) j : BitVec 32).toNat < 12288 := by
  have e : ∃ k, V m c (Pipeline.arrRef spec0 1) j = m ((c : Thread nD τ).loc main_arg4) k := by
    show ∃ k, V m c main_v181 j = m ((c : Thread nD τ).loc main_arg4) k
    unfold V
    after_reads_simp
    exact ⟨_, rfl⟩
  obtain ⟨k, e⟩ := e
  rw [e]; exact h c k

theorem words_ok (h : Ids m) : WordsOK m := by
  intro c t
  refine ⟨fun f hf => ?_, fun f hf => ?_⟩
  · have e : w1 c (grid0.coords t) (ms0 t) f = (ms0 t).view.read (Elt F) f ((Rect.unit (s := S222) (k0_off4 (grid0.coords t)) S1.size (k0_off4_inb (grid0.coords t))).toLoadRect.idx (Shape.Idx.first (numel1_S1.symm ▸ Nat.one_pos))) := rfl
    rw [e, hf]
    exact first_lt m h c _
  · have e : w2 c (grid0.coords t) (ms1 t) f = (ms1 t).view.read (Elt F) f ((Rect.unit (s := S222) (k0_off7 (grid0.coords t)) S1.size (k0_off7_inb (grid0.coords t))).toLoadRect.idx (Shape.Idx.first (numel1_S1.symm ▸ Nat.one_pos))) := rfl
    rw [e, hf]
    exact last_lt m h c _

end Cert.Kernel.Hand

end
-- ==== Proof.B.Frame.lean ====
/-
  The frame: whatever the body leaves in the output windows, a run ends with the arguments as they were and every
  semaphore at zero.
-/
module

public import proofs.«01_k».proof.Proof.B.Host

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The arguments as a run leaves them are the arguments it began with. -/
abbrev Kept (m : (ℓ : Loc nD τ sig) → Buf (Elt F) ℓ) (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)

set_option maxHeartbeats 1500000 in
theorem kept_of {Inv : (c : Dev nD) → ℕ → Scr (F := F) c → Prop}
    {Rl : (c : Dev nD) → (w : Fin cfg0.W) → Fin cfg0.N → ((cfg0.win w).block.Idx → Elt F (cfg0.win w).elt) → Prop}
    {r : PUnit × MemSt nD τ sig (Elt F)}
    (h : Pipeline.RDat.FramePost (cfgs 0) (fun c => (dats m Inv 0 c).toRRel fgt (Rl c)) (V m) r) (c : Dev nD) : Kept m r c :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((A_eq m Inv c 4).trans (V_main_arg2 m c)),
      ((h c).2 main_arg3 (Pipeline.mem_restRefs_of main_arg3 (by decide) (by decide))).trans (V_main_arg3 m c),
      (Pipeline.RDat.FramePost.arr_in h c 5 rfl).trans ((A_eq m Inv c 5).trans (V_main_arg4 m c)),
      (Pipeline.RDat.FramePost.arr_in h c 7 rfl).trans ((A_eq m Inv c 7).trans (V_main_arg5 m c)),
      (Pipeline.RDat.FramePost.arr_in h c 8 rfl).trans ((A_eq m Inv c 8).trans (V_main_arg6 m c)),
      (Pipeline.RDat.FramePost.arr_in h c 9 rfl).trans ((A_eq m Inv c 9).trans (V_main_arg7 m c)),
      ((h c).2 main_arg8 (Pipeline.mem_restRefs_of main_arg8 (by decide) (by decide))).trans (V_main_arg8 m c),
      (Pipeline.RDat.FramePost.arr_in h c 12 rfl).trans ((A_eq m Inv c 12).trans (V_main_arg9 m c)),
      (Pipeline.RDat.FramePost.arr_in h c 13 rfl).trans ((A_eq m Inv c 13).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- Every run from ray ids that name rays ends with the arguments kept and the semaphores at zero. -/
theorem run_kept (h : Ids m) : θ_run defs (onTc (τ := τ) (main (F := F))) (s₀ m ρ) (fun r => (∀ c : Dev nD, Kept m r c) ∧ r.2.sem = fun _ => 0) :=
  (θ_run defs _ _).mono (fun _ h => ⟨fun c => kept_of m h.1 c, h.2⟩)
    (run_main m ρ (fun _ _ _ => True) (fun _ _ _ _ => True) (words_ok m h) (by unfold StepOK; intros; simp only [and_self]) (fun _ _ _ => trivial) (fun _ _ _ => trivial)
      (fun _ _ _ => trivial) (fun _ _ => trivial))

end Cert.Kernel.Hand

end
-- ==== Proof.Pre.Scales.lean ====
/-
  What the second precondition says: each id is the number of a ray, the encoding's scale is not zero, and
  each scale of a layer up to the density is positive. And at which indices the value claim asks nothing.
-/
module

public import proofs.«01_k».proof.Proof.Pre.Ids
public import proofs.«01_k».proof.Proof.Gen.Pre_ids_and_scales
public import proofs.«01_k».proof.Proof.Gen.On_claimed
public import Idealize.ShloMosaic.Lib.Pointwise

@[expose] public section

noncomputable section

namespace Cert.Pre

open Idealize.ShloMosaic Idealize.ShloMosaic.Tactic Cert.Pre_ids_and_scales

theorem and_parts {p q : BitVec 1} (h : IntOp.andi p q = 1#1) : p = 1#1 ∧ q = 1#1 := by
  revert p q; decide

theorem scale_facts {a0 : FVec Ideal S454650x3 .f32} {a1 : FVec Ideal S12288x3 .f32} {a2 : FVec Ideal S454650 .f32} {a3 : IVec S12289 32} {a4 : IVec S454650 32} {a5 : FVec Ideal S63x256 .fp8e4m3} {a6 : FVec Ideal S7x256x256 .fp8e4m3} {a7 : FVec Ideal S63x256 .fp8e4m3} {a8 : FVec Ideal S256x257 .fp8e4m3} {a9 : FVec Ideal S256x128 .fp8e4m3} {a10 : FVec Ideal S27x128 .fp8e4m3} {a11 : FVec Ideal S128x3 .fp8e4m3} {a12 : FVec Ideal S13 .f32} {a13 : FVec Ideal S256 .f32} {a14 : FVec Ideal S7x256 .f32} {a15 : FVec Ideal S257 .f32} {a16 : FVec Ideal S128 .f32} {a17 : FVec Ideal S3 .f32} {a18 : FVec Ideal S12 .f32}
    (h : fn (F := Ideal) a0 a1 a2 a3 a4 a5 a6 a7 a8 a9 a10 a11 a12 a13 a14 a15 a16 a17 a18 = fun _ => 1#1) :
    (∀ j : S454650.Idx, (a4 j).toNat < 12288) ∧ (a18 (ix1 0) : EReal) ≠ 0 ∧ ∀ k : Fin 8, 0 < (a18 (ix1 (k.succ.castLE (by decide))) : EReal) := by
  have key : ∀ (j : Fin 454650) (k : Fin 8), fn (F := Ideal) a0 a1 a2 a3 a4 a5 a6 a7 a8 a9 a10 a11 a12 a13 a14 a15 a16 a17 a18 (ix2 j k) = 1#1 := fun j k => congrFun h _
  have split : ∀ (j : Fin 454650) (k : Fin 8), (a4 (ix1 j)).toNat < 12288 ∧ (a18 (ix1 0) : EReal) ≠ 0 ∧ 0 < (a18 (ix1 (k.succ.castLE (by decide))) : EReal) := by
    intro j k
    have e := key j k
    revert e
    pointwise [fn]
    intro e
    obtain ⟨e, e3⟩ := and_parts e
    obtain ⟨e1, e2⟩ := and_parts e
    refine ⟨lt_of_signed e1, of_decide_eq_true ((BitVec.ofBool_eq_iff_eq (b' := true)).mp e2), ?_⟩
    have e3 := of_decide_eq_true ((BitVec.ofBool_eq_iff_eq (b' := true)).mp e3)
    rwa [show k.succ.castLE (by decide : 9 ≤ 12) = ⟨1 + k.val, by omega⟩ from Fin.ext (Nat.add_comm _ _)]
  refine ⟨fun j => ?_, (split 0 0).2.1, fun k => (split 0 k).2.2⟩
  have e : j = ix1 (j 0) := funext fun a => by
    match a with
    | ⟨0, _⟩ => rfl
  rw [e]
  exact (split (j 0) 0).1

/-! ## Where the claim asks nothing -/

theorem row_claimed {w : Nat} (h : IntOp.cmpi .slt (BitVec.ofNat 32 w) 454650#32 = 1#1) (hw : w < 454656) : w < 454650 := by
  have h : decide ((BitVec.ofNat 32 w).toInt < (454650#32).toInt) = true := (BitVec.ofBool_eq_iff_eq (b' := true)).mp h
  have h := of_decide_eq_true h
  have e := BitVec.toInt_eq_toNat_cond (BitVec.ofNat 32 w)
  have z : (454650#32).toInt = 454650 := rfl
  rw [BitVec.toNat_ofNat, Nat.mod_eq_of_lt (by omega)] at e
  rw [z] at h
  split at e <;> omega

theorem claimed_rows {a0 : FVec Ideal S454650x3 .f32} {a1 : FVec Ideal S12288x3 .f32} {a2 : FVec Ideal S454650 .f32} {a3 : IVec S12289 32} {a4 : IVec S454650 32} {a5 : FVec Ideal S63x256 .fp8e4m3} {a6 : FVec Ideal S7x256x256 .fp8e4m3} {a7 : FVec Ideal S63x256 .fp8e4m3} {a8 : FVec Ideal S256x257 .fp8e4m3} {a9 : FVec Ideal S256x128 .fp8e4m3} {a10 : FVec Ideal S27x128 .fp8e4m3} {a11 : FVec Ideal S128x3 .fp8e4m3} {a12 : FVec Ideal S13 .f32} {a13 : FVec Ideal S256 .f32} {a14 : FVec Ideal S7x256 .f32} {a15 : FVec Ideal S257 .f32} {a16 : FVec Ideal S128 .f32} {a17 : FVec Ideal S3 .f32} {a18 : FVec Ideal S12 .f32}
    (n : Fin 454656) (o : Fin 256) (h : (Cert.On_claimed.fn (F := Ideal) a0 a1 a2 a3 a4 a5 a6 a7 a8 a9 a10 a11 a12 a13 a14 a15 a16 a17 a18).2.2.2.2.2.1 (ix2 n o) = 1#1) : n.val < 454650 := by
  revert h
  pointwise [Cert.On_claimed.fn]
  intro h
  exact row_claimed h n.isLt

end Cert.Pre

end
-- ==== Proof.K.Net.lean ====
/-
  The tile's results as functions of its inputs: the layers of the network, one chunk of 256 samples at a time.
-/
module

public import proofs.«01_k».proof.Proof.K.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The phases of a tile's three coordinate rows: twice what is left of half the scaled coordinate after rounding. -/
def phaseOf (x : Vec F S3x2048 .f32) : Vec F S30x2048 .f32 :=
  let j := k0_pay199
  let b0 : IVec S30x2048 32 := broadcast S30x2048 0#32
  let b1 : IVec S30x2048 32 := broadcast S30x2048 1#32
  let b3 : IVec S30x2048 32 := broadcast S30x2048 3#32
  let n : IVec S30x2048 32 := iota Kind.tc S30x2048 32 [0] iota_S30x2048_d0_w32
  let r := select (andi (xori (cmpi CmpIPredicate.slt j b0) (broadcastTo S30x2048 (broadcast S30x2048 (Scalar.cmpi CmpIPredicate.slt (Scalar.select (Scalar.cmpi CmpIPredicate.eq 3#32 0#32) 1#32 3#32) 0#32)) broadcasts_S30x2048_S30x2048)) k0_pay200) (addi j b3) j
  let row (k : S1x2048.Idx → F .f32) := broadcastTo S30x2048 (shapeCast S1x2048 k shapeCasts_S1x2048_S1x2048) broadcasts_S1x2048_S30x2048
  k0_pay205
    (select (cmpi CmpIPredicate.eq r b0) (row (extractStridedSlice S1x2048 ![0, 0] x slices_S3x2048_o0_0_S1x2048))
      (select (cmpi CmpIPredicate.eq r b1) (row (extractStridedSlice S1x2048 ![1, 0] x slices_S3x2048_o1_0_S1x2048))
        (row (extractStridedSlice S1x2048 ![2, 0] x slices_S3x2048_o2_0_S1x2048))))
    (divsi n b3)
    (andi (cmpi CmpIPredicate.ne (subi (extui 32 (cmpi CmpIPredicate.sgt n b0) (by decide)) (extui 32 (cmpi CmpIPredicate.slt n b0) (by decide))) b1)
      (cmpi CmpIPredicate.ne (remsi n b3) b0))
    (subi (divsi n b3) b1)

/-- The encoded rows of a tile before quantization: the coordinates, then sine and cosine of each coordinate at each frequency. -/
def encRaw (x : Vec F S3x2048 .f32) : FVec F S64x2048 .f32 :=
  let b0 : IVec S64x2048 32 := broadcast S64x2048 0#32
  let b1 : IVec S64x2048 32 := broadcast S64x2048 1#32
  let b6 : IVec S64x2048 32 := broadcast S64x2048 6#32
  let n : IVec S64x2048 32 := iota Kind.tc S64x2048 32 [0] iota_S64x2048_d0_w32
  let p := subi n (broadcast S64x2048 3#32)
  let m := maxsi p b0
  let r := remsi p b6
  k0_pay215 (select k0_pay207 (k0_pay209 x) (k0_pay208 x)) n
    (select (andi (cmpi CmpIPredicate.ne (subi (extui 32 (cmpi CmpIPredicate.sgt m b0) (by decide)) (extui 32 (cmpi CmpIPredicate.slt m b0) (by decide))) b1)
      (cmpi CmpIPredicate.ne (remsi m b6) b0)) (subi (divsi m b6) b1) (divsi m b6))
    (6#32) r (cmpi CmpIPredicate.ne r b0)
    (xori (cmpi CmpIPredicate.slt r b0) (broadcastTo S64x2048 (broadcast S64x2048 0#1) broadcasts_S64x2048_S64x2048))

/-- A chunk's sums between 0 and 448, as codes. -/
def clipq (z : FVec F S256x256 .f32) : FVec F S256x256 .fp8e4m3 :=
  let lo := broadcast S256x256 (FloatOps.ofBits FTy.f32 0#32)
  let hi := broadcast S256x256 (FloatOps.ofBits FTy.f32 1138753536#32)
  truncf FTy.fp8e4m3 (minimumf (maximumf (minimumf (maximumf z lo) hi) lo) hi) bitsLt_fp8e4m3_f32

/-- The product of a chunk's inputs with the weights of 128 rows, scaled. -/
def first (a : FVec F S256x128 .fp8e4m3) (w : FVec F S128x256 .fp8e4m3) (s : F .f32) : FVec F S256x256 .f32 :=
  mulf (matmul dot_S256x128_S128x256_S256x256_1_0_0_1_n_n none a w (constant S256x256 FTy.f32 0#32)) (broadcast S256x256 s)

/-- A bias row under every row of a chunk. -/
def under (b : Vec F S1x256 .f32) : FVec F S256x256 .f32 :=
  broadcastTo S256x256 (shapeCast S1x256 b shapeCasts_S1x256_S1x256) broadcasts_S1x256_S256x256

/-- A hidden layer before it is clipped. -/
def lin (q : FVec F S256x256 .fp8e4m3) (w : Vec F S1x256x256 .fp8e4m3) (s : F .f32) (b : Vec F S1x256 .f32) : FVec F S256x256 .f32 :=
  addf (mulf (matmul dot_S256x256_S256x256_S256x256_1_0_0_1_n_n none q (shapeCast S256x256 w shapeCasts_S1x256x256_S256x256) (constant S256x256 FTy.f32 0#32)) (broadcast S256x256 s)) (under b)

/-- The weights, scales and bias rows that a chunk meets. -/
structure Params (F : FTy → Type) [FloatOps F] where
  w0 : Vec F S63x256 .fp8e4m3
  wk : Vec F S63x256 .fp8e4m3
  wg : Vec F S32x256 .fp8e4m3
  se : F .f32
  s0 : F .f32
  sk : F .f32
  sm : F .f32
  sa : F .f32
  b0 : Vec F S1x256 .f32
  w1 : Vec F S1x256x256 .fp8e4m3
  s1 : F .f32
  b1 : Vec F S1x256 .f32
  w2 : Vec F S1x256x256 .fp8e4m3
  s2 : F .f32
  b2 : Vec F S1x256 .f32
  w3 : Vec F S1x256x256 .fp8e4m3
  s3 : F .f32
  b3 : Vec F S1x256 .f32
  w4 : Vec F S1x256x256 .fp8e4m3
  s4 : F .f32
  b4 : Vec F S1x256 .f32
  w5 : Vec F S1x256x256 .fp8e4m3
  s5 : F .f32
  b5 : Vec F S1x256 .f32
  w6 : Vec F S1x256x256 .fp8e4m3
  s6 : F .f32
  b6 : Vec F S1x256 .f32
  w7 : Vec F S1x256x256 .fp8e4m3
  s7 : F .f32
  b7 : Vec F S1x256 .f32

/-- The first layer's codes of a chunk. -/
def Params.code0 (P : Params F) (a : FVec F S256x128 .fp8e4m3) : FVec F S256x256 .fp8e4m3 :=
  clipq (addf (first a (k0_pay239 P.w0) P.s0) (under P.b0))

/-- The last hidden layer's codes of a chunk. -/
def Params.code7 (P : Params F) (a : FVec F S256x128 .fp8e4m3) : FVec F S256x256 .fp8e4m3 :=
  let q4 := clipq (lin (clipq (lin (clipq (lin (clipq (lin (P.code0 a) P.w1 P.s1 P.b1)) P.w2 P.s2 P.b2)) P.w3 P.s3 P.b3)) P.w4 P.s4 P.b4)
  let q5 := clipq (addf (lin q4 P.w5 P.s5 P.b5) (first a (k0_pay240 P.wk) P.sk))
  clipq (lin (clipq (lin q5 P.w6 P.s6 P.b6)) P.w7 P.s7 P.b7)

/-- A chunk's product with the density row, eight times over. -/
def Params.dens (P : Params F) (a : FVec F S256x128 .fp8e4m3) : FVec F S8x256 .f32 :=
  extractStridedSlice S8x256 ![0, 0] (matmul dot_S32x256_S256x256_S32x256_1_1_0_0_n_n none (shapeCast S32x256 P.wg shapeCasts_S32x256_S32x256) (P.code7 a) (constant S32x256 FTy.f32 0#32)) slices_S32x256_o0_0_S8x256

/-- A tile's encoded rows between -448 and 448. -/
def Params.rows (P : Params F) (x : Vec F S3x2048 .f32) : FVec F S64x2048 .f32 := k0_pay216 (encRaw x) P.se

/-- A tile's encoded rows as codes. -/
def Params.codes (P : Params F) (x : Vec F S3x2048 .f32) : FVec F S63x2048 .fp8e4m3 := k0_pay217 (encRaw x) P.se

/-- The chunks of a tile's inputs: row `p` of the tile is row `p % 256` of chunk `p / 256`. -/
def chunk (q : FVec F S2048x128 .fp8e4m3) : Fin 8 → FVec F S256x128 .fp8e4m3 :=
  ![extractStridedSlice S256x128 ![0, 0] q slices_S2048x128_o0_0_S256x128,
    extractStridedSlice S256x128 ![256, 0] q slices_S2048x128_o256_0_S256x128,
    extractStridedSlice S256x128 ![512, 0] q slices_S2048x128_o512_0_S256x128,
    extractStridedSlice S256x128 ![768, 0] q slices_S2048x128_o768_0_S256x128,
    extractStridedSlice S256x128 ![1024, 0] q slices_S2048x128_o1024_0_S256x128,
    extractStridedSlice S256x128 ![1280, 0] q slices_S2048x128_o1280_0_S256x128,
    extractStridedSlice S256x128 ![1536, 0] q slices_S2048x128_o1536_0_S256x128,
    extractStridedSlice S256x128 ![1792, 0] q slices_S2048x128_o1792_0_S256x128]

/-- The pieces of the first layer's codes that a tile stores. -/
def Params.pieces (P : Params F) (q : FVec F S2048x128 .fp8e4m3) : List (View.Piece (Elt F) S2048x256 .fp8e4m3) :=
  [⟨Rect.unit ![1792, 0] (Shape.size S256x256) inb_S2048x256_S256x256_1792_0, P.code0 (chunk q 7)⟩,
    ⟨Rect.unit ![1536, 0] (Shape.size S256x256) inb_S2048x256_S256x256_1536_0, P.code0 (chunk q 6)⟩,
    ⟨Rect.unit ![1280, 0] (Shape.size S256x256) inb_S2048x256_S256x256_1280_0, P.code0 (chunk q 5)⟩,
    ⟨Rect.unit ![1024, 0] (Shape.size S256x256) inb_S2048x256_S256x256_1024_0, P.code0 (chunk q 4)⟩,
    ⟨Rect.unit ![768, 0] (Shape.size S256x256) inb_S2048x256_S256x256_768_0, P.code0 (chunk q 3)⟩,
    ⟨Rect.unit ![512, 0] (Shape.size S256x256) inb_S2048x256_S256x256_512_0, P.code0 (chunk q 2)⟩,
    ⟨Rect.unit ![256, 0] (Shape.size S256x256) inb_S2048x256_S256x256_256_0, P.code0 (chunk q 1)⟩,
    ⟨Rect.unit ![0, 0] (Shape.size S256x256) inb_S2048x256_S256x256_0_0, P.code0 (chunk q 0)⟩]

/-- A tile's densities: the eight chunks' products side by side, scaled and shifted, through the softplus. -/
def Params.sigma (P : Params F) (q : FVec F S2048x128 .fp8e4m3) : FVec F S2048 .f32 :=
  let c := fun k => P.dens (chunk q k)
  let a := k0_pay524 (c 0) (c 1) (c 2) (c 3) (c 4) (c 5) (c 6) (c 7)
  let n : IVec S8x128 32 := iota Kind.tc S8x128 32 [0] iota_S8x128_d0_w32
  let d := k0_pay525 (c 0) (c 1) (c 2) (c 3) (c 4) (c 5) (c 6) (c 7)
  k0_pay531 (k0_pay527 a n d 6#32 P.sm P.sa) (k0_pay528 a n d 6#32 P.sm P.sa) k0_pay529

/-- The weights, scales and bias rows that a step reads. -/
def par (c : Dev nD) (arg3 : Memref sig .tc .smem S18 .f32) (arg8 : Memref sig .tc .vmem S63x256 .fp8e4m3) (arg9 : Memref sig .tc .vmem S7x256x256 .fp8e4m3) (arg10 : Memref sig .tc .vmem S63x256 .fp8e4m3) (arg12 : Memref sig .tc .vmem S32x256 .fp8e4m3) (arg16 : Memref sig .tc .vmem S16x256 .f32) (f3 : Bf (F := F) c arg3) (f8 : Bf (F := F) c arg8) (f9 : Bf (F := F) c arg9) (f10 : Bf (F := F) c arg10) (f12 : Bf (F := F) c arg12) (f16 : Bf (F := F) c arg16) : Params F where
  w0 := (View.readAt (Elt F) arg8.view (Rect.unit (s := S63x256) ![0, 0] (Shape.size S63x256) inb_S63x256_S63x256_0_0).toLoadRect f8)
  wk := (View.readAt (Elt F) arg10.view (Rect.unit (s := S63x256) ![0, 0] (Shape.size S63x256) inb_S63x256_S63x256_0_0).toLoadRect f10)
  wg := (View.readAt (Elt F) arg12.view (Rect.unit (s := S32x256) ![0, 0] (Shape.size S32x256) inb_S32x256_S32x256_0_0).toLoadRect f12)
  se := (View.readAt (Elt F) arg3.view (Rect.unit (s := S18) ![0] (Shape.size S1) inb_S18_S1_0).toLoadRect f3 (Shape.Idx.first (numel1_S1.symm ▸ Nat.one_pos)))
  s0 := (View.readAt (Elt F) arg3.view (Rect.unit (s := S18) ![2] (Shape.size S1) inb_S18_S1_2).toLoadRect f3 (Shape.Idx.first (numel1_S1.symm ▸ Nat.one_pos)))
  sk := (View.readAt (Elt F) arg3.view (Rect.unit (s := S18) ![13] (Shape.size S1) inb_S18_S1_13).toLoadRect f3 (Shape.Idx.first (numel1_S1.symm ▸ Nat.one_pos)))
  sm := (View.readAt (Elt F) arg3.view (Rect.unit (s := S18) ![14] (Shape.size S1) inb_S18_S1_14).toLoadRect f3 (Shape.Idx.first (numel1_S1.symm ▸ Nat.one_pos)))
  sa := (View.readAt (Elt F) arg3.view (Rect.unit (s := S18) ![15] (Shape.size S1) inb_S18_S1_15).toLoadRect f3 (Shape.Idx.first (numel1_S1.symm ▸ Nat.one_pos)))
  b0 := (View.readAt (Elt F) arg16.view (Rect.unit (s := S16x256) ![0, 0] (Shape.size S1x256) inb_S16x256_S1x256_0_0).toLoadRect f16)
  w1 := (View.readAt (Elt F) arg9.view (Rect.unit (s := S7x256x256) ![0, 0, 0] (Shape.size S1x256x256) inb_S7x256x256_S1x256x256_0_0_0).toLoadRect f9)
  s1 := (View.readAt (Elt F) arg3.view (Rect.unit (s := S18) ![3] (Shape.size S1) inb_S18_S1_3).toLoadRect f3 (Shape.Idx.first (numel1_S1.symm ▸ Nat.one_pos)))
  b1 := (View.readAt (Elt F) arg16.view (Rect.unit (s := S16x256) ![1, 0] (Shape.size S1x256) inb_S16x256_S1x256_1_0).toLoadRect f16)
  w2 := (View.readAt (Elt F) arg9.view (Rect.unit (s := S7x256x256) ![1, 0, 0] (Shape.size S1x256x256) inb_S7x256x256_S1x256x256_1_0_0).toLoadRect f9)
  s2 := (View.readAt (Elt F) arg3.view (Rect.unit (s := S18) ![4] (Shape.size S1) inb_S18_S1_4).toLoadRect f3 (Shape.Idx.first (numel1_S1.symm ▸ Nat.one_pos)))
  b2 := (View.readAt (Elt F) arg16.view (Rect.unit (s := S16x256) ![2, 0] (Shape.size S1x256) inb_S16x256_S1x256_2_0).toLoadRect f16)
  w3 := (View.readAt (Elt F) arg9.view (Rect.unit (s := S7x256x256) ![2, 0, 0] (Shape.size S1x256x256) inb_S7x256x256_S1x256x256_2_0_0).toLoadRect f9)
  s3 := (View.readAt (Elt F) arg3.view (Rect.unit (s := S18) ![5] (Shape.size S1) inb_S18_S1_5).toLoadRect f3 (Shape.Idx.first (numel1_S1.symm ▸ Nat.one_pos)))
  b3 := (View.readAt (Elt F) arg16.view (Rect.unit (s := S16x256) ![3, 0] (Shape.size S1x256) inb_S16x256_S1x256_3_0).toLoadRect f16)
  w4 := (View.readAt (Elt F) arg9.view (Rect.unit (s := S7x256x256) ![3, 0, 0] (Shape.size S1x256x256) inb_S7x256x256_S1x256x256_3_0_0).toLoadRect f9)
  s4 := (View.readAt (Elt F) arg3.view (Rect.unit (s := S18) ![6] (Shape.size S1) inb_S18_S1_6).toLoadRect f3 (Shape.Idx.first (numel1_S1.symm ▸ Nat.one_pos)))
  b4 := (View.readAt (Elt F) arg16.view (Rect.unit (s := S16x256) ![4, 0] (Shape.size S1x256) inb_S16x256_S1x256_4_0).toLoadRect f16)
  w5 := (View.readAt (Elt F) arg9.view (Rect.unit (s := S7x256x256) ![4, 0, 0] (Shape.size S1x256x256) inb_S7x256x256_S1x256x256_4_0_0).toLoadRect f9)
  s5 := (View.readAt (Elt F) arg3.view (Rect.unit (s := S18) ![7] (Shape.size S1) inb_S18_S1_7).toLoadRect f3 (Shape.Idx.first (numel1_S1.symm ▸ Nat.one_pos)))
  b5 := (View.readAt (Elt F) arg16.view (Rect.unit (s := S16x256) ![5, 0] (Shape.size S1x256) inb_S16x256_S1x256_5_0).toLoadRect f16)
  w6 := (View.readAt (Elt F) arg9.view (Rect.unit (s := S7x256x256) ![5, 0, 0] (Shape.size S1x256x256) inb_S7x256x256_S1x256x256_5_0_0).toLoadRect f9)
  s6 := (View.readAt (Elt F) arg3.view (Rect.unit (s := S18) ![8] (Shape.size S1) inb_S18_S1_8).toLoadRect f3 (Shape.Idx.first (numel1_S1.symm ▸ Nat.one_pos)))
  b6 := (View.readAt (Elt F) arg16.view (Rect.unit (s := S16x256) ![6, 0] (Shape.size S1x256) inb_S16x256_S1x256_6_0).toLoadRect f16)
  w7 := (View.readAt (Elt F) arg9.view (Rect.unit (s := S7x256x256) ![6, 0, 0] (Shape.size S1x256x256) inb_S7x256x256_S1x256x256_6_0_0).toLoadRect f9)
  s7 := (View.readAt (Elt F) arg3.view (Rect.unit (s := S18) ![9] (Shape.size S1) inb_S18_S1_9).toLoadRect f3 (Shape.Idx.first (numel1_S1.symm ▸ Nat.one_pos)))
  b7 := (View.readAt (Elt F) arg16.view (Rect.unit (s := S16x256) ![7, 0] (Shape.size S1x256) inb_S16x256_S1x256_7_0).toLoadRect f16)

/-- The coordinates that a step works on: past the last sample, those of the tile's first one. -/
def crd (c : Dev nD) (i : grid0.Coords) (arg4 : Memref sig .tc .vmem S3x2048 .f32) (f4 : Bf (F := F) c arg4) : Vec F S3x2048 .f32 := k0_pay195 i (View.readAt (Elt F) arg4.view (Rect.unit (s := S3x2048) ![0, 0] (Shape.size S3x2048) inb_S3x2048_S3x2048_0_0).toLoadRect f4)

/-- The stored densities, from those of the eight chunks. -/
theorem sigma_piece (P : Params F) (q : FVec F S2048x128 .fp8e4m3) {c0 c1 c2 c3 c4 c5 c6 c7 : FVec F S8x256 .f32} {sm sa : F .f32} (hm : sm = P.sm) (ha : sa = P.sa)
    (h0 : c0 = P.dens (chunk q 0)) (h1 : c1 = P.dens (chunk q 1)) (h2 : c2 = P.dens (chunk q 2)) (h3 : c3 = P.dens (chunk q 3)) (h4 : c4 = P.dens (chunk q 4)) (h5 : c5 = P.dens (chunk q 5)) (h6 : c6 = P.dens (chunk q 6)) (h7 : c7 = P.dens (chunk q 7)) :
    [(⟨Rect.unit ![0] (Shape.size S2048) inb_S2048_S2048_0, k0_pay531 (k0_pay527 (k0_pay524 c0 c1 c2 c3 c4 c5 c6 c7) (iota Kind.tc S8x128 32 [0] iota_S8x128_d0_w32) (k0_pay525 c0 c1 c2 c3 c4 c5 c6 c7) 6#32 sm sa)
      (k0_pay528 (k0_pay524 c0 c1 c2 c3 c4 c5 c6 c7) (iota Kind.tc S8x128 32 [0] iota_S8x128_d0_w32) (k0_pay525 c0 c1 c2 c3 c4 c5 c6 c7) 6#32 sm sa) k0_pay529⟩ : View.Piece (Elt F) S2048 .f32)]
    = [⟨Rect.unit ![0] (Shape.size S2048) inb_S2048_S2048_0, P.sigma q⟩] := by
  subst h0 h1 h2 h3 h4 h5 h6 h7 hm ha; rfl

end Cert.KernelIdeal.Hand

end
-- ==== Proof.Net.Alg.lean ====
/-
  The network over the extended reals, as its definition writes it (`quant`, `layer`, `wave`) and as a kernel with
  folded scales computes it (`clip`, `fold`, `turn`), and why the two agree.
-/
module

public import Idealize.ShloMosaic.Lib.Pointwise
public import Idealize.ShloMosaic.Lib.IdealHost

@[expose] public section

noncomputable section

namespace Cert.Net

open Idealize.ShloMosaic

/-- The largest code, 448. -/
abbrev hi : EReal := Ideal.ofBits .f32 1138753536#32
/-- The least code, -448. -/
abbrev lo : EReal := Ideal.ofBits .f32 3286237184#32
abbrev half : EReal := Ideal.ofBits .f32 1056964608#32
abbrev two : EReal := Ideal.ofBits .f32 1073741824#32
abbrev quarter : EReal := Ideal.ofBits .f32 1048576000#32
/-- The reciprocal of a scale. -/
abbrev inv (a : EReal) : EReal := Ideal.div 1 a
/-- The nearest integer, ties to even. -/
abbrev rnd (y : EReal) : EReal := Ideal.liftRound Ideal.roundHalfEven y
/-- The larger of a number and its negative. -/
abbrev mag (y : EReal) : EReal := max y (-y)

theorem hi_eq : hi = ((448 : ℝ) : EReal) := by
  simp [hi, Ideal.ofBits, Ideal.ieee, -EReal.coe_mul]; norm_num
theorem lo_eq : lo = ((-448 : ℝ) : EReal) := by
  simp [lo, Ideal.ofBits, Ideal.ieee, -EReal.coe_mul, -EReal.coe_neg]; norm_num
theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem quarter_eq : quarter = ((1 / 4 : ℝ) : EReal) := by
  simp [quarter, Ideal.ofBits, Ideal.ieee, -EReal.coe_mul]; norm_num

theorem hi_nonneg : (0 : EReal) ≤ hi := by rw [hi_eq]; exact_mod_cast (by norm_num : (0 : ℝ) ≤ 448)
theorem lo_nonpos : lo ≤ (0 : EReal) := by rw [lo_eq]; exact_mod_cast (by norm_num : (-448 : ℝ) ≤ 0)

/-- A number over a scale, between -448 and 448. -/
def quant (z a : EReal) : EReal := min hi (max lo (Ideal.div z a))

/-- A number between 0 and 448, clipped twice. -/
def clip (z : EReal) : EReal := min (max (min (max z 0) hi) 0) hi

/-- A number between -448 and 448, clipped twice. -/
def clip2 (z : EReal) : EReal := min (max (min (max z lo) hi) lo) hi

theorem clip_eq (z : EReal) : clip z = min (max z 0) hi := by
  have h : 0 ≤ min (max z 0) hi := le_min (le_max_right _ _) hi_nonneg
  rw [clip, max_eq_left h, min_eq_left (min_le_right _ _)]

theorem clip2_eq (z : EReal) : clip2 z = min (max z lo) hi := by
  have h : lo ≤ min (max z lo) hi := le_min (le_max_right _ _) (lo_nonpos.trans hi_nonneg)
  rw [clip2, max_eq_left h, min_eq_left (min_le_right _ _)]

/-- To divide by any scale but zero is to multiply by its reciprocal. -/
theorem quant_eq {a : EReal} (h0 : a ≠ 0) (z : EReal) : quant z a = clip2 (z * inv a) := by
  rw [clip2_eq, quant, inv, Ideal.div, Ideal.div, if_neg h0, if_neg h0, one_mul, min_comm, max_comm]

section
variable {a : EReal} (h0 : 0 < a)
include h0

/-- To divide by a positive scale is to multiply by a real number, zero if the scale is infinite. -/
theorem inv_eq : ∃ c : ℝ, 0 ≤ c ∧ inv a = (c : EReal) ∧ ∀ z, Ideal.div z a = z * (c : EReal) := by
  by_cases ht : a = ⊤
  · subst ht
    have d : ∀ z, Ideal.div z ⊤ = z * ((0 : ℝ) : EReal) := fun z => by rw [Ideal.div, if_neg (by simp), EReal.inv_top, EReal.coe_zero]
    refine ⟨0, le_rfl, ?_, d⟩
    rw [inv, d, one_mul]
  · lift a to ℝ using ⟨ht, (EReal.bot_lt_zero.trans h0).ne'⟩
    have hr : 0 < a := by exact_mod_cast h0
    refine ⟨1 / a, by positivity, ?_, fun z => Ideal.div_coe hr.ne' z⟩
    rw [inv, Ideal.div_coe hr.ne', one_mul]

theorem quant_relu (z : EReal) : quant (max z 0) a = clip (z * inv a) := by
  obtain ⟨c, hc, e, d⟩ := inv_eq h0
  have hc' : (0 : EReal) ≤ (c : EReal) := by exact_mod_cast hc
  have hm : max z 0 * (c : EReal) = max (z * c) 0 := by
    rcases le_total z 0 with h | h
    · have : z * (c : EReal) ≤ 0 * c := mul_le_mul_of_nonneg_right h hc'
      rw [max_eq_right h, max_eq_right (by simpa using this), zero_mul]
    · have : 0 * (c : EReal) ≤ z * c := mul_le_mul_of_nonneg_right h hc'
      rw [max_eq_left h, max_eq_left (by simpa using this)]
  rw [clip_eq, quant, d, e, hm, max_eq_right (lo_nonpos.trans (le_max_right _ _)), min_comm]

theorem fold_lin (S u b : EReal) : (S * u + b) * inv a = S * (u * inv a) + b * inv a := by
  obtain ⟨c, hc, e, -⟩ := inv_eq h0
  have hc' : (0 : EReal) ≤ (c : EReal) := by exact_mod_cast hc
  rw [e, EReal.right_distrib_of_nonneg_of_ne_top hc' (EReal.coe_ne_top c), mul_assoc]

theorem fold_skip (S u b T v : EReal) : (S * u + b + T * v) * inv a = S * (u * inv a) + b * inv a + T * (v * inv a) := by
  obtain ⟨c, hc, e, -⟩ := inv_eq h0
  have hc' : (0 : EReal) ≤ (c : EReal) := by exact_mod_cast hc
  rw [e, EReal.right_distrib_of_nonneg_of_ne_top hc' (EReal.coe_ne_top c), EReal.right_distrib_of_nonneg_of_ne_top hc' (EReal.coe_ne_top c),
    mul_assoc, mul_assoc]

end

/-- The phase of `x` at a frequency `f`, with `f / 2` folded into one number `g`: in [-1, 1]. -/
theorem turn_eq (y : EReal) : two * y - two * rnd y = two * (y - rnd y) := by
  rw [two_eq]
  induction y using EReal.rec with
  | bot => simp [rnd, EReal.coe_mul_bot_of_pos]
  | top => simp [rnd, EReal.coe_mul_top_of_pos, EReal.coe_mul_bot_of_pos]
  | coe y =>
    simp only [rnd, Ideal.liftRound_coe]
    rw [← EReal.coe_mul, ← EReal.coe_mul, ← EReal.coe_sub, ← EReal.coe_sub, ← EReal.coe_mul, mul_sub]

theorem sub_rnd_cases (y : EReal) : y - rnd y = ⊥ ∨ ∃ r : ℝ, y - rnd y = r := by
  induction y using EReal.rec with
  | bot => simp [rnd]
  | top => simp [rnd]
  | coe y => right; exact ⟨y - Ideal.roundHalfEven y, by simp only [rnd, Ideal.liftRound_coe]; norm_cast⟩

theorem half_turn (y : EReal) : two * (y - rnd y) * half = y - rnd y := by
  rcases sub_rnd_cases y with h | ⟨r, h⟩ <;> rw [h, two_eq, half_eq]
  · rw [EReal.coe_mul_bot_of_pos (by norm_num), EReal.bot_mul_coe_of_pos (by norm_num)]
  · norm_cast; ring

theorem half_turn_cos (y : EReal) : (half - mag (two * (y - rnd y))) * half = quarter - mag (y - rnd y) := by
  rcases sub_rnd_cases y with h | ⟨r, h⟩ <;> rw [h, two_eq, half_eq, quarter_eq]
  · rw [EReal.coe_mul_bot_of_pos (by norm_num)]
    simp [mag, EReal.bot_mul_coe_of_pos]
  · have e : ∀ t : ℝ, mag (t : EReal) = ((|t| : ℝ) : EReal) := fun t => by
      rw [mag, ← EReal.coe_neg, abs]; exact (EReal.coe_strictMono.monotone.map_max).symm
    rw [← EReal.coe_mul, e, e, abs_mul, abs_two]
    norm_cast; ring

/-- The sine's polynomial, in the square of half a phase. -/
def poly (f : EReal) : EReal :=
  (((((((Ideal.ofBits FTy.f32 1058801613#32 * (f * f) + Ideal.ofBits .f32 0xC067991F#32) * (f * f) + Ideal.ofBits .f32 0x4162DA06#32) * (f * f)
    + Ideal.ofBits .f32 0xC21A0CD8#32) * (f * f) + Ideal.ofBits .f32 0x428627BC#32) * (f * f) + Ideal.ofBits .f32 0xC281ABF4#32) * (f * f)
    + Ideal.ofBits .f32 0x41C90FDB#32)) * (f * (quarter - f * f))

/-- The word of half the frequency `2 ^ k`. -/
abbrev freq (k : Nat) : BitVec 32 := BitVec.ofNat 32 (k + 126) <<< 23

/-- A phase of coordinate `x` at frequency `2 ^ k`. -/
def phase (x : EReal) (k : Nat) : EReal :=
  two * (x * Ideal.ofBits .f32 (freq k) - rnd (x * Ideal.ofBits .f32 (freq k)))

/-- Entry `j` of a sample's encoding. -/
def enc (x : Fin 3 → EReal) (j : Nat) : EReal :=
  let k := (j - 3) / 6
  let y := x ⟨j % 3, Nat.mod_lt _ (by decide)⟩
  let g := y * Ideal.ofBits .f32 (freq k) - rnd (y * Ideal.ofBits .f32 (freq k))
  if j < 3 then y else poly (if (j - 3) % 6 < 3 then g else quarter - mag g)

/-- A phase as its definition writes it, at frequency `F`. -/
def wave (x F : EReal) : EReal := x * F - two * rnd (x * F * half)

/-- The words of the frequencies, each twice its half. -/
theorem freq_two (k : Fin 10) : Ideal.ofBits .f32 (BitVec.ofNat 32 (k.val + 127) <<< 23) = two * Ideal.ofBits .f32 (freq k.val) := by
  rw [two_eq]
  fin_cases k <;> simp [freq, Ideal.ofBits, Ideal.ieee, -EReal.coe_mul] <;> norm_cast <;> norm_num

theorem wave_eq (x : EReal) {F g : EReal} (h : F = two * g) : wave x F = two * (x * g - rnd (x * g)) := by
  have e1 : x * F = two * (x * g) := by rw [h, mul_left_comm]
  have e2 : two * (x * g) * half = x * g := by
    rw [mul_comm two, mul_assoc, show two * half = 1 by rw [two_eq, half_eq, ← EReal.coe_mul]; norm_num, mul_one]
  rw [wave, e1, e2, turn_eq]

/-- A layer as its definition writes it. -/
def layer {ι : Type} [Fintype ι] (q : ι → EReal) (w : ι → Fin 256 → EReal) (a s : EReal) (b : Fin 256 → EReal) (a' : EReal) : Fin 256 → EReal :=
  fun o => quant (max ((∑ x, q x * w x o) * (a * s) + b o) 0) a'

/-- The layer that reads the encoding again. -/
def skip {ι κ : Type} [Fintype ι] [Fintype κ] (q : ι → EReal) (w : ι → Fin 256 → EReal) (a s : EReal) (b : Fin 256 → EReal)
    (e : κ → EReal) (v : κ → Fin 256 → EReal) (a0 t : EReal) (a' : EReal) : Fin 256 → EReal :=
  fun o => quant (max ((∑ x, q x * w x o) * (a * s) + b o + (∑ x, e x * v x o) * (a0 * t)) 0) a'

/-- A layer with its scales folded into one number and one bias. -/
def folded {ι : Type} [Fintype ι] (q : ι → EReal) (w : ι → Fin 256 → EReal) (s : EReal) (b : Fin 256 → EReal) : Fin 256 → EReal :=
  fun o => clip ((∑ x, q x * w x o) * s + b o)

/-- The folded layer that reads the encoding again. -/
def foldedSkip {ι κ : Type} [Fintype ι] [Fintype κ] (q : ι → EReal) (w : ι → Fin 256 → EReal) (s : EReal) (b : Fin 256 → EReal)
    (e : κ → EReal) (v : κ → Fin 256 → EReal) (t : EReal) : Fin 256 → EReal :=
  fun o => clip ((∑ x, q x * w x o) * s + b o + (∑ x, e x * v x o) * t)

theorem folded_eq {ι : Type} [Fintype ι] (q : ι → EReal) (w : ι → Fin 256 → EReal) (a s : EReal) (b : Fin 256 → EReal) {a' : EReal}
    (h0 : 0 < a') : folded q w (a * s * inv a') (fun o => b o * inv a') = layer q w a s b a' :=
  funext fun o => by rw [folded, layer, quant_relu h0, fold_lin h0]

theorem foldedSkip_eq {ι κ : Type} [Fintype ι] [Fintype κ] (q : ι → EReal) (w : ι → Fin 256 → EReal) (a s : EReal) (b : Fin 256 → EReal)
    (e : κ → EReal) (v : κ → Fin 256 → EReal) (a0 t : EReal) {a' : EReal} (h0 : 0 < a') :
    foldedSkip q w (a * s * inv a') (fun o => b o * inv a') e v (a0 * t * inv a') = skip q w a s b e v a0 t a' :=
  funext fun o => by rw [foldedSkip, skip, quant_relu h0, fold_skip h0]

/-- The softplus. -/
def soft (z : EReal) : EReal := max z 0 + Ideal.log1p (Ideal.exp (0 - mag z))

/-- The density of the last hidden layer's codes. -/
def density (q wd : Fin 256 → EReal) (a s b : EReal) : EReal := soft ((∑ x, q x * wd x) * (a * s) + b)

/-- The network's numbers. -/
structure Nums where
  w0 : Fin 63 → Fin 256 → EReal
  wk : Fin 63 → Fin 256 → EReal
  w : Fin 7 → Fin 256 → Fin 256 → EReal
  wd : Fin 256 → EReal
  s : Fin 13 → EReal
  b0 : Fin 256 → EReal
  b : Fin 7 → Fin 256 → EReal
  bd : EReal
  a : Fin 12 → EReal

theorem nine : 9 ≤ 12 := by decide

/-- Of the scales that divide on the way to the density, the encoding's is not zero and the layers' are positive. -/
structure Nums.Scaled (W : Nums) : Prop where
  enc : W.a 0 ≠ 0
  pos : ∀ k : Fin 8, 0 < W.a (k.succ.castLE nine)

/-- The encoding's codes. -/
def Nums.code (W : Nums) (x : Fin 3 → EReal) (j : Fin 63) : EReal := quant (enc x j) (W.a 0)

/-- The first layer's codes, from the encoding's. -/
def Nums.first (W : Nums) (e : Fin 63 → EReal) : Fin 256 → EReal := layer e W.w0 (W.a 0) (W.s 0) W.b0 (W.a 1)

/-- The last hidden layer's codes, from the encoding's. -/
def Nums.last (W : Nums) (e : Fin 63 → EReal) : Fin 256 → EReal :=
  let q4 := layer (layer (layer (layer (W.first e) (W.w 0) (W.a 1) (W.s 1) (W.b 0) (W.a 2)) (W.w 1) (W.a 2) (W.s 2) (W.b 1) (W.a 3))
    (W.w 2) (W.a 3) (W.s 3) (W.b 2) (W.a 4)) (W.w 3) (W.a 4) (W.s 4) (W.b 3) (W.a 5)
  let q5 := skip q4 (W.w 4) (W.a 5) (W.s 5) (W.b 4) e W.wk (W.a 0) (W.s 8) (W.a 6)
  layer (layer q5 (W.w 5) (W.a 6) (W.s 6) (W.b 5) (W.a 7)) (W.w 6) (W.a 7) (W.s 7) (W.b 6) (W.a 8)

/-- The density, from the encoding's codes. -/
def Nums.sigma (W : Nums) (e : Fin 63 → EReal) : EReal := density (W.last e) W.wd (W.a 8) (W.s 9) W.bd

/-- The density from numbers that are the network's. -/
theorem Nums.sigma_of (W : Nums) (e : Fin 63 → EReal) {a0 a1 a2 a3 a4 a5 a6 a7 a8 s0 s1 s2 s3 s4 s5 s6 s7 s8 s9 bd : EReal}
    {w0 wk : Fin 63 → Fin 256 → EReal} {w1 w2 w3 w4 w5 w6 w7 : Fin 256 → Fin 256 → EReal} {b0 b1 b2 b3 b4 b5 b6 b7 wd : Fin 256 → EReal}
    (hw0 : w0 = W.w0) (hwk : wk = W.wk) (hb0 : b0 = W.b0) (hwd : wd = W.wd) (hbd : bd = W.bd)
    (ha0 : a0 = W.a 0) (ha1 : a1 = W.a 1) (ha2 : a2 = W.a 2) (ha3 : a3 = W.a 3) (ha4 : a4 = W.a 4) (ha5 : a5 = W.a 5) (ha6 : a6 = W.a 6)
    (ha7 : a7 = W.a 7) (ha8 : a8 = W.a 8) (hs0 : s0 = W.s 0) (hs1 : s1 = W.s 1) (hs2 : s2 = W.s 2) (hs3 : s3 = W.s 3) (hs4 : s4 = W.s 4)
    (hs5 : s5 = W.s 5) (hs6 : s6 = W.s 6) (hs7 : s7 = W.s 7) (hs8 : s8 = W.s 8) (hs9 : s9 = W.s 9)
    (hw1 : w1 = W.w 0) (hw2 : w2 = W.w 1) (hw3 : w3 = W.w 2) (hw4 : w4 = W.w 3) (hw5 : w5 = W.w 4) (hw6 : w6 = W.w 5) (hw7 : w7 = W.w 6)
    (hb1 : b1 = W.b 0) (hb2 : b2 = W.b 1) (hb3 : b3 = W.b 2) (hb4 : b4 = W.b 3) (hb5 : b5 = W.b 4) (hb6 : b6 = W.b 5) (hb7 : b7 = W.b 6) :
    density (layer (layer (skip (layer (layer (layer (layer (layer e w0 a0 s0 b0 a1) w1 a1 s1 b1 a2) w2 a2 s2 b2 a3) w3 a3 s3 b3 a4)
      w4 a4 s4 b4 a5) w5 a5 s5 b5 e wk a0 s8 a6) w6 a6 s6 b6 a7) w7 a7 s7 b7 a8) wd a8 s9 bd = W.sigma e := by
  subst hw0 hwk hb0 hwd hbd ha0 ha1 ha2 ha3 ha4 ha5 ha6 ha7 ha8 hs0 hs1 hs2 hs3 hs4 hs5 hs6 hs7 hs8 hs9
    hw1 hw2 hw3 hw4 hw5 hw6 hw7 hb1 hb2 hb3 hb4 hb5 hb6 hb7
  rfl

end Cert.Net

end
-- ==== Proof.K.At.lean ====
/-
  A tile's results entry by entry, over the extended reals: each is the folded network's.
-/
module

public import proofs.«01_k».proof.Proof.K.Net
public import proofs.«01_k».proof.Proof.Net.Alg
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Net

theorem zero8 : Ideal.ofBits .fp8e4m3 0#8 = 0 := Ideal.ofBits_zero .fp8e4m3

theorem sel3 (X : Fin 3 → EReal) (r : Nat) (h : r < 3) :
    Scalar.select (if r = 0 then 1#1 else 0#1) (X 0) (Scalar.select (if r = 1 then 1#1 else 0#1) (X 1) (X 2)) = X ⟨r, h⟩ := by
  match r, h with
  | 0, _ => rfl
  | 1, _ => rfl
  | 2, _ => rfl

/-- The coordinate and the frequency that the row's words select, once the words are known. -/
theorem phase_of (X : Fin 3 → EReal) (a b : BitVec 1) (w : BitVec 32) (j : Nat)
    (h : a = (if j % 3 = 0 then 1#1 else 0#1) ∧ b = (if j % 3 = 1 then 1#1 else 0#1) ∧ w = freq (j / 3)) :
    two * (Scalar.select a (X 0) (Scalar.select b (X 1) (X 2)) * Ideal.ofBits .f32 w
      - rnd (Scalar.select a (X 0) (Scalar.select b (X 1) (X 2)) * Ideal.ofBits .f32 w)) = phase (X ⟨j % 3, Nat.mod_lt _ (by decide)⟩) (j / 3) := by
  obtain ⟨rfl, rfl, rfl⟩ := h
  rw [sel3 X _ (Nat.mod_lt _ (by decide)), phase]

theorem phase_at (x : Vec Ideal S3x2048 .f32) (j : Fin 30) (l : Fin 2048) :
    phaseOf x (ix2 j l) = phase (x (ix2 ⟨j % 3, Nat.mod_lt _ (by decide)⟩ l)) (j / 3) := by
  pointwise [phaseOf, k0_pay205, k0_pay199, k0_pay200]
  refine phase_of (fun i => x (ix2 i l)) _ _ _ j.val ?_
  revert j; decide +kernel

/-- Half a phase of the selected row, folded for a cosine. -/
def fld (c : BitVec 1) (y : EReal) : EReal := Scalar.select c (quarter - mag (y - rnd y)) (y - rnd y)

theorem enc_of (X : Fin 3 → EReal) (t a b c : BitVec 1) (w : BitVec 32) (j : Nat)
    (h : t = (if j < 3 then 1#1 else 0#1) ∧ a = (if j % 3 = 0 then 1#1 else 0#1) ∧ b = (if j % 3 = 1 then 1#1 else 0#1)
      ∧ (t = 1#1 ∨ c = (if (j - 3) % 6 < 3 then 0#1 else 1#1) ∧ w = freq ((j - 3) / 6))) :
    Scalar.select t (Scalar.select a (X 0) (Scalar.select b (X 1) (X 2)))
      (poly (fld c (Scalar.select a (X 0) (Scalar.select b (X 1) (X 2)) * Ideal.ofBits .f32 w))) = enc X j := by
  obtain ⟨ht, rfl, rfl, hw⟩ := h
  rw [sel3 X _ (Nat.mod_lt _ (by decide)), enc]
  by_cases h3 : j < 3
  · rw [ht, if_pos h3, if_pos h3]; rfl
  · rw [if_neg h3] at ht ⊢
    rw [ht]
    rcases hw with hw | ⟨rfl, rfl⟩
    · rw [ht] at hw; exact absurd hw (by decide)
    · show poly _ = _
      congr 1
      by_cases hc : (j - 3) % 6 < 3
      · rw [if_pos hc, if_pos hc]; rfl
      · rw [if_neg hc, if_neg hc]; rfl

theorem enc_at (x : Vec Ideal S3x2048 .f32) (j : Fin 63) (l : Fin 2048) :
    encRaw x (ix2 ⟨j.val, j.isLt.trans (by decide)⟩ l) = enc (fun i => x (ix2 i l)) j := by
  pointwise [encRaw, k0_pay215, k0_pay206, k0_pay207, k0_pay208, k0_pay209]
  refine enc_of (fun i => x (ix2 i l)) _ _ _ _ _ j.val ?_
  revert j; decide +kernel

theorem rows_at (P : Params Ideal) (x : Vec Ideal S3x2048 .f32) (j : Fin 63) (l : Fin 2048) :
    P.rows x (ix2 ⟨j.val, j.isLt.trans (by decide)⟩ l) = clip2 (enc (fun i => x (ix2 i l)) j * P.se) := by
  rw [← enc_at]
  pointwise [Params.rows, k0_pay216, clip2]

theorem codes_at (P : Params Ideal) (x : Vec Ideal S3x2048 .f32) (j : Fin 63) (l : Fin 2048) :
    P.codes x (ix2 j l) = clip2 (enc (fun i => x (ix2 i l)) j * P.se) := by
  rw [← enc_at]
  pointwise [Params.codes, k0_pay217, k0_pay216, clip2]

/-- The encoding's part of a chunk's row. -/
abbrev head (a : FVec Ideal S256x128 .fp8e4m3) (r : Fin 256) (j : Fin 63) : EReal := a (ix2 r ⟨j.val, j.isLt.trans (by decide)⟩)

theorem code0_at (P : Params Ideal) (a : FVec Ideal S256x128 .fp8e4m3) (r o : Fin 256) :
    P.code0 a (ix2 r o) = folded (head a r) (fun j o => P.w0 (ix2 j o)) P.s0 (fun o => P.b0 (ix2 0 o)) o := by
  pointwise [Params.code0, under, clipq, first, k0_pay239]
  simp only [zero8, mul_zero, Finset.sum_const_zero, add_zero]
  rfl

theorem lin_at (q : FVec Ideal S256x256 .fp8e4m3) (w : Vec Ideal S1x256x256 .fp8e4m3) (s : EReal) (b : Vec Ideal S1x256 .f32) (r o : Fin 256) :
    clipq (lin (F := Ideal) q w s b) (ix2 r o) = folded (fun x => q (ix2 r x)) (fun x o => w (ix3 0 x o)) s (fun o => b (ix2 0 o)) o := by
  pointwise [lin, under, clipq, folded, clip]

theorem skip_at (q : FVec Ideal S256x256 .fp8e4m3) (w : Vec Ideal S1x256x256 .fp8e4m3) (s : EReal) (b : Vec Ideal S1x256 .f32)
    (a : FVec Ideal S256x128 .fp8e4m3) (wk : Vec Ideal S63x256 .fp8e4m3) (t : EReal) (r o : Fin 256) :
    clipq (addf (lin (F := Ideal) q w s b) (first (F := Ideal) a (k0_pay240 wk) t)) (ix2 r o)
      = foldedSkip (fun x => q (ix2 r x)) (fun x o => w (ix3 0 x o)) s (fun o => b (ix2 0 o)) (head a r) (fun j o => wk (ix2 j o)) t o := by
  pointwise [lin, under, clipq, first, k0_pay240]
  simp only [zero8, mul_zero, Finset.sum_const_zero, add_zero]
  rfl

/-- The last hidden layer's codes, folded. -/
def Params.deep (P : Params Ideal) (e : Fin 63 → EReal) : Fin 256 → EReal :=
  let q0 := folded e (fun j o => P.w0 (ix2 j o)) P.s0 (fun o => P.b0 (ix2 0 o))
  let l (q : Fin 256 → EReal) (w : Vec Ideal S1x256x256 .fp8e4m3) (s : EReal) (b : Vec Ideal S1x256 .f32) := folded q (fun x o => w (ix3 0 x o)) s (fun o => b (ix2 0 o))
  let q4 := l (l (l (l q0 P.w1 P.s1 P.b1) P.w2 P.s2 P.b2) P.w3 P.s3 P.b3) P.w4 P.s4 P.b4
  let q5 := foldedSkip q4 (fun x o => P.w5 (ix3 0 x o)) P.s5 (fun o => P.b5 (ix2 0 o)) e (fun j o => P.wk (ix2 j o)) P.sk
  l (l q5 P.w6 P.s6 P.b6) P.w7 P.s7 P.b7

theorem code7_at (P : Params Ideal) (a : FVec Ideal S256x128 .fp8e4m3) (r o : Fin 256) : P.code7 a (ix2 r o) = P.deep (head a r) o := by
  simp only [Params.code7, lin_at, skip_at, code0_at, Params.deep]

theorem dens_at (P : Params Ideal) (a : FVec Ideal S256x128 .fp8e4m3) (k : Fin 8) (r : Fin 256) :
    P.dens a (ix2 k r) = ∑ x, P.wg (ix2 ⟨k.val, k.isLt.trans (by decide)⟩ x) * P.deep (head a r) x := by
  pointwise [Params.dens]
  simp only [code7_at]

/-- Chunk `k` holds the tile's rows from `256 k` on. -/
theorem chunk_at (q : FVec Ideal S2048x128 .fp8e4m3) (k : Fin 8) (r : Fin 256) (j : Fin 128) :
    chunk q k (ix2 r j) = q (ix2 ⟨256 * k.val + r.val, by omega⟩ j) := by
  match k with
  | 0 => pointwise [chunk]
  | 1 => pointwise [chunk]
  | 2 => pointwise [chunk]
  | 3 => pointwise [chunk]
  | 4 => pointwise [chunk]
  | 5 => pointwise [chunk]
  | 6 => pointwise [chunk]
  | 7 => pointwise [chunk]

theorem head_at (e : Vec Ideal S64x2048 .f32) (g : Vec Ideal S32x2048 .f32) (k : Fin 8) (r : Fin 256) (j : Fin 63) :
    head (chunk (k0_pay238 (F := Ideal) e g) k) r j = e (ix2 ⟨j.val, j.isLt.trans (by decide)⟩ ⟨256 * k.val + r.val, by omega⟩) := by
  rw [head, chunk_at]
  pointwise [k0_pay238]
  rw [dif_pos (j.isLt.trans (by decide))]

/-- Eight arrays of 256 columns side by side. -/
theorem beside (d : Fin 8 → FVec Ideal S8x256 .f32) (k : Fin 8) (p : Fin 2048) :
    k0_pay524 (d 0) (d 1) (d 2) (d 3) (d 4) (d 5) (d 6) (d 7) (ix2 k p)
      = d ⟨p.val / 256, by omega⟩ (ix2 k ⟨p.val % 256, Nat.mod_lt _ (by decide)⟩) := by
  pointwise [k0_pay524]
  split_ifs <;>
    exact congr (congrArg d (Fin.ext (by simp; omega))) (congrArg (ix2 k) (Fin.ext (by simp; omega)))

theorem at_congr (d : Fin 8 → FVec Ideal S8x256 .f32) {i i' j j' : Fin 8} {k k' : Fin 256} (hi : i.val = i'.val) (hj : j.val = j'.val) (hk : k.val = k'.val) :
    d i (ix2 j k) = d i' (ix2 j' k') := by
  rw [Fin.ext hi, Fin.ext hj, Fin.ext hk]

/-- Row `s` of the tile's sixteen rows of 128, before the softplus. -/
theorem rows16 (d : Fin 8 → FVec Ideal S8x256 .f32) (m a : EReal) (s : Fin 16) (l : Fin 128) :
    k0_pay526 (F := Ideal) (k0_pay524 (d 0) (d 1) (d 2) (d 3) (d 4) (d 5) (d 6) (d 7)) (iota Kind.tc S8x128 32 [0] iota_S8x128_d0_w32)
        (k0_pay525 (d 0) (d 1) (d 2) (d 3) (d 4) (d 5) (d 6) (d 7)) 6#32 m a (ix2 s l)
      = d ⟨s.val / 2, by omega⟩ (ix2 ⟨s.val % 8, Nat.mod_lt _ (by decide)⟩ ⟨(128 * s.val + l.val) % 256, Nat.mod_lt _ (by decide)⟩) * m + a := by
  pointwise [k0_pay526, k0_pay525]
  simp only [beside]
  refine congrArg (fun z => z * m + a) ?_
  obtain ⟨s, hs⟩ := s
  obtain ⟨l, hl⟩ := l
  interval_cases s <;> refine at_congr d ?_ ?_ ?_ <;> dsimp only <;> omega

/-- A tile's density. -/
theorem sigma_at (P : Params Ideal) (q : FVec Ideal S2048x128 .fp8e4m3) (p : Fin 2048) :
    P.sigma q (ix1 p) = soft ((∑ x, P.wg (ix2 ⟨p.val / 128 % 8, by omega⟩ x)
      * P.deep (head (chunk q ⟨p.val / 256, by omega⟩) ⟨p.val % 256, Nat.mod_lt _ (by decide)⟩) x) * P.sm + P.sa) := by
  pointwise [Params.sigma, k0_pay531, k0_pay530, k0_pay529, k0_pay528, k0_pay527]
  have h := rows16 (fun k => P.dens (chunk q k)) P.sm P.sa ⟨p.val / 128, by omega⟩ ⟨p.val % 128, Nat.mod_lt _ (by decide)⟩
  have e : P.dens (chunk q ⟨p.val / 128 / 2, by omega⟩) (ix2 ⟨p.val / 128 % 8, by omega⟩ ⟨(128 * (p.val / 128) + p.val % 128) % 256, by omega⟩)
      = P.dens (chunk q ⟨p.val / 256, by omega⟩) (ix2 ⟨p.val / 128 % 8, by omega⟩ ⟨p.val % 256, by omega⟩) := by
    refine at_congr (fun k => P.dens (chunk q k)) ?_ ?_ ?_ <;> dsimp only <;> omega
  rw [h]
  dsimp only
  rw [e, dens_at]
  rfl

end Cert.KernelIdeal.Hand

end
-- ==== Proof.K.Tie.lean ====
/-
  The folded network of a tile is the network, when the folded numbers are made of the network's.
-/
module

public import proofs.«01_k».proof.Proof.K.At

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Net

/-- What a body reads, made of the network's numbers. -/
structure Tied (P : Params Ideal) (W : Nums) : Prop where
  w0 : (fun j o => P.w0 (ix2 j o)) = W.w0
  wk : (fun j o => P.wk (ix2 j o)) = W.wk
  wg : ∀ k x, P.wg (ix2 k x) = W.wd x
  se : P.se = inv (W.a 0)
  s0 : P.s0 = W.a 0 * W.s 0 * inv (W.a 1)
  sk : P.sk = W.a 0 * W.s 8 * inv (W.a 6)
  sm : P.sm = W.a 8 * W.s 9
  sa : P.sa = W.bd
  b0 : (fun o => P.b0 (ix2 0 o)) = fun o => W.b0 o * inv (W.a 1)
  w1 : (fun x o => P.w1 (ix3 0 x o)) = W.w 0
  s1 : P.s1 = W.a 1 * W.s 1 * inv (W.a 2)
  b1 : (fun o => P.b1 (ix2 0 o)) = fun o => W.b 0 o * inv (W.a 2)
  w2 : (fun x o => P.w2 (ix3 0 x o)) = W.w 1
  s2 : P.s2 = W.a 2 * W.s 2 * inv (W.a 3)
  b2 : (fun o => P.b2 (ix2 0 o)) = fun o => W.b 1 o * inv (W.a 3)
  w3 : (fun x o => P.w3 (ix3 0 x o)) = W.w 2
  s3 : P.s3 = W.a 3 * W.s 3 * inv (W.a 4)
  b3 : (fun o => P.b3 (ix2 0 o)) = fun o => W.b 2 o * inv (W.a 4)
  w4 : (fun x o => P.w4 (ix3 0 x o)) = W.w 3
  s4 : P.s4 = W.a 4 * W.s 4 * inv (W.a 5)
  b4 : (fun o => P.b4 (ix2 0 o)) = fun o => W.b 3 o * inv (W.a 5)
  w5 : (fun x o => P.w5 (ix3 0 x o)) = W.w 4
  s5 : P.s5 = W.a 5 * W.s 5 * inv (W.a 6)
  b5 : (fun o => P.b5 (ix2 0 o)) = fun o => W.b 4 o * inv (W.a 6)
  w6 : (fun x o => P.w6 (ix3 0 x o)) = W.w 5
  s6 : P.s6 = W.a 6 * W.s 6 * inv (W.a 7)
  b6 : (fun o => P.b6 (ix2 0 o)) = fun o => W.b 5 o * inv (W.a 7)
  w7 : (fun x o => P.w7 (ix3 0 x o)) = W.w 6
  s7 : P.s7 = W.a 7 * W.s 7 * inv (W.a 8)
  b7 : (fun o => P.b7 (ix2 0 o)) = fun o => W.b 6 o * inv (W.a 8)

theorem folded_of {ι : Type} [Fintype ι] {q q' : ι → EReal} {w w' : ι → Fin 256 → EReal} {s : EReal} {b : Fin 256 → EReal}
    {a s' : EReal} {b' : Fin 256 → EReal} {a' : EReal} (hq : q = q') (hw : w = w') (hs : s = a * s' * inv a') (hb : b = fun o => b' o * inv a')
    (h : 0 < a') : folded q w s b = layer q' w' a s' b' a' := by
  subst hq hw hs hb; exact folded_eq q w a s' b' h

theorem foldedSkip_of {ι κ : Type} [Fintype ι] [Fintype κ] {q q' : ι → EReal} {w w' : ι → Fin 256 → EReal} {s : EReal} {b : Fin 256 → EReal}
    {a s' : EReal} {b' : Fin 256 → EReal} {e : κ → EReal} {v v' : κ → Fin 256 → EReal} {t a0 t' a' : EReal} (hq : q = q') (hw : w = w')
    (hs : s = a * s' * inv a') (hb : b = fun o => b' o * inv a') (hv : v = v') (ht : t = a0 * t' * inv a') (h : 0 < a') :
    foldedSkip q w s b e v t = skip q' w' a s' b' e v' a0 t' a' := by
  subst hq hw hs hb hv ht; exact foldedSkip_eq q w a s' b' e v a0 t' h

variable {P : Params Ideal} {W : Nums} (T : Tied P W) (hW : W.Scaled)

include T hW

theorem first_of (e : Fin 63 → EReal) : folded e (fun j o => P.w0 (ix2 j o)) P.s0 (fun o => P.b0 (ix2 0 o)) = W.first e :=
  folded_of rfl T.w0 T.s0 T.b0 (hW.pos 0)

theorem deep_of (e : Fin 63 → EReal) : P.deep e = W.last e :=
  folded_of (folded_of (foldedSkip_of (folded_of (folded_of (folded_of (folded_of (first_of T hW e) T.w1 T.s1 T.b1 (hW.pos 1)) T.w2 T.s2 T.b2 (hW.pos 2))
    T.w3 T.s3 T.b3 (hW.pos 3)) T.w4 T.s4 T.b4 (hW.pos 4)) T.w5 T.s5 T.b5 T.wk T.sk (hW.pos 5)) T.w6 T.s6 T.b6 (hW.pos 6)) T.w7 T.s7 T.b7 (hW.pos 7)

theorem code_of (x : Fin 3 → EReal) (j : Fin 63) : clip2 (enc x j * P.se) = W.code x j := by
  rw [T.se]; exact (quant_eq hW.enc _).symm

theorem codes_of (x : Vec Ideal S3x2048 .f32) (j : Fin 63) (l : Fin 2048) : P.codes x (ix2 j l) = W.code (fun i => x (ix2 i l)) j :=
  (codes_at P x j l).trans (code_of T hW _ j)

/-- The rows of a chunk begin with the encoding's codes. -/
theorem head_of (x : Vec Ideal S3x2048 .f32) (g : Vec Ideal S32x2048 .f32) (k : Fin 8) (r : Fin 256) (l : Fin 2048) (h : 256 * k.val + r.val = l.val) :
    head (chunk (k0_pay238 (P.rows x) g) k) r = W.code (fun i => x (ix2 i l)) := by
  have e : (⟨256 * k.val + r.val, by omega⟩ : Fin 2048) = l := Fin.ext h
  funext j
  rw [head_at, e, rows_at]
  exact code_of T hW _ j

theorem code0_of (x : Vec Ideal S3x2048 .f32) (g : Vec Ideal S32x2048 .f32) (k : Fin 8) (r : Fin 256) (l : Fin 2048) (h : 256 * k.val + r.val = l.val)
    (o : Fin 256) : P.code0 (chunk (k0_pay238 (P.rows x) g) k) (ix2 r o) = W.first (W.code (fun i => x (ix2 i l))) o := by
  rw [code0_at, first_of T hW, head_of T hW x g k r l h]

theorem sigma_of (x : Vec Ideal S3x2048 .f32) (g : Vec Ideal S32x2048 .f32) (l : Fin 2048) :
    P.sigma (k0_pay238 (P.rows x) g) (ix1 l) = W.sigma (W.code (fun i => x (ix2 i l))) := by
  rw [sigma_at, deep_of T hW, head_of T hW x g _ _ l (by dsimp only; omega), T.sm, T.sa]
  simp only [T.wg, Nums.sigma, density]
  congr 3
  exact Finset.sum_congr rfl fun _ _ => mul_comm _ _

end Cert.KernelIdeal.Hand

end
-- ==== Proof.K.Vals.lean ====
/-
  What the kernel computes before its loop: the folded scales, the folded biases, the density's column, and the
  coordinates by sample.
-/
module

public import proofs.«01_k».proof.Proof.Gen.KernelIdeal.Frame
public import proofs.«01_k».proof.Proof.Net.Alg
public import Idealize.ShloMosaic.Lib.StableHlo.ReadAt
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Net

variable (m : (ℓ : Loc nD τ sig) → Buf (Elt Ideal) ℓ) (c : Dev nD)

/-- The network's numbers, from the arguments. -/
def nums : Nums where
  w0 j o := m ((c : Thread nD τ).loc main_arg5) (ix2 j o)
  wk j o := m ((c : Thread nD τ).loc main_arg7) (ix2 j o)
  w l i o := m ((c : Thread nD τ).loc main_arg6) (ix3 l i o)
  wd i := m ((c : Thread nD τ).loc main_arg8) (ix2 i 256)
  s k := m ((c : Thread nD τ).loc main_arg12) (ix1 k)
  b0 o := m ((c : Thread nD τ).loc main_arg13) (ix1 o)
  b l o := m ((c : Thread nD τ).loc main_arg14) (ix2 l o)
  bd := m ((c : Thread nD τ).loc main_arg15) (ix1 256)
  a k := m ((c : Thread nD τ).loc main_arg18) (ix1 k)

/-- Sample `n`'s coordinates. -/
def pos (n : Fin 454650) (i : Fin 3) : EReal := m ((c : Thread nD τ).loc main_arg0) (ix2 n i)

theorem v182_at (j : Fin 3) (n : Fin 454650) : (V m c main_v182 : FVec Ideal S3x454650 .f32) (ix2 j n) = pos m c n j := by
  unfold V; after_reads_at; rfl

theorem v163_at (k : Fin 32) (x : Fin 256) : (V m c main_v163 : FVec Ideal S32x256 .fp8e4m3) (ix2 k x) = (nums m c).wd x := by
  unfold V; after_reads_at; rfl

theorem v157_0 (x : Fin 256) : (V m c main_v157 : FVec Ideal S16x256 .f32) (ix2 0 x) = (nums m c).b0 x * inv ((nums m c).a 1) := by
  unfold V; after_reads_at
  after_reads_at
  rfl

theorem v157_s (l : Fin 7) (x : Fin 256) : (V m c main_v157 : FVec Ideal S16x256 .f32) (ix2 ⟨l.val + 1, by omega⟩ x) =
    (nums m c).b l x * inv ((nums m c).a ⟨l.val + 2, by omega⟩) := by
  unfold V; after_reads_at
  rw [dif_neg (by omega), dif_pos (by omega)]
  after_reads_at
  have e : (⟨2 + (l.val + 1 - 1), by omega⟩ : Fin 12) = ⟨l.val + 2, by omega⟩ := Fin.ext (by dsimp only; omega)
  rw [e]
  rfl

theorem v134_0 : (V m c main_v134 : FVec Ideal S18 .f32) (ix1 0) = inv ((nums m c).a 0) := by
  unfold V; after_reads_at
  after_reads_at
  rfl

theorem v134_2 : (V m c main_v134 : FVec Ideal S18 .f32) (ix1 2) = (nums m c).a 0 * (nums m c).s 0 * inv ((nums m c).a 1) := by
  unfold V; after_reads_at
  after_reads_at
  rfl

theorem v134_3 : (V m c main_v134 : FVec Ideal S18 .f32) (ix1 3) = (nums m c).a 1 * (nums m c).s 1 * inv ((nums m c).a 2) := by
  unfold V; after_reads_at
  after_reads_at
  rfl

theorem v134_4 : (V m c main_v134 : FVec Ideal S18 .f32) (ix1 4) = (nums m c).a 2 * (nums m c).s 2 * inv ((nums m c).a 3) := by
  unfold V; after_reads_at
  after_reads_at
  rfl

theorem v134_5 : (V m c main_v134 : FVec Ideal S18 .f32) (ix1 5) = (nums m c).a 3 * (nums m c).s 3 * inv ((nums m c).a 4) := by
  unfold V; after_reads_at
  after_reads_at
  rfl

theorem v134_6 : (V m c main_v134 : FVec Ideal S18 .f32) (ix1 6) = (nums m c).a 4 * (nums m c).s 4 * inv ((nums m c).a 5) := by
  unfold V; after_reads_at
  after_reads_at
  rfl

theorem v134_7 : (V m c main_v134 : FVec Ideal S18 .f32) (ix1 7) = (nums m c).a 5 * (nums m c).s 5 * inv ((nums m c).a 6) := by
  unfold V; after_reads_at
  after_reads_at
  rfl

theorem v134_8 : (V m c main_v134 : FVec Ideal S18 .f32) (ix1 8) = (nums m c).a 6 * (nums m c).s 6 * inv ((nums m c).a 7) := by
  unfold V; after_reads_at
  after_reads_at
  rfl

theorem v134_9 : (V m c main_v134 : FVec Ideal S18 .f32) (ix1 9) = (nums m c).a 7 * (nums m c).s 7 * inv ((nums m c).a 8) := by
  unfold V; after_reads_at
  after_reads_at
  rfl

theorem v134_13 : (V m c main_v134 : FVec Ideal S18 .f32) (ix1 13) = (nums m c).a 0 * (nums m c).s 8 * inv ((nums m c).a 6) := by
  unfold V; after_reads_at
  after_reads_at
  rfl

theorem v134_14 : (V m c main_v134 : FVec Ideal S18 .f32) (ix1 14) = (nums m c).a 8 * (nums m c).s 9 := by
  unfold V; after_reads_at
  after_reads_at
  rfl

theorem v134_15 : (V m c main_v134 : FVec Ideal S18 .f32) (ix1 15) = (nums m c).bd := by
  unfold V; after_reads_at
  after_reads_at
  rfl

end Cert.KernelIdeal.Hand

end
-- ==== Proof.K.Read.lean ====
/-
  What a step reads, in terms of the arguments: the network's numbers, and the coordinates of the tile's samples.
-/
module

public import proofs.«01_k».proof.Proof.K.Body
public import proofs.«01_k».proof.Proof.K.Tie
public import proofs.«01_k».proof.Proof.K.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Net

variable (m : (ℓ : Loc nD τ sig) → Buf (Elt Ideal) ℓ) (c : Dev nD) (t : Fin cfg0.N)

theorem coord_val : ∀ t : Fin cfg0.N, (grid0.coords t 0).val = t.val := (by decide +kernel : ∀ t : Fin grid0.N, (grid0.coords t 0).val = t.val)

/-! ## The blocks that are whole arrays -/

theorem idx2 : ∀ (t : Fin grid0.N) (a), win0_2.index t a = 0 := by decide +kernel
theorem idx7 : ∀ (t : Fin grid0.N) (a), win0_7.index t a = 0 := by decide +kernel
theorem idx8 : ∀ (t : Fin grid0.N) (a), win0_8.index t a = 0 := by decide +kernel
theorem idx9 : ∀ (t : Fin grid0.N) (a), win0_9.index t a = 0 := by decide +kernel
theorem idx11 : ∀ (t : Fin grid0.N) (a), win0_11.index t a = 0 := by decide +kernel
theorem idx15 : ∀ (t : Fin grid0.N) (a), win0_15.index t a = 0 := by decide +kernel

theorem blk2 : (iblk m c 2 t : Vec Ideal S18 .f32) = V m c main_v134 := by funext y; blk_ext [iblk, idx2]
theorem blk7 : (iblk m c 7 t : Vec Ideal S63x256 .fp8e4m3) = m ((c : Thread nD τ).loc main_arg5) := by
  rw [← V_main_arg5 m c]; funext y; blk_ext [iblk, idx7]
theorem blk8 : (iblk m c 8 t : Vec Ideal S7x256x256 .fp8e4m3) = m ((c : Thread nD τ).loc main_arg6) := by
  rw [← V_main_arg6 m c]; funext y; blk_ext [iblk, idx8]
theorem blk9 : (iblk m c 9 t : Vec Ideal S63x256 .fp8e4m3) = m ((c : Thread nD τ).loc main_arg7) := by
  rw [← V_main_arg7 m c]; funext y; blk_ext [iblk, idx9]
theorem blk11 : (iblk m c 11 t : Vec Ideal S32x256 .fp8e4m3) = V m c main_v163 := by funext y; blk_ext [iblk, idx11]
theorem blk15 : (iblk m c 15 t : Vec Ideal S16x256 .f32) = V m c main_v157 := by funext y; blk_ext [iblk, idx15]

/-! ## Reads of a part of a buffer -/

theorem read_all {sp : Space} {S : Shape} {e : EltTy} (M : Memref sig .tc sp S e) (f : Bf (F := Ideal) c M) {off : Fin S.rank → Nat}
    (inb : ∀ a, off a + S.size a ≤ S.size a) (h : ∀ a, off a = 0) {X : S.Idx → Elt Ideal e} (e : M.view.read (Elt Ideal) f = X) :
    View.readAt (Elt Ideal) M.view (Rect.unit off S.size inb).toLoadRect f = X := by
  rw [View.readAt_eq_ld, e]; exact View.ld_unit_lit inb X h

theorem read_one {sp : Space} (M : Memref sig .tc sp S18 .f32) (f : Bf (F := Ideal) c M) (k : Fin 18) (inb : ∀ a, (![k.val] : Fin 1 → Nat) a + S1.size a ≤ S18.size a)
    (h : 0 < S1.numel) {X : S18.Idx → Elt Ideal .f32} (e : M.view.read (Elt Ideal) f = X) :
    View.readAt (Elt Ideal) M.view (Rect.unit (s := S18) ![k.val] (Shape.size S1) inb).toLoadRect f (Shape.Idx.first h) = X (ix1 k) := by
  rw [View.readAt_eq_ld, e]
  exact View.ld_unit_apply_of X _ _ inb _ _ fun a => by match a with | 0 => rfl

theorem read_slab {sp : Space} (M : Memref sig .tc sp S7x256x256 .fp8e4m3) (f : Bf (F := Ideal) c M) (k : Fin 7)
    (inb : ∀ a, (![k.val, 0, 0] : Fin 3 → Nat) a + S1x256x256.size a ≤ S7x256x256.size a) {X : S7x256x256.Idx → Elt Ideal .fp8e4m3} (e : M.view.read (Elt Ideal) f = X)
    (x o : Fin 256) :
    View.readAt (Elt Ideal) M.view (Rect.unit (s := S7x256x256) ![k.val, 0, 0] (Shape.size S1x256x256) inb).toLoadRect f (ix3 0 x o : S1x256x256.Idx) = X (ix3 k x o) := by
  rw [View.readAt_eq_ld, e]
  exact View.ld_unit_apply_of X _ _ inb _ _ fun a => by
    match a with
    | 0 => rfl
    | 1 => exact (Nat.zero_add _).symm
    | 2 => exact (Nat.zero_add _).symm

theorem read_row {sp : Space} (M : Memref sig .tc sp S16x256 .f32) (f : Bf (F := Ideal) c M) (k : Fin 16)
    (inb : ∀ a, (![k.val, 0] : Fin 2 → Nat) a + S1x256.size a ≤ S16x256.size a) {X : S16x256.Idx → Elt Ideal .f32} (e : M.view.read (Elt Ideal) f = X) (o : Fin 256) :
    View.readAt (Elt Ideal) M.view (Rect.unit (s := S16x256) ![k.val, 0] (Shape.size S1x256) inb).toLoadRect f (ix2 0 o : S1x256.Idx) = X (ix2 k o) := by
  rw [View.readAt_eq_ld, e]
  exact View.ld_unit_apply_of X _ _ inb _ _ fun a => by
    match a with
    | 0 => rfl
    | 1 => exact (Nat.zero_add _).symm

set_option maxHeartbeats 4000000 in
/-- The numbers that a body reads are made of the network's. -/
theorem tied {f3 : Bf (F := Ideal) c (ms2 t)} {f8 : Bf (F := Ideal) c (ms7 t)} {f9 : Bf (F := Ideal) c (ms8 t)} {f10 : Bf (F := Ideal) c (ms9 t)}
    {f12 : Bf (F := Ideal) c (ms11 t)} {f16 : Bf (F := Ideal) c (ms15 t)} (h3 : (ms2 t).view.read (Elt Ideal) f3 = iblk m c 2 t)
    (h8 : (ms7 t).view.read (Elt Ideal) f8 = iblk m c 7 t) (h9 : (ms8 t).view.read (Elt Ideal) f9 = iblk m c 8 t)
    (h10 : (ms9 t).view.read (Elt Ideal) f10 = iblk m c 9 t) (h12 : (ms11 t).view.read (Elt Ideal) f12 = iblk m c 11 t)
    (h16 : (ms15 t).view.read (Elt Ideal) f16 = iblk m c 15 t) :
    Tied (par c (ms2 t) (ms7 t) (ms8 t) (ms9 t) (ms11 t) (ms15 t) f3 f8 f9 f10 f12 f16) (nums m c) where
  w0 := funext fun j => funext fun o => congrFun (read_all c _ f8 _ (by decide) (h8.trans (blk7 m c t))) (ix2 j o)
  wk := funext fun j => funext fun o => congrFun (read_all c _ f10 _ (by decide) (h10.trans (blk9 m c t))) (ix2 j o)
  wg k x := (congrFun (read_all c _ f12 _ (by decide) (h12.trans (blk11 m c t))) (ix2 k x)).trans (v163_at m c k x)
  se := (read_one c _ f3 0 _ _ (h3.trans (blk2 m c t))).trans (v134_0 m c)
  s0 := (read_one c _ f3 2 _ _ (h3.trans (blk2 m c t))).trans (v134_2 m c)
  sk := (read_one c _ f3 13 _ _ (h3.trans (blk2 m c t))).trans (v134_13 m c)
  sm := (read_one c _ f3 14 _ _ (h3.trans (blk2 m c t))).trans (v134_14 m c)
  sa := (read_one c _ f3 15 _ _ (h3.trans (blk2 m c t))).trans (v134_15 m c)
  b0 := funext fun o => (read_row c _ f16 0 _ (h16.trans (blk15 m c t)) o).trans (v157_0 m c o)
  w1 := funext fun x => funext fun o => read_slab c _ f9 0 _ (h9.trans (blk8 m c t)) x o
  s1 := (read_one c _ f3 3 _ _ (h3.trans (blk2 m c t))).trans (v134_3 m c)
  b1 := funext fun o => (read_row c _ f16 1 _ (h16.trans (blk15 m c t)) o).trans (v157_s m c 0 o)
  w2 := funext fun x => funext fun o => read_slab c _ f9 1 _ (h9.trans (blk8 m c t)) x o
  s2 := (read_one c _ f3 4 _ _ (h3.trans (blk2 m c t))).trans (v134_4 m c)
  b2 := funext fun o => (read_row c _ f16 2 _ (h16.trans (blk15 m c t)) o).trans (v157_s m c 1 o)
  w3 := funext fun x => funext fun o => read_slab c _ f9 2 _ (h9.trans (blk8 m c t)) x o
  s3 := (read_one c _ f3 5 _ _ (h3.trans (blk2 m c t))).trans (v134_5 m c)
  b3 := funext fun o => (read_row c _ f16 3 _ (h16.trans (blk15 m c t)) o).trans (v157_s m c 2 o)
  w4 := funext fun x => funext fun o => read_slab c _ f9 3 _ (h9.trans (blk8 m c t)) x o
  s4 := (read_one c _ f3 6 _ _ (h3.trans (blk2 m c t))).trans (v134_6 m c)
  b4 := funext fun o => (read_row c _ f16 4 _ (h16.trans (blk15 m c t)) o).trans (v157_s m c 3 o)
  w5 := funext fun x => funext fun o => read_slab c _ f9 4 _ (h9.trans (blk8 m c t)) x o
  s5 := (read_one c _ f3 7 _ _ (h3.trans (blk2 m c t))).trans (v134_7 m c)
  b5 := funext fun o => (read_row c _ f16 5 _ (h16.trans (blk15 m c t)) o).trans (v157_s m c 4 o)
  w6 := funext fun x => funext fun o => read_slab c _ f9 5 _ (h9.trans (blk8 m c t)) x o
  s6 := (read_one c _ f3 8 _ _ (h3.trans (blk2 m c t))).trans (v134_8 m c)
  b6 := funext fun o => (read_row c _ f16 6 _ (h16.trans (blk15 m c t)) o).trans (v157_s m c 5 o)
  w7 := funext fun x => funext fun o => read_slab c _ f9 6 _ (h9.trans (blk8 m c t)) x o
  s7 := (read_one c _ f3 9 _ _ (h3.trans (blk2 m c t))).trans (v134_9 m c)
  b7 := funext fun o => (read_row c _ f16 7 _ (h16.trans (blk15 m c t)) o).trans (v157_s m c 6 o)

/-! ## The coordinates -/

theorem idx3 : ∀ (t : Fin grid0.N) (a), win0_3.index t a = (![0, t.val] : Fin 2 → Nat) a := by decide +kernel
theorem cut3 : ∀ (t : Fin grid0.N) (a), win0_3.xsize (grid0.coords t) a = (![3, min 2048 (454650 - t.val * 2048)] : Fin 2 → Nat) a := by decide +kernel

theorem slt_one {x y : BitVec 32} (h : x.slt y = true) : IntOp.cmpi .slt x y = 1#1 := congrArg BitVec.ofBool h

theorem inside_of (n l t : Nat) (hn : n < 2147483648) (h : t * 2048 + l < n) :
    IntOp.cmpi .slt (BitVec.ofNat 32 l) (Scalar.subi (BitVec.ofNat 32 n) (Scalar.muli (BitVec.ofNat 32 t) (BitVec.ofNat 32 2048))) = 1#1 := by
  have e : Scalar.subi (BitVec.ofNat 32 n) (Scalar.muli (BitVec.ofNat 32 t) (BitVec.ofNat 32 2048)) = BitVec.ofNat 32 (n - t * 2048) := by
    apply BitVec.eq_of_toNat_eq
    simp only [Scalar.subi, Scalar.muli, IntOp.subi, IntOp.muli, BitVec.toNat_sub, BitVec.toNat_mul, BitVec.toNat_ofNat]
    omega
  rw [e]
  apply slt_one
  rw [BitVec.slt_eq_decide, BitVec.toInt_eq_toNat_of_lt, BitVec.toInt_eq_toNat_of_lt] <;>
    simp only [BitVec.toNat_ofNat, decide_eq_true_eq] <;> omega

/-- Before the last sample, a tile's words say so. -/
theorem inside (l t : Nat) (h : t * 2048 + l < 454650) :
    IntOp.cmpi .slt (BitVec.ofNat 32 l) (Scalar.subi 454650#32 (Scalar.muli (BitVec.ofNat 32 t) 2048#32)) = 1#1 :=
  inside_of 454650 l t (by norm_num) h

theorem crd_at {Inv : (c : Dev nD) → ℕ → Scr (F := Ideal) c → Prop}
    {Rl : (w : Fin cfg0.W) → Fin cfg0.N → ((cfg0.win w).block.Idx → Elt Ideal (cfg0.win w).elt) → Prop} {f4 : Bf (F := Ideal) c (ms3 t)}
    (h : ((dats m Inv 0 c).toRRel fgt Rl).Finds 3 t ((ms3 t).view.read (Elt Ideal) f4)) (j : Fin 3) (l : Fin 2048) (hl : t.val * 2048 + l.val < 454650) :
    crd c (grid0.coords t) (ms3 t) f4 (ix2 j l) = pos m c ⟨t.val * 2048 + l.val, hl⟩ j := by
  obtain ⟨d, e⟩ := (Pipeline.RDat.finds_of_fetch _ (fetch0_3 t) _).mp h
  have hx : crd c (grid0.coords t) (ms3 t) f4 (ix2 j l) = (ms3 t).view.read (Elt Ideal) f4 (ix2 j l) := by
    unfold crd
    rw [read_all c _ f4 _ (by decide) rfl]
    pointwise [k0_pay195]
    rw [coord_val t, inside l t hl]
    rfl
  rw [hx, e]
  have hm : win0_3.moved (grid0.coords t) (ix2 j l : S3x2048.Idx) = true := (win0_3.moved_iff _ _).mpr fun a => by
    rw [cut3]
    match a with
    | 0 => exact j.isLt
    | 1 => exact lt_min l.isLt (by show l.val < _; omega)
  unfold Pipeline.RDat.fetched Pipeline.Window.fill
  rw [dif_pos hm, ← v182_at]
  blk_ext [Pipeline.RDat.blockOf, idx3]

end Cert.KernelIdeal.Hand

end
-- ==== Proof.K.NetAT.lean ====
/-
  The first layer's codes and the densities that the body leaves at the first step, for a tile whose rays span more than one window of 128.
-/
module

public import proofs.«01_k».proof.Proof.K.RunAT
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netAT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    ∃ gx : Vec F S32x2048 .f32,
    arg23.view.read (Elt F) ((runAT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runAT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runAT]
  apply Exists.intro
  apply And.intro
  · refine (View.read_writes_junk_eq_canon _ _).trans (congrArg View.canon ?_)
    with_unfolding_all exact rfl
  · refine (View.read_writes_junk_eq_canon _ _).trans (congrArg View.canon ?_)
    delta runAT.sl.H19_1 runAT.sl.r_241 runAT.sl.r_242 runAT.sl.r_237 runAT.sl.r_238 runAT.sl.v2393
    refine sigma_piece _ _ ?_ ?_ ?_ ?_ ?_ ?_ ?_ ?_ ?_ ?_
    all_goals with_unfolding_all exact rfl

end Cert.KernelIdeal.Hand

end
-- ==== Proof.K.NetAF.lean ====
/-
  The first layer's codes and the densities that the body leaves at the first step, for a tile whose rays lie in one window of 128.
-/
module

public import proofs.«01_k».proof.Proof.K.RunAF
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netAF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    ∃ gx : Vec F S32x2048 .f32,
    arg23.view.read (Elt F) ((runAF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runAF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runAF]
  apply Exists.intro
  apply And.intro
  · refine (View.read_writes_junk_eq_canon _ _).trans (congrArg View.canon ?_)
    with_unfolding_all exact rfl
  · refine (View.read_writes_junk_eq_canon _ _).trans (congrArg View.canon ?_)
    delta runAF.sl.H19_1 runAF.sl.r_241 runAF.sl.r_242 runAF.sl.r_237 runAF.sl.r_238 runAF.sl.v2393
    refine sigma_piece _ _ ?_ ?_ ?_ ?_ ?_ ?_ ?_ ?_ ?_ ?_
    all_goals with_unfolding_all exact rfl

end Cert.KernelIdeal.Hand

end
-- ==== Proof.K.NetBT.lean ====
/-
  The first layer's codes and the densities that the body leaves at a step between the first and the last, for a tile whose rays span more than one window of 128.
-/
module

public import proofs.«01_k».proof.Proof.K.RunBT
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netBT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : k0_cond2 (w1 c i arg1 f1) (w2 c i arg2 f2) = 1#1) (hc3 : k0_cond3 (w1 c i arg1 f1) (w2 c i arg2 f2) = 1#1) :
    ∃ gx : Vec F S32x2048 .f32,
    arg23.view.read (Elt F) ((runBT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runBT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runBT]
  apply Exists.intro
  apply And.intro
  · refine (View.read_writes_junk_eq_canon _ _).trans (congrArg View.canon ?_)
    with_unfolding_all exact rfl
  · refine (View.read_writes_junk_eq_canon _ _).trans (congrArg View.canon ?_)
    delta runBT.sl.H19_1 runBT.sl.r_241 runBT.sl.r_242 runBT.sl.r_237 runBT.sl.r_238 runBT.sl.v2393
    refine sigma_piece _ _ ?_ ?_ ?_ ?_ ?_ ?_ ?_ ?_ ?_ ?_
    all_goals with_unfolding_all exact rfl

end Cert.KernelIdeal.Hand

end
-- ==== Proof.K.NetBF.lean ====
/-
  The first layer's codes and the densities that the body leaves at a step between the first and the last, for a tile whose rays lie in one window of 128.
-/
module

public import proofs.«01_k».proof.Proof.K.RunBF
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netBF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : ¬ k0_cond4 i = 1#1)
    (hc2 : ¬ k0_cond2 (w1 c i arg1 f1) (w2 c i arg2 f2) = 1#1) (hc3 : ¬ k0_cond3 (w1 c i arg1 f1) (w2 c i arg2 f2) = 1#1) :
    ∃ gx : Vec F S32x2048 .f32,
    arg23.view.read (Elt F) ((runBF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runBF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runBF]
  apply Exists.intro
  apply And.intro
  · refine (View.read_writes_junk_eq_canon _ _).trans (congrArg View.canon ?_)
    with_unfolding_all exact rfl
  · refine (View.read_writes_junk_eq_canon _ _).trans (congrArg View.canon ?_)
    delta runBF.sl.H19_1 runBF.sl.r_241 runBF.sl.r_242 runBF.sl.r_237 runBF.sl.r_238 runBF.sl.v2393
    refine sigma_piece _ _ ?_ ?_ ?_ ?_ ?_ ?_ ?_ ?_ ?_ ?_
    all_goals with_unfolding_all exact rfl

end Cert.KernelIdeal.Hand

end
-- ==== Proof.K.NetCT.lean ====
/-
  The first layer's codes and the densities that the body leaves at the last step, for a tile whose rays span more than one window of 128.
-/
module

public import proofs.«01_k».proof.Proof.K.RunCT
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netCT (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : k0_cond2 (w1 c i arg1 f1) (w2 c i arg2 f2) = 1#1) (hc3 : k0_cond3 (w1 c i arg1 f1) (w2 c i arg2 f2) = 1#1) :
    ∃ gx : Vec F S32x2048 .f32,
    arg23.view.read (Elt F) ((runCT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runCT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runCT]
  apply Exists.intro
  apply And.intro
  · refine (View.read_writes_junk_eq_canon _ _).trans (congrArg View.canon ?_)
    with_unfolding_all exact rfl
  · refine (View.read_writes_junk_eq_canon _ _).trans (congrArg View.canon ?_)
    delta runCT.sl.H19_1 runCT.sl.r_241 runCT.sl.r_242 runCT.sl.r_237 runCT.sl.r_238 runCT.sl.v2393
    refine sigma_piece _ _ ?_ ?_ ?_ ?_ ?_ ?_ ?_ ?_ ?_ ?_
    all_goals with_unfolding_all exact rfl

end Cert.KernelIdeal.Hand

end
-- ==== Proof.K.NetCF.lean ====
/-
  The first layer's codes and the densities that the body leaves at the last step, for a tile whose rays lie in one window of 128.
-/
module

public import proofs.«01_k».proof.Proof.K.RunCF
public import proofs.«01_k».proof.Proof.K.Net

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- They are those of the network on the encoded coordinates and some rows of encoded directions. -/
theorem netCF (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)
    (HC1 : ∀ v, v = w1 c i arg1 f1 → k0_chk1 v) (HC2 : ∀ a b, a = w1 c i arg1 f1 → b = w2 c i arg2 f2 → k0_chk2 a b)
    (hc1 : ¬ k0_cond1 i = 1#1) (hc4 : k0_cond4 i = 1#1)
    (hc2 : ¬ k0_cond2 (w1 c i arg1 f1) (w2 c i arg2 f2) = 1#1) (hc3 : ¬ k0_cond3 (w1 c i arg1 f1) (w2 c i arg2 f2) = 1#1) :
    ∃ gx : Vec F S32x2048 .f32,
    arg23.view.read (Elt F) ((runCF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) ((runCF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 HC1 HC2 hc1 hc4 hc2 hc3).1.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  dsimp only [runCF]
  apply Exists.intro
  apply And.intro
  · refine (View.read_writes_junk_eq_canon _ _).trans (congrArg View.canon ?_)
    with_unfolding_all exact rfl
  · refine (View.read_writes_junk_eq_canon _ _).trans (congrArg View.canon ?_)
    delta runCF.sl.H19_1 runCF.sl.r_241 runCF.sl.r_242 runCF.sl.r_237 runCF.sl.r_238 runCF.sl.v2393
    refine sigma_piece _ _ ?_ ?_ ?_ ?_ ?_ ?_ ?_ ?_ ?_ ?_
    all_goals with_unfolding_all exact rfl

end Cert.KernelIdeal.Hand

end
-- ==== Proof.K.Outs.lean ====
/-
  What a step leaves in the results that are claimed, whichever of its six runs it is, as functions of its inputs.
-/
module

public import proofs.«01_k».proof.Proof.K.Step
public import proofs.«01_k».proof.Proof.K.NetAT
public import proofs.«01_k».proof.Proof.K.NetAF
public import proofs.«01_k».proof.Proof.K.NetBT
public import proofs.«01_k».proof.Proof.K.NetBF
public import proofs.«01_k».proof.Proof.K.NetCT
public import proofs.«01_k».proof.Proof.K.NetCF

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg1 : Memref sig .tc .smem S222 .i32) (harg1 : arg1.IsWhole) (arg2 : Memref sig .tc .smem S222 .i32) (harg2 : arg2.IsWhole) (arg3 : Memref sig .tc .smem S18 .f32) (harg3 : arg3.IsWhole) (arg4 : Memref sig .tc .vmem S3x2048 .f32) (harg4 : arg4.IsWhole) (arg5 : Memref sig .tc .vmem S2048 .f32) (harg5 : arg5.IsWhole) (arg6 : Memref sig .tc .vmem S2048 .i32) (harg6 : arg6.IsWhole) (arg7 : Memref sig .tc .vmem S3x12288 .f32) (harg7 : arg7.IsWhole) (arg8 : Memref sig .tc .vmem S63x256 .fp8e4m3) (harg8 : arg8.IsWhole) (arg9 : Memref sig .tc .vmem S7x256x256 .fp8e4m3) (harg9 : arg9.IsWhole) (arg10 : Memref sig .tc .vmem S63x256 .fp8e4m3) (harg10 : arg10.IsWhole) (arg11 : Memref sig .tc .vmem S256x256 .fp8e4m3) (harg11 : arg11.IsWhole) (arg12 : Memref sig .tc .vmem S32x256 .fp8e4m3) (harg12 : arg12.IsWhole) (arg13 : Memref sig .tc .vmem S256x128 .fp8e4m3) (harg13 : arg13.IsWhole) (arg14 : Memref sig .tc .vmem S27x128 .fp8e4m3) (harg14 : arg14.IsWhole) (arg15 : Memref sig .tc .vmem S3x128 .fp8e4m3) (harg15 : arg15.IsWhole) (arg16 : Memref sig .tc .vmem S16x256 .f32) (harg16 : arg16.IsWhole) (arg17 : Memref sig .tc .vmem S8x128 .f32) (harg17 : arg17.IsWhole) (arg18 : Memref sig .tc .vmem S8x12288 .f32) (harg18 : arg18.IsWhole) (arg19 : Memref sig .tc .vmem S2048 .f32) (harg19 : arg19.IsWhole) (arg20 : Memref sig .tc .vmem S2048 .f32) (harg20 : arg20.IsWhole) (arg21 : Memref sig .tc .vmem S10x128 .f32) (harg21 : arg21.IsWhole) (arg22 : Memref sig .tc .vmem S63x2048 .fp8e4m3) (harg22 : arg22.IsWhole) (arg23 : Memref sig .tc .vmem S2048x256 .fp8e4m3) (harg23 : arg23.IsWhole) (arg24 : Memref sig .tc .vmem S30x2048 .f32) (harg24 : arg24.IsWhole) (arg25 : Memref sig .tc .vmem S12x12288 .f32) (harg25 : arg25.IsWhole) (arg26 : Memref sig .tc .vmem S10x8x256 .f32) (harg26 : arg26.IsWhole) (arg27 : Memref sig .tc .vmem S98x32x128 .f32) (harg27 : arg27.IsWhole) (arg28 : Memref sig .tc .vmem S98x8x128 .f32) (harg28 : arg28.IsWhole) (arg29 : Memref sig .tc .vmem S8x128 .f32) (harg29 : arg29.IsWhole) (arg30 : Memref sig .tc .vmem S8x128 .i32) (harg30 : arg30.IsWhole) (arg31 : Memref sig .tc .vmem S32x2048 .f32) (harg31 : arg31.IsWhole) (arg32 : Memref sig .tc .vmem S16x128 .f32) (harg32 : arg32.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (f29 : Bf (F := F) c arg29) (f30 : Bf (F := F) c arg30) (f31 : Bf (F := F) c arg31) (f32 : Bf (F := F) c arg32)

/-- The phases that a step leaves. -/
theorem step_phase {W} (h : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 W) :
    arg24.view.read (Elt F) (W.2.2.2.2.2.2.1) = View.canon [⟨Rect.unit ![0, 0] (Shape.size S30x2048) inb_S30x2048_S30x2048_0_0, phaseOf (crd c i arg4 f4)⟩] := by
  cases h
  all_goals dsimp only [runAF, runBF, runCF, runAT, runBT, runCT]
  all_goals refine (View.read_writes_junk_eq_canon _ _).trans (congrArg View.canon ?_)
  all_goals with_unfolding_all rfl

/-- The encoded codes that a step leaves. -/
theorem step_codes {W} (h : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 W) :
    arg22.view.read (Elt F) (W.2.2.2.2.1) = View.canon [⟨Rect.unit ![0, 0] (Shape.size S63x2048) inb_S63x2048_S63x2048_0_0, (par c arg3 arg8 arg9 arg10 arg12 arg16 f3 f8 f9 f10 f12 f16).codes (crd c i arg4 f4)⟩] := by
  cases h
  all_goals dsimp only [runAF, runBF, runCF, runAT, runBT, runCT]
  all_goals refine (View.read_writes_junk_eq_canon _ _).trans (congrArg View.canon ?_)
  all_goals with_unfolding_all rfl

/-- The first layer's codes and the densities that a step leaves, for some rows of the encoded directions. -/
theorem step_net {W} (h : Step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 W) : ∃ gx : Vec F S32x2048 .f32,
    arg23.view.read (Elt F) (W.2.2.2.2.2.1) = View.canon ((par c arg3 arg8 arg9 arg10 arg12 arg16 f3 f8 f9 f10 f12 f16).pieces (k0_pay238 ((par c arg3 arg8 arg9 arg10 arg12 arg16 f3 f8 f9 f10 f12 f16).rows (crd c i arg4 f4)) gx))
    ∧ arg19.view.read (Elt F) (W.2.1) = View.canon [⟨Rect.unit ![0] (Shape.size S2048) inb_S2048_S2048_0, (par c arg3 arg8 arg9 arg10 arg12 arg16 f3 f8 f9 f10 f12 f16).sigma (k0_pay238 ((par c arg3 arg8 arg9 arg10 arg12 arg16 f3 f8 f9 f10 f12 f16).rows (crd c i arg4 f4)) gx)⟩] := by
  cases h
  · exact netAT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _
  · exact netAF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _
  · exact netBT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _
  · exact netBF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _
  · exact netCT c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _
  · exact netCF c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 f1 f2 f3 f4 f5 f6 f7 f8 f9 f10 f11 f12 f13 f14 f15 f16 f17 f18 f19 f20 f21 f22 f23 f24 f25 f26 f27 f28 f29 f30 f31 f32 _ _ _ _ _ _

end Cert.KernelIdeal.Hand

end
-- ==== Proof.K.Value.lean ====
/-
  What a step leaves in the claimed results, in terms of the arguments, and what a run leaves in the arrays.
-/
module

public import proofs.«01_k».proof.Proof.K.Read
public import proofs.«01_k».proof.Proof.K.Outs
public import proofs.«01_k».proof.Proof.K.Frame
public import Idealize.ShloMosaic.Lib.Pipeline.ArrRel
public import Idealize.ShloMosaic.Lib.Pipeline.Covers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Cert.Net

variable (m : (ℓ : Loc nD τ sig) → Buf (Elt Ideal) ℓ) (ρ : Dev nD → PrngReg)

/-- The densities of tile `t`'s samples. -/
def IsSigma (c : Dev nD) (t : Nat) (X : Vec Ideal S2048 .f32) : Prop :=
  ∀ (l : Fin 2048) (h : t * 2048 + l.val < 454650), X (ix1 l) = (nums m c).sigma ((nums m c).code (pos m c ⟨t * 2048 + l.val, h⟩))

/-- The encodings' codes of tile `t`'s samples. -/
def IsCode (c : Dev nD) (t : Nat) (X : Vec Ideal S63x2048 .fp8e4m3) : Prop :=
  ∀ (j : Fin 63) (l : Fin 2048) (h : t * 2048 + l.val < 454650), X (ix2 j l) = (nums m c).code (pos m c ⟨t * 2048 + l.val, h⟩) j

/-- The first layer's codes of tile `t`'s samples. -/
def IsFirst (c : Dev nD) (t : Nat) (X : Vec Ideal S2048x256 .fp8e4m3) : Prop :=
  ∀ (l : Fin 2048) (o : Fin 256) (h : t * 2048 + l.val < 454650),
    X (ix2 l o) = (nums m c).first ((nums m c).code (pos m c ⟨t * 2048 + l.val, h⟩)) o

/-- The phases of tile `t`'s samples. -/
def IsPhase (c : Dev nD) (t : Nat) (X : Vec Ideal S30x2048 .f32) : Prop :=
  ∀ (j : Fin 30) (l : Fin 2048) (h : t * 2048 + l.val < 454650),
    X (ix2 j l) = phase (pos m c ⟨t * 2048 + l.val, h⟩ ⟨j.val % 3, Nat.mod_lt _ (by decide)⟩) (j.val / 3)

/-- What a step may leave in a window. -/
def Rl (c : Dev nD) (w : Fin cfg0.W) (t : Fin cfg0.N) : ((cfg0.win w).block.Idx → Elt Ideal (cfg0.win w).elt) → Prop :=
  match w with
  | 18 => fun X => IsSigma m c t.val X
  | 21 => fun X => IsCode m c t.val X
  | 22 => fun X => IsFirst m c t.val X
  | 23 => fun X => IsPhase m c t.val X
  | _ => fun _ => True

section
variable {P : Params Ideal} {W : Nums} (T : Tied P W) (hW : W.Scaled)
include T hW

/-- The eight stores of the first layer's codes, as one array. -/
theorem pieces_of (x : Vec Ideal S3x2048 .f32) (g : Vec Ideal S32x2048 .f32) (l : Fin 2048) (o : Fin 256) :
    View.canon (Val := Elt Ideal) (P.pieces (k0_pay238 (P.rows x) g)) (ix2 l o) = W.first (W.code (fun i => x (ix2 i l))) o := by
  unfold Params.pieces
  canon_tiles z hz
  all_goals
    have ez : z = ix2 (z 0) (z 1) := by funext a; match a with | 0 => rfl | 1 => rfl
    rw [ez]
    have eo : (z 1 : Fin 256) = o := Fin.ext (by dsimp only [ix2] at *; omega)
    rw [eo]
    refine code0_of T hW x g _ _ l ?_ o
    dsimp only [ix2] at *; omega

end

set_option maxHeartbeats 4000000 in
/-- Every step leaves in the claimed results what they should hold. -/
theorem step_ok (hW : ∀ c, (nums m c).Scaled) : StepOK m (fun _ _ _ => True) (Rl m) := by
  intro c t f1 f2 f3 f4 f5 f6 f7 f8 f9 f10 f11 f12 f13 f14 f15 f16 f17 f18 f19 f20 f21 f22 f23 f24 f25 S W h1 h2 h3 h4 h5 h6 h7 h8 h9 h10 h11 h12 h13 h14 h15 h16 h17
    _ _ _ _ _ _ _ _ _ hst
  have T := tied m c t h3 h8 h9 h10 h12 h16
  have hx : ∀ (l : Fin 2048) (h : t.val * 2048 + l.val < 454650),
      (fun i => crd c (grid0.coords t) (ms3 t) f4 (ix2 i l)) = pos m c ⟨t.val * 2048 + l.val, h⟩ := fun l h =>
    funext fun i => crd_at m c t h4 i l h
  obtain ⟨gx, e22, e18⟩ := step_net (h := hst)
  have e21 := step_codes (h := hst)
  have e23 := step_phase (h := hst)
  refine ⟨trivial, ?_, trivial, trivial, ?_, ?_, ?_, trivial, trivial⟩
  · show IsSigma m c t.val _
    intro l h
    rw [e18, View.canon_cons_unit_lit _ _ _ (by decide), sigma_of T (hW c), hx l h]
  · show IsCode m c t.val _
    intro j l h
    rw [e21, View.canon_cons_unit_lit _ _ _ (by decide), codes_of T (hW c), hx l h]
  · show IsFirst m c t.val _
    intro l o h
    rw [e22, pieces_of T (hW c), hx l h]
  · show IsPhase m c t.val _
    intro j l h
    rw [e23, View.canon_cons_unit_lit _ _ _ (by decide), phase_at]
    have e := congrFun (hx l h) ⟨j.val % 3, Nat.mod_lt _ (by decide)⟩
    rw [e]

/-! ## The arrays after a run -/

theorem idx18 : ∀ (t : Fin grid0.N) (a), win0_18.index t a = (![t.val] : Fin 1 → Nat) a := by decide +kernel
theorem idx21 : ∀ (t : Fin grid0.N) (a), win0_21.index t a = (![0, t.val] : Fin 2 → Nat) a := by decide +kernel
theorem idx22 : ∀ (t : Fin grid0.N) (a), win0_22.index t a = (![t.val, 0] : Fin 2 → Nat) a := by decide +kernel
theorem idx23 : ∀ (t : Fin grid0.N) (a), win0_23.index t a = (![0, t.val] : Fin 2 → Nat) a := by decide +kernel

theorem cov18 : win0_18.Covers := by decide +kernel
theorem cov21 : win0_21.Covers := by decide +kernel
theorem cov22 : win0_22.Covers := by decide +kernel
theorem cov23 : win0_23.Covers := by decide +kernel

section
variable {m} {c : Dev nD} {rd : Pipeline.Dat τ (Elt Ideal) Unit ℕ (UR sig nD τ) ℕ cfg0 c}

theorem sigma_arr (h : ∀ t, (cfg0.win 18).flush t = true → IsSigma m c t.val (rd.after 18 t)) (n : Fin 454650) :
    (rd.arrAt 18 cfg0.N : Vec Ideal S454650 .f32) (ix1 n) = (nums m c).sigma ((nums m c).code (pos m c n)) := by
  refine rd.arrAt_forall_of_covers 18 (fun i v => v = (nums m c).sigma ((nums m c).code (pos m c (i 0)))) cov18 (fun t hf y => ?_) (ix1 n)
  have hy : t.val * 2048 + (y 0).val = ((((cfg0.win 18).blk t).view.emb y) 0).val := by blk_simp [idx18]
  have hb : t.val * 2048 + (y 0).val < 454650 := hy ▸ ((((cfg0.win 18).blk t).view.emb y) 0).isLt
  have e := h t hf (win0_18.xinj (grid0.coords t) y 0) hb
  have ey : win0_18.xinj (grid0.coords t) y = (ix1 (win0_18.xinj (grid0.coords t) y 0) : S2048.Idx) := funext fun a => by match a with | 0 => rfl
  have en : (⟨t.val * 2048 + (y 0).val, hb⟩ : Fin 454650) = (((cfg0.win 18).blk t).view.emb y) 0 := Fin.ext hy
  show rd.after 18 t (win0_18.xinj (grid0.coords t) y) = _
  rw [ey, ← en]
  exact e

theorem code_arr (h : ∀ t, (cfg0.win 21).flush t = true → IsCode m c t.val (rd.after 21 t)) (j : Fin 63) (n : Fin 454650) :
    (rd.arrAt 21 cfg0.N : Vec Ideal S63x454650 .fp8e4m3) (ix2 j n) = (nums m c).code (pos m c n) j := by
  refine rd.arrAt_forall_of_covers 21 (fun i v => v = (nums m c).code (pos m c (i 1)) (i 0)) cov21 (fun t hf y => ?_) (ix2 j n)
  have hy : t.val * 2048 + (y 1).val = ((((cfg0.win 21).blk t).view.emb y) 1).val := by blk_simp [idx21]
  have hz : (y 0).val = ((((cfg0.win 21).blk t).view.emb y) 0).val := by blk_simp [idx21]
  have hb : t.val * 2048 + (y 1).val < 454650 := hy ▸ ((((cfg0.win 21).blk t).view.emb y) 1).isLt
  have e := h t hf (win0_21.xinj (grid0.coords t) y 0) (win0_21.xinj (grid0.coords t) y 1) hb
  have ey : win0_21.xinj (grid0.coords t) y = (ix2 (win0_21.xinj (grid0.coords t) y 0) (win0_21.xinj (grid0.coords t) y 1) : S63x2048.Idx) :=
    funext fun a => by match a with | 0 => rfl | 1 => rfl
  have en : (⟨t.val * 2048 + (y 1).val, hb⟩ : Fin 454650) = (((cfg0.win 21).blk t).view.emb y) 1 := Fin.ext hy
  have ej : (win0_21.xinj (grid0.coords t) y 0 : Fin 63) = (((cfg0.win 21).blk t).view.emb y) 0 := Fin.ext hz
  show rd.after 21 t (win0_21.xinj (grid0.coords t) y) = _
  rw [ey, ← en, ← ej]
  exact e

theorem first_arr (h : ∀ t, (cfg0.win 22).flush t = true → IsFirst m c t.val (rd.after 22 t)) (n : Fin 454656) (o : Fin 256) (hn : n.val < 454650) :
    (rd.arrAt 22 cfg0.N : Vec Ideal S454656x256 .fp8e4m3) (ix2 n o) = (nums m c).first ((nums m c).code (pos m c ⟨n.val, hn⟩)) o := by
  refine (show ∀ hn : ((ix2 n o : S454656x256.Idx) 0).val < 454650, _ from ?_) hn
  refine rd.arrAt_forall_of_covers 22 (fun i v => ∀ hn : (i 0).val < 454650, v = (nums m c).first ((nums m c).code (pos m c ⟨(i 0).val, hn⟩)) (i 1)) cov22
    (fun t hf y hb' => ?_) (ix2 n o)
  have hy : t.val * 2048 + (y 0).val = ((((cfg0.win 22).blk t).view.emb y) 0).val := by blk_simp [idx22]
  have hz : (y 1).val = ((((cfg0.win 22).blk t).view.emb y) 1).val := by blk_simp [idx22]
  have hb : t.val * 2048 + (y 0).val < 454650 := hy ▸ hb'
  have e := h t hf (win0_22.xinj (grid0.coords t) y 0) (win0_22.xinj (grid0.coords t) y 1) hb
  have ey : win0_22.xinj (grid0.coords t) y = (ix2 (win0_22.xinj (grid0.coords t) y 0) (win0_22.xinj (grid0.coords t) y 1) : S2048x256.Idx) :=
    funext fun a => by match a with | 0 => rfl | 1 => rfl
  have en : (⟨t.val * 2048 + (y 0).val, hb⟩ : Fin 454650) = ⟨((((cfg0.win 22).blk t).view.emb y) 0).val, hb'⟩ := Fin.ext hy
  have ej : (win0_22.xinj (grid0.coords t) y 1 : Fin 256) = (((cfg0.win 22).blk t).view.emb y) 1 := Fin.ext hz
  show rd.after 22 t (win0_22.xinj (grid0.coords t) y) = _
  rw [ey, ← en, ← ej]
  exact e

theorem phase_arr (h : ∀ t, (cfg0.win 23).flush t = true → IsPhase m c t.val (rd.after 23 t)) (j : Fin 30) (n : Fin 454650) :
    (rd.arrAt 23 cfg0.N : Vec Ideal S30x454650 .f32) (ix2 j n) = phase (pos m c n ⟨j.val % 3, Nat.mod_lt _ (by decide)⟩) (j.val / 3) := by
  refine rd.arrAt_forall_of_covers 23 (fun i v => v = phase (pos m c (i 1) ⟨(i 0).val % 3, Nat.mod_lt _ (by decide)⟩) ((i 0).val / 3)) cov23
    (fun t hf y => ?_) (ix2 j n)
  have hy : t.val * 2048 + (y 1).val = ((((cfg0.win 23).blk t).view.emb y) 1).val := by blk_simp [idx23]
  have hz : (y 0).val = ((((cfg0.win 23).blk t).view.emb y) 0).val := by blk_simp [idx23]
  have hb : t.val * 2048 + (y 1).val < 454650 := hy ▸ ((((cfg0.win 23).blk t).view.emb y) 1).isLt
  have e := h t hf (win0_23.xinj (grid0.coords t) y 0) (win0_23.xinj (grid0.coords t) y 1) hb
  have ey : win0_23.xinj (grid0.coords t) y = (ix2 (win0_23.xinj (grid0.coords t) y 0) (win0_23.xinj (grid0.coords t) y 1) : S30x2048.Idx) :=
    funext fun a => by match a with | 0 => rfl | 1 => rfl
  have en : (⟨t.val * 2048 + (y 1).val, hb⟩ : Fin 454650) = (((cfg0.win 23).blk t).view.emb y) 1 := Fin.ext hy
  have ej : (win0_23.xinj (grid0.coords t) y 0 : Fin 30) = (((cfg0.win 23).blk t).view.emb y) 0 := Fin.ext hz
  show rd.after 23 t (win0_23.xinj (grid0.coords t) y) = _
  rw [ey, ← en, ← ej]
  exact e

end

/-- What a run leaves in the claimed results. -/
structure Values (r : PUnit × MemSt nD τ sig (Elt Ideal)) (c : Dev nD) : Prop where
  sigma (n : Fin 454650) : (r.2.mem ((c.tc : Thread nD τ).loc main_v185_1) : Vec Ideal S454650 .f32) (ix1 n) = (nums m c).sigma ((nums m c).code (pos m c n))
  code (j : Fin 63) (n : Fin 454650) :
    (r.2.mem ((c.tc : Thread nD τ).loc main_v185_4) : Vec Ideal S63x454650 .fp8e4m3) (ix2 j n) = (nums m c).code (pos m c n) j
  first (n : Fin 454656) (o : Fin 256) (hn : n.val < 454650) :
    (r.2.mem ((c.tc : Thread nD τ).loc main_v185_5) : Vec Ideal S454656x256 .fp8e4m3) (ix2 n o) = (nums m c).first ((nums m c).code (pos m c ⟨n.val, hn⟩)) o
  phase (j : Fin 30) (n : Fin 454650) :
    (r.2.mem ((c.tc : Thread nD τ).loc main_v185_6) : Vec Ideal S30x454650 .f32) (ix2 j n) = phase (pos m c n ⟨j.val % 3, Nat.mod_lt _ (by decide)⟩) (j.val / 3)

theorem values_of {r : PUnit × MemSt nD τ sig (Elt Ideal)}
    (h : Pipeline.RDat.FramePost (cfgs 0) (fun c => (dats m (fun _ _ _ => True) 0 c).toRRel fgt (Rl m c)) (V m) r) (c : Dev nD) : Values m r c := by
  obtain ⟨after, hL, hA⟩ := h.exists_exact c
  have hl : ∀ w, fgt w = true → ∀ t, (cfg0.win w).flush t = true → Rl m c w t (after w t) := fun w hw t hf =>
    (dats m (fun _ _ _ => True) 0 c).toRRel_leaves (Rl := Rl m c) hw (hL w t hf)
  refine ⟨fun n => ?_, fun j n => ?_, fun n o hn => ?_, fun j n => ?_⟩
  · exact (congrFun (hA 18) (ix1 n)).trans (sigma_arr (rd := ((dats m (fun _ _ _ => True) 0 c).toRRel fgt (Rl m c)).withAfter after) (fun t hf => hl 18 rfl t hf) n)
  · exact (congrFun (hA 21) (ix2 j n)).trans (code_arr (rd := ((dats m (fun _ _ _ => True) 0 c).toRRel fgt (Rl m c)).withAfter after) (fun t hf => hl 21 rfl t hf) j n)
  · exact (congrFun (hA 22) (ix2 n o)).trans (first_arr (rd := ((dats m (fun _ _ _ => True) 0 c).toRRel fgt (Rl m c)).withAfter after) (fun t hf => hl 22 rfl t hf) n o hn)
  · exact (congrFun (hA 23) (ix2 j n)).trans (phase_arr (rd := ((dats m (fun _ _ _ => True) 0 c).toRRel fgt (Rl m c)).withAfter after) (fun t hf => hl 23 rfl t hf) j n)

/-- Every run from ray ids that name rays and scales that one can divide by leaves the claimed results, with the arguments kept. -/
theorem run_values (h : Ids m) (hW : ∀ c, (nums m c).Scaled) :
    θ_run defs (onTc (τ := τ) (main (F := Ideal))) (s₀ m ρ) (fun r => ∀ c : Dev nD, Values m r c ∧ Kept m r c) :=
  (θ_run defs _ _).mono (fun _ h c => ⟨values_of m h.1 c, kept_of m h.1 c⟩)
    (run_main m ρ (fun _ _ _ => True) (Rl m) (words_ok m h) (step_ok m hW) (fun _ _ _ => trivial) (fun _ _ _ => trivial)
      (fun _ _ _ => trivial) (fun _ _ => trivial))

end Cert.KernelIdeal.Hand

end
-- ==== Proof.R.Host.lean ====
/-
  What the reference computes before its layers: a sample's phases and its encoding.
-/
module

public import proofs.«01_k».proof.Proof.Gen.ReferenceIdeal.Value
public import proofs.«01_k».proof.Proof.Net.Alg
public import Idealize.ShloMosaic.Lib.StableHlo.ReadAt
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Net

variable (m : (ℓ : Loc nD τ sig) → Buf (Elt Ideal) ℓ) (c : Dev nD)

/-- Sample `n`'s coordinates. -/
def pos (n : Fin 454650) (i : Fin 3) : EReal := m ((c : Thread nD τ).loc main_arg0) (ix2 n i)

theorem lit0_eq (k : Fin 10) : lit0 (S10.rowMajor (ix1 k)) = BitVec.ofNat 32 (k.val + 127) <<< 23 := by
  revert k; decide +kernel

theorem lit_two (k : Fin 10) : Ideal.ofBits .f32 (lit0 (S10.rowMajor (ix1 k))) = two * Ideal.ofBits .f32 (freq k.val) := by
  rw [lit0_eq]; exact freq_two k

theorem v25_at (j : Fin 30) (n : Fin 454650) :
    (V m c main_v25 : FVec Ideal S30x454650 .f32) (ix2 j n) = phase (pos m c n ⟨j.val % 3, Nat.mod_lt _ (by decide)⟩) (j.val / 3) := by
  unfold V; after_reads_at
  exact wave_eq _ (lit_two ⟨j.val / 3, by omega⟩)

theorem enc_cases (x : Fin 3 → EReal) (j : Nat) (hj : ¬ j < 3) (F : EReal) (h : F = two * Ideal.ofBits .f32 (freq ((j - 3) / 6))) :
    enc x j = if (j - 3) / 3 % 2 < 1 then poly (wave (x ⟨(j - 3) % 3, Nat.mod_lt _ (by decide)⟩) F * half)
      else poly ((half - mag (wave (x ⟨(j - 3) % 3, Nat.mod_lt _ (by decide)⟩) F)) * half) := by
  have e : (⟨(j - 3) % 3, Nat.mod_lt _ (by decide)⟩ : Fin 3) = ⟨j % 3, Nat.mod_lt _ (by decide)⟩ := Fin.ext (by dsimp only; omega)
  rw [e, wave_eq _ h, half_turn, half_turn_cos, enc]
  rw [if_neg hj]
  by_cases hc : (j - 3) % 6 < 3
  · rw [if_pos hc, if_pos (by omega)]
  · rw [if_neg hc, if_neg (by omega)]

theorem enc_low (x : Fin 3 → EReal) (j : Nat) (hj : j < 3) : enc x j = x ⟨j, hj⟩ := by
  rw [enc]
  rw [if_pos hj]
  exact congrArg x (Fin.ext (by dsimp only; omega))

/-- A word of the encoding as the reference selects it. -/
theorem enc_select (x : Fin 3 → EReal) (j : Nat) (F : EReal) (h : F = two * Ideal.ofBits .f32 (freq ((j - 3) / 6))) :
    (if h : j < 3 then x ⟨j, h⟩ else if (j - 3) / 3 % 2 < 1 then poly (wave (x ⟨(j - 3) % 3, Nat.mod_lt _ (by decide)⟩) F * half)
      else poly ((half - mag (wave (x ⟨(j - 3) % 3, Nat.mod_lt _ (by decide)⟩) F)) * half)) = enc x j := by
  by_cases h3 : j < 3
  · rw [dif_pos h3, enc_low x j h3]
  · rw [dif_neg h3, enc_cases x j h3 F h]

theorem v90_at (j : Fin 63) (n : Fin 454650) :
    (V m c main_v90 : FVec Ideal S454650x63 .f32) (ix2 n j) = enc (pos m c n) j := by
  unfold V; after_reads_at
  after_reads_at
  refine Eq.trans ?_ (enc_select (pos m c n) j _ (lit_two ⟨(j.val - 3) / 6, by omega⟩))
  split
  · rfl
  · split
    · exact rfl
    · exact rfl

theorem v91_eq : (V m c main_v91 : FVec Ideal S63x454650 .f32) = transpose S63x454650 [1, 0] (V m c main_v90 : FVec Ideal S454650x63 .f32) transposes_S454650x63_S63x454650_1_0 := by
  unfold V; after_reads_simp

end Cert.ReferenceIdeal.Hand

end
-- ==== Proof.R.Layers.lean ====
/-
  The reference's layers at a sample: each printed piece of its body as the layer it computes, and what its
  three results hold.
-/
module

public import proofs.«01_k».proof.Proof.R.Host

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Net
local notation "F" => Ideal

theorem pay1_at (v218 : FVec F S454650x256 .f32) (v219 : Vec F S1x1 .f32) (v228 : Vec F S256x257 .fp8e4m3) (v230 : Vec F S1x1 .f32) (v232 : Vec F S1x1 .f32) (v237 : Vec F S1x257 .f32) (n : Fin 454650) :
    k0_pay1 v218 v219 v228 v230 v232 v237 (ix1 n) =
      density (fun x => quant (v218 (ix2 n x)) (v219 (ix2 0 0))) (fun x => v228 (ix2 x 256)) (v230 (ix2 0 0)) (v232 (ix2 0 0)) (v237 (ix2 0 256)) := by
  pointwise [k0_pay1, k0_pay3, k0_pay5]
  rfl

theorem pay2_at (v0 : Vec F S63x454650 .f32) (v2 : Vec F S1x1 .f32) (n : Fin 63) (o : Fin 454650) :
    k0_pay2 v0 v2 (ix2 n o) =
      quant (v0 (ix2 n o)) (v2 (ix2 0 0)) := by
  pointwise [k0_pay2, k0_pay3, k0_pay5]
  rfl

theorem pay3_at (v12 : Vec F S454650x63 .f32) (v14 : Vec F S1x1 .f32) (n : Fin 454650) (o : Fin 63) :
    k0_pay3 v12 v14 (ix2 n o) =
      quant (v12 (ix2 n o)) (v14 (ix2 0 0)) := by
  pointwise [k0_pay3, k0_pay3, k0_pay5]
  rfl

theorem pay4_at (v12 : Vec F S454650x63 .f32) (v14 : Vec F S1x1 .f32) (v23 : Vec F S63x256 .fp8e4m3) (v25 : Vec F S1x1 .f32) (v27 : Vec F S1x1 .f32) (v32 : Vec F S1x256 .f32) (n : Fin 454650) (o : Fin 256) :
    k0_pay4 v12 v14 v23 v25 v27 v32 (ix2 n o) =
      (∑ x, quant (v12 (ix2 n x)) (v14 (ix2 0 0)) * v23 (ix2 x o)) * (v25 (ix2 0 0) * v27 (ix2 0 0)) + v32 (ix2 0 o) := by
  pointwise [k0_pay4, k0_pay3, k0_pay5]
  rfl

theorem pay6_at (v35 : FVec F S454650x256 .f32) (v38 : Vec F S1x1 .f32) (n : Fin 454656) (o : Fin 256) :
    k0_pay6 v35 v38 (ix2 n o) =
      if h : n.val < 454650 then quant (max (v35 (ix2 ⟨n.val, h⟩ o)) 0) (v38 (ix2 0 0)) else Ideal.ofBits FTy.fp8e4m3 0#8 := by
  pointwise [k0_pay6, k0_pay3, k0_pay5]
  rfl

theorem pay7_at (v35 : FVec F S454650x256 .f32) (v38 : Vec F S1x1 .f32) (v50 : Vec F S1x256x256 .fp8e4m3) (v53 : Vec F S1x1 .f32) (v55 : Vec F S1x1 .f32) (v60 : Vec F S1x256 .f32) (v65 : Vec F S1x1 .f32) (n : Fin 454650) (o : Fin 256) :
    k0_pay7 v35 v38 v50 v53 v55 v60 v65 (ix2 n o) =
      max lo (Ideal.div (max ((∑ x, quant (max (v35 (ix2 n x)) 0) (v38 (ix2 0 0)) * v50 (ix3 0 x o)) * (v53 (ix2 0 0) * v55 (ix2 0 0)) + v60 (ix2 0 o)) 0) (v65 (ix2 0 0))) := by
  pointwise [k0_pay7, k0_pay3, k0_pay5]
  rfl

theorem pay8_at (n : Fin 454650) (o : Fin 256) : (k0_pay8 : FVec F S454650x256 .f32) (ix2 n o) = hi := by
  pointwise [k0_pay8]

theorem pay9_at (v70 : FVec F S454650x256 .f32) (v71 : FVec F S454650x256 .f32) (v74 : Vec F S1x256x256 .fp8e4m3) (v77 : Vec F S1x1 .f32) (v79 : Vec F S1x1 .f32) (v84 : Vec F S1x256 .f32) (v89 : Vec F S1x1 .f32) (v98 : Vec F S1x256x256 .fp8e4m3) (v101 : Vec F S1x1 .f32) (v103 : Vec F S1x1 .f32) (n : Fin 454650) (o : Fin 256) :
    k0_pay9 v70 v71 v74 v77 v79 v84 v89 v98 v101 v103 (ix2 n o) =
      (∑ x, layer (fun x => min (v71 (ix2 n x)) (v70 (ix2 n x))) (fun x o => v74 (ix3 0 x o)) (v77 (ix2 0 0)) (v79 (ix2 0 0)) (fun o => v84 (ix2 0 o)) (v89 (ix2 0 0)) x * v98 (ix3 0 x o)) * (v101 (ix2 0 0) * v103 (ix2 0 0)) := by
  pointwise [k0_pay9, k0_pay3, k0_pay5]
  rfl

theorem pay10_at (v107 : FVec F S454650x256 .f32) (v108 : Vec F S1x256 .f32) (v113 : Vec F S1x1 .f32) (v122 : Vec F S1x256x256 .fp8e4m3) (v125 : Vec F S1x1 .f32) (v127 : Vec F S1x1 .f32) (v132 : Vec F S1x256 .f32) (v137 : Vec F S1x1 .f32) (n : Fin 454650) (o : Fin 256) :
    k0_pay10 v107 v108 v113 v122 v125 v127 v132 v137 (ix2 n o) =
      layer (fun x => quant (max (v107 (ix2 n x) + v108 (ix2 0 x)) 0) (v113 (ix2 0 0))) (fun x o => v122 (ix3 0 x o)) (v125 (ix2 0 0)) (v127 (ix2 0 0)) (fun o => v132 (ix2 0 o)) (v137 (ix2 0 0)) o := by
  pointwise [k0_pay10, k0_pay3, k0_pay5]
  rfl

theorem pay11_at (v22 : FVec F S454650x63 .fp8e4m3) (v145 : FVec F S454650x256 .fp8e4m3) (v146 : Vec F S1x256x256 .fp8e4m3) (v149 : Vec F S1x1 .f32) (v151 : Vec F S1x1 .f32) (v156 : Vec F S1x256 .f32) (v159 : Vec F S63x256 .fp8e4m3) (v161 : Vec F S1x1 .f32) (v163 : Vec F S1x1 .f32) (v171 : Vec F S1x1 .f32) (n : Fin 454650) (o : Fin 256) :
    k0_pay11 v22 v145 v146 v149 v151 v156 v159 v161 v163 v171 (ix2 n o) =
      skip (fun x => v145 (ix2 n x)) (fun x o => v146 (ix3 0 x o)) (v149 (ix2 0 0)) (v151 (ix2 0 0)) (fun o => v156 (ix2 0 o)) (fun x => v22 (ix2 n x)) (fun x o => v159 (ix2 x o)) (v161 (ix2 0 0)) (v163 (ix2 0 0)) (v171 (ix2 0 0)) o := by
  pointwise [k0_pay11, k0_pay3, k0_pay5]
  rfl

theorem pay12_at (v180 : Vec F S1x256x256 .fp8e4m3) (n : Fin 256) (o : Fin 256) :
    k0_pay12 v180 (ix2 n o) =
      v180 (ix3 0 n o) := by
  pointwise [k0_pay12, k0_pay3, k0_pay5]

theorem pay13_at (v179 : FVec F S454650x256 .fp8e4m3) (v181 : FVec F S256x256 .fp8e4m3) (v183 : Vec F S1x1 .f32) (v185 : Vec F S1x1 .f32) (v190 : Vec F S1x256 .f32) (v195 : Vec F S1x1 .f32) (v204 : Vec F S1x256x256 .fp8e4m3) (v207 : Vec F S1x1 .f32) (v209 : Vec F S1x1 .f32) (v214 : Vec F S1x256 .f32) (n : Fin 454650) (o : Fin 256) :
    k0_pay13 v179 v181 v183 v185 v190 v195 v204 v207 v209 v214 (ix2 n o) =
      max ((∑ x, layer (fun x => v179 (ix2 n x)) (fun x o => v181 (ix2 x o)) (v183 (ix2 0 0)) (v185 (ix2 0 0)) (fun o => v190 (ix2 0 o)) (v195 (ix2 0 0)) x * v204 (ix3 0 x o)) * (v207 (ix2 0 0) * v209 (ix2 0 0)) + v214 (ix2 0 o)) 0 := by
  pointwise [k0_pay13, k0_pay3, k0_pay5]
  rfl

/-- The four layers after the first. -/
theorem four_at (v35 : FVec F S454650x256 .f32) (v38 : Vec F S1x1 .f32) (v50 : Vec F S1x256x256 .fp8e4m3) (v53 : Vec F S1x1 .f32) (v55 : Vec F S1x1 .f32) (v60 : Vec F S1x256 .f32) (v65 : Vec F S1x1 .f32) (v74 : Vec F S1x256x256 .fp8e4m3) (v77 : Vec F S1x1 .f32) (v79 : Vec F S1x1 .f32) (v84 : Vec F S1x256 .f32) (v89 : Vec F S1x1 .f32) (v98 : Vec F S1x256x256 .fp8e4m3) (v101 : Vec F S1x1 .f32) (v103 : Vec F S1x1 .f32) (v108 : Vec F S1x256 .f32) (v113 : Vec F S1x1 .f32) (v122 : Vec F S1x256x256 .fp8e4m3) (v125 : Vec F S1x1 .f32) (v127 : Vec F S1x1 .f32) (v132 : Vec F S1x256 .f32) (v137 : Vec F S1x1 .f32) (n : Fin 454650) (o : Fin 256) :
    k0_pay10 (k0_pay9 (k0_pay7 v35 v38 v50 v53 v55 v60 v65) k0_pay8 v74 v77 v79 v84 v89 v98 v101 v103) v108 v113 v122 v125 v127 v132 v137 (ix2 n o) =
      layer (layer (layer (layer (fun x => quant (max (v35 (ix2 n x)) 0) (v38 (ix2 0 0))) (fun x o => v50 (ix3 0 x o)) (v53 (ix2 0 0)) (v55 (ix2 0 0)) (fun o => v60 (ix2 0 o)) (v65 (ix2 0 0))) (fun x o => v74 (ix3 0 x o)) (v77 (ix2 0 0)) (v79 (ix2 0 0)) (fun o => v84 (ix2 0 o)) (v89 (ix2 0 0))) (fun x o => v98 (ix3 0 x o)) (v101 (ix2 0 0)) (v103 (ix2 0 0)) (fun o => v108 (ix2 0 o)) (v113 (ix2 0 0))) (fun x o => v122 (ix3 0 x o)) (v125 (ix2 0 0)) (v127 (ix2 0 0)) (fun o => v132 (ix2 0 o)) (v137 (ix2 0 0)) o := by
  rw [pay10_at]
  simp only [pay9_at, pay8_at, pay7_at]
  rfl

/-- The first layer. -/
theorem first_at (v12 : Vec F S454650x63 .f32) (v14 : Vec F S1x1 .f32) (v23 : Vec F S63x256 .fp8e4m3) (v25 : Vec F S1x1 .f32) (v27 : Vec F S1x1 .f32) (v32 : Vec F S1x256 .f32) (a : EReal) (n : Fin 454650) (o : Fin 256) :
    quant (max (k0_pay4 v12 v14 v23 v25 v27 v32 (ix2 n o)) 0) a =
      layer (fun x => quant (v12 (ix2 n x)) (v14 (ix2 0 0))) (fun x o => v23 (ix2 x o)) (v25 (ix2 0 0)) (v27 (ix2 0 0)) (fun o => v32 (ix2 0 o)) a o := by
  rw [pay4_at]; rfl

/-- The last two layers. -/
theorem two_at (v179 : FVec F S454650x256 .fp8e4m3) (v181 : FVec F S256x256 .fp8e4m3) (v183 : Vec F S1x1 .f32) (v185 : Vec F S1x1 .f32) (v190 : Vec F S1x256 .f32) (v195 : Vec F S1x1 .f32) (v204 : Vec F S1x256x256 .fp8e4m3) (v207 : Vec F S1x1 .f32) (v209 : Vec F S1x1 .f32) (v214 : Vec F S1x256 .f32) (a : EReal) (n : Fin 454650) (o : Fin 256) :
    quant (k0_pay13 v179 v181 v183 v185 v190 v195 v204 v207 v209 v214 (ix2 n o)) a =
      layer (layer (fun x => v179 (ix2 n x)) (fun x o => v181 (ix2 x o)) (v183 (ix2 0 0)) (v185 (ix2 0 0)) (fun o => v190 (ix2 0 o)) (v195 (ix2 0 0)))
        (fun x o => v204 (ix3 0 x o)) (v207 (ix2 0 0)) (v209 (ix2 0 0)) (fun o => v214 (ix2 0 o)) a o := by
  rw [pay13_at]; rfl

/-! ## Reading a row or a number out of a block -/

theorem ld12 (x : Vec F S1x12 .f32) (k : Nat) (hk : k < 12) (inb) :
    View.ld x (Rect.unit (s := S1x12) ![0, k] (no_index S1x1.size) inb) (ix2 0 0) = x (ix2 0 ⟨k, hk⟩) :=
  View.ld_unit_apply_of x _ _ inb _ _ fun a => by
    match a with
    | ⟨0, _⟩ => rfl
    | ⟨1, _⟩ => rfl

theorem ld13 (x : Vec F S1x13 .f32) (k : Nat) (hk : k < 13) (inb) :
    View.ld x (Rect.unit (s := S1x13) ![0, k] (no_index S1x1.size) inb) (ix2 0 0) = x (ix2 0 ⟨k, hk⟩) :=
  View.ld_unit_apply_of x _ _ inb _ _ fun a => by
    match a with
    | ⟨0, _⟩ => rfl
    | ⟨1, _⟩ => rfl

theorem ldrow (x : Vec F S7x256 .f32) (l : Nat) (hl : l < 7) (inb) (o : Fin 256) :
    View.ld x (Rect.unit (s := S7x256) ![l, 0] (no_index S1x256.size) inb) (ix2 0 o) = x (ix2 ⟨l, hl⟩ o) :=
  View.ld_unit_apply_of x _ _ inb _ _ fun a => by
    match a with
    | ⟨0, _⟩ => rfl
    | ⟨1, _⟩ => exact (Nat.zero_add _).symm

theorem ldslab (x : Vec F S7x256x256 .fp8e4m3) (l : Nat) (hl : l < 7) (inb) (i o : Fin 256) :
    View.ld x (Rect.unit (s := S7x256x256) ![l, 0, 0] (no_index S1x256x256.size) inb) (ix3 0 i o) = x (ix3 ⟨l, hl⟩ i o) :=
  View.ld_unit_apply_of x _ _ inb _ _ fun a => by
    match a with
    | ⟨0, _⟩ => rfl
    | ⟨1, _⟩ => exact (Nat.zero_add _).symm
    | ⟨2, _⟩ => exact (Nat.zero_add _).symm

theorem slab_eq (x : Vec F S7x256x256 .fp8e4m3) (l : Nat) (hl : l < 7) (inb) :
    (fun i o => View.ld x (Rect.unit (s := S7x256x256) ![l, 0, 0] S1x256x256.size inb) (ix3 0 i o)) = fun (i o : Fin 256) => x (ix3 ⟨l, hl⟩ i o) :=
  funext fun i => funext fun o => ldslab x l hl inb i o

theorem row_eq (x : Vec F S7x256 .f32) (l : Nat) (hl : l < 7) (inb) :
    (fun o => View.ld x (Rect.unit (s := S7x256) ![l, 0] S1x256.size inb) (ix2 0 o)) = fun (o : Fin 256) => x (ix2 ⟨l, hl⟩ o) :=
  funext fun o => ldrow x l hl inb o

/-- The network's numbers, from the blocks that hold them. -/
def numsOf (x2 : Vec F S63x256 .fp8e4m3) (x3 : Vec F S7x256x256 .fp8e4m3) (x4 : Vec F S63x256 .fp8e4m3) (x5 : Vec F S256x257 .fp8e4m3)
    (x6 : Vec F S1x13 .f32) (x7 : Vec F S1x256 .f32) (x8 : Vec F S7x256 .f32) (x9 : Vec F S1x257 .f32) (x10 : Vec F S1x12 .f32) : Nums where
  w0 j o := x2 (ix2 j o)
  wk j o := x4 (ix2 j o)
  w l i o := x3 (ix3 l i o)
  wd i := x5 (ix2 i 256)
  s k := x6 (ix2 0 k)
  b0 o := x7 (ix2 0 o)
  b l o := x8 (ix2 l o)
  bd := x9 (ix2 0 256)
  a k := x10 (ix2 0 k)

section
variable (x0 : Vec F S454650x63 .f32) (x1 : Vec F S63x454650 .f32) (x2 : Vec F S63x256 .fp8e4m3) (x3 : Vec F S7x256x256 .fp8e4m3)
  (x4 : Vec F S63x256 .fp8e4m3) (x5 : Vec F S256x257 .fp8e4m3) (x6 : Vec F S1x13 .f32) (x7 : Vec F S1x256 .f32) (x8 : Vec F S7x256 .f32)
  (x9 : Vec F S1x257 .f32) (x10 : Vec F S1x12 .f32)

theorem out12_at (n : Fin 454656) (o : Fin 256) (hn : n.val < 454650) :
    out0_12 x0 x1 x2 x3 x4 x5 x6 x7 x8 x9 x10 (ix2 n o) =
      (numsOf x2 x3 x4 x5 x6 x7 x8 x9 x10).first (fun j => quant (x0 (ix2 ⟨n.val, hn⟩ j)) (x10 (ix2 0 0))) o := by
  unfold out0_12 k0_pay14
  frame_out
  rw [pay6_at, dif_pos hn, pay4_at, ld12 x10 0 (by decide), ld12 x10 1 (by decide), ld13 x6 0 (by decide)]
  rfl

theorem out13_at (n : Fin 454650) :
    out0_13 x0 x1 x2 x3 x4 x5 x6 x7 x8 x9 x10 (ix1 n) =
      (numsOf x2 x3 x4 x5 x6 x7 x8 x9 x10).sigma (fun j => quant (x0 (ix2 n j)) (x10 (ix2 0 0))) := by
  unfold out0_13 k0_pay14
  frame_out
  rw [pay1_at]
  simp only [two_at, pay12_at, pay11_at, four_at, first_at, pay3_at]
  rw [ld12 x10 0 (by decide)]
  exact ((numsOf x2 x3 x4 x5 x6 x7 x8 x9 x10).sigma_of _ rfl rfl rfl rfl rfl
    rfl (ld12 x10 1 (by decide) _) (ld12 x10 2 (by decide) _) (ld12 x10 3 (by decide) _) (ld12 x10 4 (by decide) _)
    (ld12 x10 5 (by decide) _) (ld12 x10 6 (by decide) _) (ld12 x10 7 (by decide) _) (ld12 x10 8 (by decide) _)
    (ld13 x6 0 (by decide) _) (ld13 x6 1 (by decide) _) (ld13 x6 2 (by decide) _) (ld13 x6 3 (by decide) _) (ld13 x6 4 (by decide) _)
    (ld13 x6 5 (by decide) _) (ld13 x6 6 (by decide) _) (ld13 x6 7 (by decide) _) (ld13 x6 8 (by decide) _) (ld13 x6 9 (by decide) _)
    (slab_eq x3 0 (by decide) _) (slab_eq x3 1 (by decide) _) (slab_eq x3 2 (by decide) _) (slab_eq x3 3 (by decide) _)
    (slab_eq x3 4 (by decide) _) (slab_eq x3 5 (by decide) _) (slab_eq x3 6 (by decide) _)
    (row_eq x8 0 (by decide) _) (row_eq x8 1 (by decide) _) (row_eq x8 2 (by decide) _) (row_eq x8 3 (by decide) _)
    (row_eq x8 4 (by decide) _) (row_eq x8 5 (by decide) _) (row_eq x8 6 (by decide) _))
end

end Cert.ReferenceIdeal.Hand

end
-- ==== Proof.R.Run.lean ====
/-
  What a run of the reference leaves in its results.
-/
module

public import proofs.«01_k».proof.Proof.R.Layers

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Net

variable (m : (ℓ : Loc nD τ sig) → Buf (Elt Ideal) ℓ) (c : Dev nD)

/-- The network's numbers, from the arguments. -/
def nums : Nums where
  w0 j o := m ((c : Thread nD τ).loc main_arg5) (ix2 j o)
  wk j o := m ((c : Thread nD τ).loc main_arg7) (ix2 j o)
  w l i o := m ((c : Thread nD τ).loc main_arg6) (ix3 l i o)
  wd i := m ((c : Thread nD τ).loc main_arg8) (ix2 i 256)
  s k := m ((c : Thread nD τ).loc main_arg12) (ix1 k)
  b0 o := m ((c : Thread nD τ).loc main_arg13) (ix1 o)
  b l o := m ((c : Thread nD τ).loc main_arg14) (ix2 l o)
  bd := m ((c : Thread nD τ).loc main_arg15) (ix1 256)
  a k := m ((c : Thread nD τ).loc main_arg18) (ix1 k)

theorem v92_at (k : Fin 13) : (V m c main_v92 : FVec Ideal S1x13 .f32) (ix2 0 k) = (nums m c).s k := by
  unfold V; after_reads_at; rfl
theorem v93_at (k : Fin 256) : (V m c main_v93 : FVec Ideal S1x256 .f32) (ix2 0 k) = (nums m c).b0 k := by
  unfold V; after_reads_at; rfl
theorem v94_at (k : Fin 257) : (V m c main_v94 : FVec Ideal S1x257 .f32) (ix2 0 k) = m ((c : Thread nD τ).loc main_arg15) (ix1 k) := by
  unfold V; after_reads_at
theorem v95_at (k : Fin 12) : (V m c main_v95 : FVec Ideal S1x12 .f32) (ix2 0 k) = (nums m c).a k := by
  unfold V; after_reads_at; rfl
theorem v91_at (j : Fin 63) (n : Fin 454650) : (V m c main_v91 : FVec Ideal S63x454650 .f32) (ix2 j n) = enc (pos m c n) j := by
  rw [v91_eq]; pointwise []
  exact v90_at m c j n

theorem blk0 : (iblk m c 0 t0_0 : Vec Ideal S454650x63 .f32) = V m c main_v90 := by
  funext y; blk_ext [iblk, show ∀ a, win0_0.index t0_0 a = 0 from by decide +kernel]
theorem blk1 : (iblk m c 1 t0_0 : Vec Ideal S63x454650 .f32) = V m c main_v91 := by
  funext y; blk_ext [iblk, show ∀ a, win0_1.index t0_0 a = 0 from by decide +kernel]
theorem blk2 : (iblk m c 2 t0_0 : Vec Ideal S63x256 .fp8e4m3) = m ((c : Thread nD τ).loc main_arg5) := by
  funext y; blk_ext [iblk, show ∀ a, win0_2.index t0_0 a = 0 from by decide +kernel]
theorem blk3 : (iblk m c 3 t0_0 : Vec Ideal S7x256x256 .fp8e4m3) = m ((c : Thread nD τ).loc main_arg6) := by
  funext y; blk_ext [iblk, show ∀ a, win0_3.index t0_0 a = 0 from by decide +kernel]
theorem blk4 : (iblk m c 4 t0_0 : Vec Ideal S63x256 .fp8e4m3) = m ((c : Thread nD τ).loc main_arg7) := by
  funext y; blk_ext [iblk, show ∀ a, win0_4.index t0_0 a = 0 from by decide +kernel]
theorem blk5 : (iblk m c 5 t0_0 : Vec Ideal S256x257 .fp8e4m3) = m ((c : Thread nD τ).loc main_arg8) := by
  funext y; blk_ext [iblk, show ∀ a, win0_5.index t0_0 a = 0 from by decide +kernel]
theorem blk6 : (iblk m c 6 t0_0 : Vec Ideal S1x13 .f32) = V m c main_v92 := by
  funext y; blk_ext [iblk, show ∀ a, win0_6.index t0_0 a = 0 from by decide +kernel]
theorem blk7 : (iblk m c 7 t0_0 : Vec Ideal S1x256 .f32) = V m c main_v93 := by
  funext y; blk_ext [iblk, show ∀ a, win0_7.index t0_0 a = 0 from by decide +kernel]
theorem blk8 : (iblk m c 8 t0_0 : Vec Ideal S7x256 .f32) = m ((c : Thread nD τ).loc main_arg14) := by
  funext y; blk_ext [iblk, show ∀ a, win0_8.index t0_0 a = 0 from by decide +kernel]
theorem blk9 : (iblk m c 9 t0_0 : Vec Ideal S1x257 .f32) = V m c main_v94 := by
  funext y; blk_ext [iblk, show ∀ a, win0_9.index t0_0 a = 0 from by decide +kernel]
theorem blk10 : (iblk m c 10 t0_0 : Vec Ideal S1x12 .f32) = V m c main_v95 := by
  funext y; blk_ext [iblk, show ∀ a, win0_10.index t0_0 a = 0 from by decide +kernel]

/-- The blocks' numbers are the arguments'. -/
theorem nums_eq : numsOf (m ((c : Thread nD τ).loc main_arg5)) (m ((c : Thread nD τ).loc main_arg6)) (m ((c : Thread nD τ).loc main_arg7))
    (m ((c : Thread nD τ).loc main_arg8)) (V m c main_v92) (V m c main_v93) (m ((c : Thread nD τ).loc main_arg14)) (V m c main_v94)
    (V m c main_v95) = nums m c := by
  have e1 := funext (v92_at m c)
  have e2 := funext (v93_at m c)
  have e3 := v94_at m c 256
  have e4 := funext (v95_at m c)
  unfold numsOf
  rw [e1, e2, e3, e4]
  rfl

theorem codes_final (j : Fin 63) (n : Fin 454650) : (dats m 0 c).arrAt 11 cfg0.N (ix2 j n) = (nums m c).code (pos m c n) j := by
  have h : (dats m 0 c).arrAt 11 cfg0.N = k0_pay2 (V m c main_v91) (View.ld (V m c main_v95) r0_1) := by
    refine (dats m 0 c).arrAt_eq_of_after_last 11 t0_0 (by decide +kernel) _ fun y => ?_
    blk_simp; rw [after0_11]; frame_out
    rw [blk1, blk10]
    blk_ext [show ∀ a, win0_11.index t0_0 a = 0 from by decide +kernel]
  rw [h, pay2_at, ld12 _ 0 (by decide), v91_at]
  exact congrArg _ (v95_at m c 0)

theorem first_final (n : Fin 454656) (o : Fin 256) (hn : n.val < 454650) :
    (dats m 0 c).arrAt 12 cfg0.N (ix2 n o) = (nums m c).first ((nums m c).code (pos m c ⟨n.val, hn⟩)) o := by
  have h : (dats m 0 c).arrAt 12 cfg0.N = out0_12 (V m c main_v90) (V m c main_v91) (m ((c : Thread nD τ).loc main_arg5))
      (m ((c : Thread nD τ).loc main_arg6)) (m ((c : Thread nD τ).loc main_arg7)) (m ((c : Thread nD τ).loc main_arg8)) (V m c main_v92)
      (V m c main_v93) (m ((c : Thread nD τ).loc main_arg14)) (V m c main_v94) (V m c main_v95) := by
    refine (dats m 0 c).arrAt_eq_of_after_last 12 t0_0 (by decide +kernel) _ fun y => ?_
    blk_simp; rw [after0_12]
    rw [blk0, blk1, blk2, blk3, blk4, blk5, blk6, blk7, blk8, blk9, blk10]
    blk_ext [show ∀ a, win0_12.index t0_0 a = 0 from by decide +kernel]
  rw [h, out12_at _ _ _ _ _ _ _ _ _ _ _ n o hn, nums_eq]
  refine congrArg (fun e => (nums m c).first e o) (funext fun j => ?_)
  rw [v90_at, v95_at]; rfl

theorem sigma_final (n : Fin 454650) :
    (dats m 0 c).arrAt 13 cfg0.N (ix1 n) = (nums m c).sigma ((nums m c).code (pos m c n)) := by
  have h : (dats m 0 c).arrAt 13 cfg0.N = out0_13 (V m c main_v90) (V m c main_v91) (m ((c : Thread nD τ).loc main_arg5))
      (m ((c : Thread nD τ).loc main_arg6)) (m ((c : Thread nD τ).loc main_arg7)) (m ((c : Thread nD τ).loc main_arg8)) (V m c main_v92)
      (V m c main_v93) (m ((c : Thread nD τ).loc main_arg14)) (V m c main_v94) (V m c main_v95) := by
    refine (dats m 0 c).arrAt_eq_of_after_last 13 t0_0 (by decide +kernel) _ fun y => ?_
    blk_simp; rw [after0_13]
    rw [blk0, blk1, blk2, blk3, blk4, blk5, blk6, blk7, blk8, blk9, blk10]
    blk_ext [show ∀ a, win0_13.index t0_0 a = 0 from by decide +kernel]
  rw [h, out13_at, nums_eq]
  refine congrArg (nums m c).sigma (funext fun j => ?_)
  rw [v90_at, v95_at]; rfl

end Cert.ReferenceIdeal.Hand

end
-- ==== Proof.R.Values.lean ====
/-
  A run of the reference: what it leaves in the claimed results, and the arguments kept.
-/
module

public import proofs.«01_k».proof.Proof.R.Run
public import proofs.«01_k».proof.Proof.Gen.ReferenceIdeal.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Idealize.SL.Sem
open Cert.Net

variable (m : (ℓ : Loc nD τ sig) → Buf (Elt Ideal) ℓ) (ρ : Dev nD → PrngReg)

/-- What a run leaves in the claimed results. -/
structure Values (r : PUnit × MemSt nD τ sig (Elt Ideal)) (c : Dev nD) : Prop where
  sigma (n : Fin 454650) : (r.2.mem ((c.tc : Thread nD τ).loc main_v96_2) : Vec Ideal S454650 .f32) (ix1 n) = (nums m c).sigma ((nums m c).code (pos m c n))
  code (j : Fin 63) (n : Fin 454650) :
    (r.2.mem ((c.tc : Thread nD τ).loc main_v96_0) : Vec Ideal S63x454650 .fp8e4m3) (ix2 j n) = (nums m c).code (pos m c n) j
  first (n : Fin 454656) (o : Fin 256) (hn : n.val < 454650) :
    (r.2.mem ((c.tc : Thread nD τ).loc main_v96_1) : Vec Ideal S454656x256 .fp8e4m3) (ix2 n o) = (nums m c).first ((nums m c).code (pos m c ⟨n.val, hn⟩)) o
  phase (j : Fin 30) (n : Fin 454650) :
    (r.2.mem ((c.tc : Thread nD τ).loc main_v25) : Vec Ideal S30x454650 .f32) (ix2 j n) = phase (pos m c n ⟨j.val % 3, Nat.mod_lt _ (by decide)⟩) (j.val / 3)

/-- The arguments as a run leaves them are the arguments it began with. -/
abbrev Kept (r : PUnit × MemSt nD τ sig (Elt Ideal)) (c : Dev nD) : Prop :=
  r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18)

theorem values_of {r : PUnit × MemSt nD τ sig (Elt Ideal)} (h : Pipeline.FramePost cfgs (dats m) 0 (V m) r) (c : Dev nD) : Values m r c where
  sigma n := (congrFun (post13 m r h c) (ix1 n)).trans (sigma_final m c n)
  code j n := (congrFun (post11 m r h c) (ix2 j n)).trans (codes_final m c j n)
  first n o hn := (congrFun (post12 m r h c) (ix2 n o)).trans (first_final m c n o hn)
  phase j n := (congrFun ((h c).2 main_v25 (Pipeline.mem_restRefs_of main_v25 (by decide) (by decide))) (ix2 j n)).trans (v25_at m c j n)

/-- Every run leaves the claimed results, with the arguments kept. -/
theorem run_values : θ_run defs (onTc (τ := τ) (main (F := Ideal))) ⟨m, fun _ => 0, ρ⟩ (fun r => ∀ c : Dev nD, Values m r c ∧ Kept m r c) :=
  (θ_run defs _ _).mono (fun r h c => ⟨values_of m h c, kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c⟩) (run_main m ρ)

end Cert.ReferenceIdeal.Hand

end
-- ==== Proof.Both.Same.lean ====
/-
  The value claim: the densities, the encodings' codes, the first layer's codes and the phases are the reference's.
-/
module

public import proofs.«01_k».proof.Defs
public import proofs.«01_k».proof.Proof.Pre.Scales
public import proofs.«01_k».proof.Proof.K.Value
public import proofs.«01_k».proof.Proof.R.Values
public import proofs.«01_k».proof.Proof.Gen.ReferenceIdeal
public import proofs.«01_k».proof.Proof.Gen.KernelIdeal

@[expose] public section

set_option maxRecDepth 16384

noncomputable section

namespace Cert.Proof

open Idealize.ShloMosaic Idealize.ShloMosaic.TcCoe Idealize.SL.Sem
open Cert.Net

theorem eta1 {n : Nat} (i : (⟨1, ![n]⟩ : Shape).Idx) : i = ix1 (i 0) := funext fun a => by match a with | 0 => rfl
theorem eta2 {n k : Nat} (i : (⟨2, ![n, k]⟩ : Shape).Idx) : i = ix2 (i 0) (i 1) := funext fun a => by match a with | 0 => rfl | 1 => rfl

/-- The first layer's codes at a row that a sample has. -/
def rows (m : (ℓ : Loc Cert.KernelIdeal.nD Cert.KernelIdeal.τ Cert.KernelIdeal.sig) → Buf (Elt Ideal) ℓ) (c : Dev Cert.KernelIdeal.nD) (n : Fin 454656) (o : Fin 256) : EReal :=
  if h : n.val < 454650 then
    (Cert.KernelIdeal.Hand.nums m c).first ((Cert.KernelIdeal.Hand.nums m c).code (Cert.KernelIdeal.Hand.pos m c ⟨n.val, h⟩)) o else 0

theorem rows_of (m : (ℓ : Loc Cert.KernelIdeal.nD Cert.KernelIdeal.τ Cert.KernelIdeal.sig) → Buf (Elt Ideal) ℓ) (c : Dev Cert.KernelIdeal.nD) (n : Fin 454656) (o : Fin 256) (h : n.val < 454650) :
    rows m c n o = (Cert.KernelIdeal.Hand.nums m c).first ((Cert.KernelIdeal.Hand.nums m c).code (Cert.KernelIdeal.Hand.pos m c ⟨n.val, h⟩)) o := by
  unfold rows
  rw [dif_pos h]

theorem algebraic : Cert.algebraic_KernelIdeal_ReferenceIdeal_on_claimed_pre_ids_and_scales := by
  intro m g m' g' hp hE
  have hI : Cert.KernelIdeal.Hand.Ids m := fun c j => (Cert.Pre.scale_facts (hp c)).1 j
  have hW : ∀ c, (Cert.KernelIdeal.Hand.nums m c).Scaled := fun c => ⟨(Cert.Pre.scale_facts (hp c)).2.1, (Cert.Pre.scale_facts (hp c)).2.2⟩
  have hN : ∀ c, Cert.ReferenceIdeal.Hand.nums m' c = Cert.KernelIdeal.Hand.nums m c := by
    intro c
    obtain ⟨h0, h1, h2, h3, h4, h5, h6, h7, h8, h9, h10, h11, h12, h13, h14, h15, h16, h17, h18⟩ := hE c
    unfold Cert.ReferenceIdeal.Hand.nums Cert.KernelIdeal.Hand.nums
    rw [h5, h6, h7, h8, h12, h13, h14, h15, h18]
  have hX : ∀ c, Cert.ReferenceIdeal.Hand.pos m' c = Cert.KernelIdeal.Hand.pos m c := by
    intro c
    have h0 := (hE c).1
    unfold Cert.ReferenceIdeal.Hand.pos Cert.KernelIdeal.Hand.pos
    rw [h0]
  refine ⟨fun c => m ((c.tc : Thread Cert.KernelIdeal.nD Cert.KernelIdeal.τ).loc Cert.KernelIdeal.main_v185_0),
    fun c i => (Cert.KernelIdeal.Hand.nums m c).sigma ((Cert.KernelIdeal.Hand.nums m c).code (Cert.KernelIdeal.Hand.pos m c (i 0))),
    fun c => m ((c.tc : Thread Cert.KernelIdeal.nD Cert.KernelIdeal.τ).loc Cert.KernelIdeal.main_v185_2),
    fun c => m ((c.tc : Thread Cert.KernelIdeal.nD Cert.KernelIdeal.τ).loc Cert.KernelIdeal.main_v185_3),
    fun c i => (Cert.KernelIdeal.Hand.nums m c).code (Cert.KernelIdeal.Hand.pos m c (i 1)) (i 0),
    fun c i => rows m c (i 0) (i 1),
    fun c i => phase (Cert.KernelIdeal.Hand.pos m c (i 1) ⟨(i 0).val % 3, Nat.mod_lt _ (by decide)⟩) ((i 0).val / 3),
    fun c => m ((c.tc : Thread Cert.KernelIdeal.nD Cert.KernelIdeal.τ).loc Cert.KernelIdeal.main_v185_7), ?_, ?_⟩
  · refine (θ_run _ _ _).mono (fun r h c => ?_) (Cert.KernelIdeal.Hand.run_values m g hI hW)
    obtain ⟨hv, hk⟩ := h c
    refine ⟨fun i e => absurd (show (0#1 : BitVec 1) = 1#1 from e) (by decide), fun i _ => ?_, fun i e => absurd (show (0#1 : BitVec 1) = 1#1 from e) (by decide),
      fun i e => absurd (show (0#1 : BitVec 1) = 1#1 from e) (by decide), fun i _ => ?_, fun i e => ?_, fun i _ => ?_,
      fun i e => absurd (show (0#1 : BitVec 1) = 1#1 from e) (by decide), hk⟩
    · rw [eta1 i]; exact hv.sigma (i 0)
    · rw [eta2 i]; exact hv.code (i 0) (i 1)
    · rw [eta2 i] at e ⊢
      have hn := Cert.Pre.claimed_rows _ _ e
      exact (hv.first (i 0) (i 1) hn).trans (rows_of m c (i 0) (i 1) hn).symm
    · rw [eta2 i]; exact hv.phase (i 0) (i 1)
  · refine (θ_run _ _ _).mono (fun r h c => ?_) (Cert.ReferenceIdeal.Hand.run_values m' g')
    obtain ⟨⟨hs, hc, hf, hph⟩, hk⟩ := h c
    rw [hN c, hX c] at hs hc hf
    rw [hX c] at hph
    refine ⟨fun i e => absurd (show (0#1 : BitVec 1) = 1#1 from e) (by decide), fun i _ => ?_, fun i e => absurd (show (0#1 : BitVec 1) = 1#1 from e) (by decide),
      fun i e => absurd (show (0#1 : BitVec 1) = 1#1 from e) (by decide), fun i _ => ?_, fun i e => ?_, fun i _ => ?_,
      fun i e => absurd (show (0#1 : BitVec 1) = 1#1 from e) (by decide), hk⟩
    · rw [eta1 i]; exact hs (i 0)
    · rw [eta2 i]; exact hc (i 0) (i 1)
    · rw [eta2 i] at e ⊢
      have hn := Cert.Pre.claimed_rows _ _ e
      exact (hf (i 0) (i 1) hn).trans (rows_of m c (i 0) (i 1) hn).symm
    · rw [eta2 i]; exact hph (i 0) (i 1)

end Cert.Proof

end
-- ==== Proof.lean ====
/-
  The claims of this certificate. The frames of the two kernel programs are `Frame.lean` under `K/` (over the extended
  reals) and `B/` (at the machine's words); the value claim is `Same.lean` under `Both/`.
-/
module

public import proofs.«01_k».proof.Defs
public import proofs.«01_k».proof.Proof.Gen.Pre_ids_name_rays
public import proofs.«01_k».proof.Proof.Gen.ReferenceIdeal
public import proofs.«01_k».proof.Proof.Gen.ReferenceIdeal.Frame
public import proofs.«01_k».proof.Proof.Gen.Kernel
public import proofs.«01_k».proof.Proof.Gen.KernelIdeal
public import proofs.«01_k».proof.Proof.Pre.Ids
public import proofs.«01_k».proof.Proof.K.Frame
public import proofs.«01_k».proof.Proof.B.Frame
public import proofs.«01_k».proof.Proof.Pre.Scales
public import proofs.«01_k».proof.Proof.Both.Same
public import proofs.«01_k».proof.Proof.Gen.Pre_ids_and_scales
public import proofs.«01_k».proof.Proof.Gen.On_claimed
public import Idealize.ShloMosaic.Adequacy
public import Idealize.ShloMosaic.Init

@[expose] public section

noncomputable section

namespace Cert.Proof

open Idealize.ShloMosaic Idealize.SL.Sem

/-- The kernel program's frame, at the machine's words. -/
theorem kernel : Cert.quiescent_Kernel :=
  fun m g h => Cert.Kernel.Hand.run_kept m g fun c j => Cert.Pre.ids (h c) j

/-- The same over the extended reals. -/
theorem kernelIdeal : Cert.quiescent_KernelIdeal :=
  fun m g h => Cert.KernelIdeal.Hand.run_kept m g fun c j => Cert.Pre.ids (h c) j

/-- The same from the value claim's precondition. -/
theorem kernelIdeal_scales : Cert.quiescent_KernelIdeal_pre_ids_and_scales :=
  fun m g h => Cert.KernelIdeal.Hand.run_kept m g fun c j => (Cert.Pre.scale_facts (h c)).1 j

/-- The reference's frame. -/
theorem referenceIdeal : Cert.quiescent_ReferenceIdeal :=
  fun m g _ => Cert.ReferenceIdeal.Gen.frame m g

/-- The same from the value claim's precondition. -/
theorem referenceIdeal_scales : Cert.quiescent_ReferenceIdeal_pre_ids_and_scales :=
  fun m g _ => Cert.ReferenceIdeal.Gen.frame m g

theorem claim : Cert.Claim :=
  ⟨Cert.Kernel.Gen.facts, Cert.KernelIdeal.Gen.facts, Cert.ReferenceIdeal.Gen.facts, Cert.Pre_ids_name_rays.Gen.facts, Cert.Pre_ids_and_scales.Gen.facts,
    Cert.On_claimed.Gen.facts, kernel, kernelIdeal, kernelIdeal_scales, referenceIdeal, referenceIdeal_scales, trivial, algebraic⟩

end Cert.Proof

end
